-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v58) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v122) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v73)) (v1 : (c : Dev Cert.Kernel4Ideal.nD) → Buf (Elt Ideal) ((c.tc : Thread Cert.Kernel4Ideal.nD Cert.Kernel4Ideal.τ).loc Cert.Kernel4Ideal.main_v74)) (v2 : (c : Dev Cert.Kernel4Ideal.nD) → Buf (Elt Ideal) ((c.tc : Thread Cert.Kernel4Ideal.nD Cert.Kernel4Ideal.τ).loc Cert.Kernel4Ideal.main_v75)) (v3 : (c : Dev Cert.Kernel4Ideal.nD) → Buf (Elt Ideal) ((c.tc : Thread Cert.Kernel4Ideal.nD Cert.Kernel4Ideal.τ).loc Cert.Kernel4Ideal.main_v76)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v73) = v0 c
          ∧ r.2.mem ((c.tc : Thread Cert.Kernel4Ideal.nD Cert.Kernel4Ideal.τ).loc Cert.Kernel4Ideal.main_v74) = v1 c
          ∧ r.2.mem ((c.tc : Thread Cert.Kernel4Ideal.nD Cert.Kernel4Ideal.τ).loc Cert.Kernel4Ideal.main_v75) = v2 c
          ∧ r.2.mem ((c.tc : Thread Cert.Kernel4Ideal.nD Cert.Kernel4Ideal.τ).loc Cert.Kernel4Ideal.main_v76) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v76) = v0 c
          ∧ r.2.mem ((c.tc : Thread Cert.Reference4Ideal.nD Cert.Reference4Ideal.τ).loc Cert.Reference4Ideal.main_v79) = v1 c
          ∧ r.2.mem ((c.tc : Thread Cert.Reference4Ideal.nD Cert.Reference4Ideal.τ).loc Cert.Reference4Ideal.main_v85) = v2 c
          ∧ r.2.mem ((c.tc : Thread Cert.Reference4Ideal.nD Cert.Reference4Ideal.τ).loc Cert.Reference4Ideal.main_v94) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_qk.lean ====
abbrev S8x4096x8x64 : Shape := ⟨4, ![8, 4096, 8, 64]⟩
abbrev S8x4352x2x64 : Shape := ⟨4, ![8, 4352, 2, 64]⟩
abbrev S_ : Shape := ⟨0, ![]⟩

class Facts : Prop where
  bcast_S_S8x4096x8x64 : S_.BroadcastsInDim S8x4096x8x64 (![] : Fin 0 → Fin S8x4096x8x64.rank)
  reducesTo_S8x4096x8x64_S_d0_1_2_3 : S8x4096x8x64.ReducesTo [0, 1, 2, 3] S_
  h_S_ : 0 < S_.numel
  bcast_S_S8x4352x2x64 : S_.BroadcastsInDim S8x4352x2x64 (![] : Fin 0 → Fin S8x4352x2x64.rank)
  reducesTo_S8x4352x2x64_S_d0_1_2_3 : S8x4352x2x64.ReducesTo [0, 1, 2, 3] S_

variable [Facts]

def fn {F : FTy → Type} [FloatOps F] (main_arg0 : FVec F S8x4096x8x64 .f32) (main_arg1 : FVec F S8x4352x2x64 .f32) (main_arg2 : FVec F S8x4352x2x64 .f32) : IVec S_ 1 :=
  let main_v0 : FVec F S8x4096x8x64 .f32 := Host.absf main_arg0
  let main_cst : FVec F S_ .f32 := constant S_ .f32 0x7F800000#32
  let main_v1 : FVec F S8x4096x8x64 .f32 := broadcastInDim S8x4096x8x64 ![] bcast_S_S8x4096x8x64 main_cst
  let main_v2 : IVec S8x4096x8x64 1 := cmpf .olt main_v0 main_v1
  let main_c : IVec S_ 1 := constantI S_ 1 1#1
  let main_v3 : IVec S_ 1 := (fun x v => Host.reduce IntOp.andi x v reducesTo_S8x4096x8x64_S_d0_1_2_3 h_S_) main_v2 main_c
  let main_v4 : FVec F S8x4352x2x64 .f32 := Host.absf main_arg1
  let main_cst_0 : FVec F S_ .f32 := constant S_ .f32 0x7F800000#32
  let main_v5 : FVec F S8x4352x2x64 .f32 := broadcastInDim S8x4352x2x64 ![] bcast_S_S8x4352x2x64 main_cst_0
  let main_v6 : IVec S8x4352x2x64 1 := cmpf .olt main_v4 main_v5
  let main_c_1 : IVec S_ 1 := constantI S_ 1 1#1
  let main_v7 : IVec S_ 1 := (fun x v => Host.reduce IntOp.andi x v reducesTo_S8x4352x2x64_S_d0_1_2_3 h_S_) main_v6 main_c_1
  let main_v8 : IVec S_ 1 := andi main_v3 main_v7
  main_v8
-- ==== Kernel.lean ====
abbrev S8x4096x8x64 : Shape := ⟨4, ![8, 4096, 8, 64]⟩
abbrev S8x4352x2x64 : Shape := ⟨4, ![8, 4352, 2, 64]⟩
abbrev S_ : Shape := ⟨0, ![]⟩
abbrev S8x4096x512 : Shape := ⟨3, ![8, 4096, 512]⟩
abbrev S8x256x512 : Shape := ⟨3, ![8, 256, 512]⟩
abbrev S8x4352x512 : Shape := ⟨3, ![8, 4352, 512]⟩
abbrev S8x4352x2x128 : Shape := ⟨4, ![8, 4352, 2, 128]⟩
abbrev S8x4352x256 : Shape := ⟨3, ![8, 4352, 256]⟩
abbrev S8x4352x2x1 : Shape := ⟨4, ![8, 4352, 2, 1]⟩
abbrev S8x4352x2x63 : Shape := ⟨4, ![8, 4352, 2, 63]⟩
abbrev S8x4096x1024 : Shape := ⟨3, ![8, 4096, 1024]⟩
abbrev S1x256x256 : Shape := ⟨3, ![1, 256, 256]⟩
abbrev S1x4352x128 : Shape := ⟨3, ![1, 4352, 128]⟩
abbrev S1x256x512 : Shape := ⟨3, ![1, 256, 512]⟩
abbrev S1024x4352 : Shape := ⟨2, ![1024, 4352]⟩
abbrev S1024x128 : Shape := ⟨2, ![1024, 128]⟩
abbrev S256x256 : Shape := ⟨2, ![256, 256]⟩
abbrev S256x128 : Shape := ⟨2, ![256, 128]⟩
abbrev S1x256x128 : Shape := ⟨3, ![1, 256, 128]⟩
abbrev S1024x256 : Shape := ⟨2, ![1024, 256]⟩
abbrev S1x1024x128 : Shape := ⟨3, ![1, 1024, 128]⟩
abbrev S1024x1024 : Shape := ⟨2, ![1024, 1024]⟩
abbrev S1024 : Shape := ⟨1, ![1024]⟩
abbrev S1024x1 : Shape := ⟨2, ![1024, 1]⟩
abbrev S8x4096x8x128 : Shape := ⟨4, ![8, 4096, 8, 128]⟩
abbrev S8x4096x8x1 : Shape := ⟨4, ![8, 4096, 8, 1]⟩

abbrev nBuf : Space → Nat
  | .hbm => 36
  | .vmem => 14
  | .smem => 0
  | _ => 0

abbrev bufTy : (tb : Table) → Fin (tcTables nBuf tb) → BufTy
  | .hbm, ⟨0, _⟩ => ⟨S8x4096x8x64, .f32⟩
  | .hbm, ⟨1, _⟩ => ⟨S8x4352x2x64, .f32⟩
  | .hbm, ⟨2, _⟩ => ⟨S8x4352x2x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8x4096x8x64, .f32⟩
  | .hbm, ⟨9, _⟩ => ⟨S8x4096x8x64, .f32⟩
  | .hbm, ⟨10, _⟩ => ⟨S8x4096x8x64, .bf16⟩
  | .hbm, ⟨11, _⟩ => ⟨S8x4096x512, .bf16⟩
  | .hbm, ⟨12, _⟩ => ⟨S_, .bf16⟩
  | .hbm, ⟨13, _⟩ => ⟨S8x256x512, .bf16⟩
  | .hbm, ⟨14, _⟩ => ⟨S8x4352x512, .bf16⟩
  | .hbm, ⟨15, _⟩ => ⟨S8x4352x2x128, .f32⟩
  | .hbm, ⟨16, _⟩ => ⟨S8x4352x2x128, .bf16⟩
  | .hbm, ⟨17, _⟩ => ⟨S8x4352x256, .bf16⟩
  | .hbm, ⟨18, _⟩ => ⟨S_, .f32⟩
  | .hbm, ⟨19, _⟩ => ⟨S8x4352x2x1, .f32⟩
  | .hbm, ⟨20, _⟩ => ⟨S_, .f32⟩
  | .hbm, ⟨21, _⟩ => ⟨S8x4352x2x63, .f32⟩
  | .hbm, ⟨22, _⟩ => ⟨S8x4352x2x64, .f32⟩
  | .hbm, ⟨23, _⟩ => ⟨S8x4352x2x128, .f32⟩
  | .hbm, ⟨24, _⟩ => ⟨S8x4352x2x128, .bf16⟩
  | .hbm, ⟨25, _⟩ => ⟨S8x4352x256, .bf16⟩
  | .hbm, ⟨26, _⟩ => ⟨S8x4096x1024, .f32⟩
  | .hbm, ⟨27, _⟩ => ⟨S8x4096x8x128, .f32⟩
  | .hbm, ⟨28, _⟩ => ⟨S8x4096x8x64, .f32⟩
  | .hbm, ⟨29, _⟩ => ⟨S8x4096x8x1, .f32⟩
  | .hbm, ⟨30, _⟩ => ⟨S_, .f32⟩
  | .hbm, ⟨31, _⟩ => ⟨S8x4096x8x1, .f32⟩
  | .hbm, ⟨32, _⟩ => ⟨S8x4096x8x1, .f32⟩
  | .hbm, ⟨33, _⟩ => ⟨S8x4096x8x64, .f32⟩
  | .hbm, ⟨34, _⟩ => ⟨S8x4096x8x64, .f32⟩
  | .hbm, ⟨35, _⟩ => ⟨S8x4096x512, .f32⟩
  | .local _ .vmem, ⟨0, _⟩ => ⟨S1x256x256, .bf16⟩
  | .local _ .vmem, ⟨1, _⟩ => ⟨S1x256x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x4352x128, .bf16⟩
  | .local _ .vmem, ⟨5, _⟩ => ⟨S1x4352x128, .bf16⟩
  | .local _ .vmem, ⟨6, _⟩ => ⟨S1x4352x128, .bf16⟩
  | .local _ .vmem, ⟨7, _⟩ => ⟨S1x4352x128, .bf16⟩
  | .local _ .vmem, ⟨8, _⟩ => ⟨S1x256x512, .f32⟩
  | .local _ .vmem, ⟨9, _⟩ => ⟨S1x256x512, .f32⟩
  | .local _ .vmem, ⟨10, _⟩ => ⟨S1024x4352, .f32⟩
  | .local _ .vmem, ⟨11, _⟩ => ⟨S1024x4352, .f32⟩
  | .local _ .vmem, ⟨12, _⟩ => ⟨S1024x128, .f32⟩
  | .local _ .vmem, ⟨13, _⟩ => ⟨S1024x128, .f32⟩
  | _, _ => ⟨S8x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 16], ![false, false, false]⟩

def k0_cond2 (i : grid0.Coords) : BitVec 1 :=
  let arg2 : BitVec 32 := BitVec.ofNat 32 (i 2).val
  let c2_i32 : BitVec 32 := 2#32
  let c0_i32_1 : BitVec 32 := 0#32
  let v3 : BitVec 1 := Scalar.cmpi .eq c2_i32 c0_i32_1
  let c1_i32 : BitVec 32 := 1#32
  let v4 : BitVec 32 := Scalar.select v3 c1_i32 c2_i32
  let v5 : BitVec 32 := Scalar.remsi arg2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c0_i32_5 : BitVec 32 := 0#32
  let v13 : BitVec 1 := Scalar.cmpi .eq v12 c0_i32_5
  let v14 : BitVec 32 := Scalar.extui v13
  let c0_i32_6 : BitVec 32 := 0#32
  let v15 : BitVec 1 := Scalar.cmpi .ne v14 c0_i32_6
  v15

def k0_cond3 (i : grid0.Coords) : BitVec 1 :=
  let arg2 : BitVec 32 := BitVec.ofNat 32 (i 2).val
  let c2_i32_7 : BitVec 32 := 2#32
  let c0_i32_8 : BitVec 32 := 0#32
  let v16 : BitVec 1 := Scalar.cmpi .eq c2_i32_7 c0_i32_8
  let c1_i32_9 : BitVec 32 := 1#32
  let v17 : BitVec 32 := Scalar.select v16 c1_i32_9 c2_i32_7
  let v18 : BitVec 32 := Scalar.remsi arg2 v17
  let c0_i32_11 : BitVec 32 := 0#32
  let v20 : BitVec 1 := Scalar.cmpi .slt v18 c0_i32_11
  let c0_i32_12 : BitVec 32 := 0#32
  let v21 : BitVec 1 := Scalar.cmpi .slt v17 c0_i32_12
  let v22 : BitVec 1 := Scalar.xori v20 v21
  let c0_i32_10 : BitVec 32 := 0#32
  let v19 : BitVec 1 := Scalar.cmpi .ne v18 c0_i32_10
  let v23 : BitVec 1 := Scalar.andi v22 v19
  let v24 : BitVec 32 := Scalar.addi v18 v17
  let v25 : BitVec 32 := Scalar.select v23 v24 v18
  let c1_i32_13 : BitVec 32 := 1#32
  let v26 : BitVec 1 := Scalar.cmpi .eq v25 c1_i32_13
  let v27 : BitVec 32 := Scalar.extui v26
  let c0_i32_14 : BitVec 32 := 0#32
  let v28 : BitVec 1 := Scalar.cmpi .ne v27 c0_i32_14
  v28

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  ![arg0.toNat, v0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c15_i32 : BitVec 32 := 15#32
  let v1 : BitVec 32 := Scalar.minsi v0 c15_i32
  let c1_i32_0 : BitVec 32 := 1#32
  let v2 : BitVec 32 := Scalar.addi v1 c1_i32_0
  let c0_i32 : BitVec 32 := 0#32
  ![arg0.toNat, v2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4352x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S8x4096x8x64 : Shape := ⟨4, ![8, 4096, 8, 64]⟩
abbrev S8x4352x2x64 : Shape := ⟨4, ![8, 4352, 2, 64]⟩
abbrev S8x4096x2x4x64 : Shape := ⟨5, ![8, 4096, 2, 4, 64]⟩
abbrev S8x2x4352x4096x4 : Shape := ⟨5, ![8, 2, 4352, 4096, 4]⟩
abbrev S8x2x4x4096x4352 : Shape := ⟨5, ![8, 2, 4, 4096, 4352]⟩
abbrev S_ : Shape := ⟨0, ![]⟩
abbrev S8x2x4x4096 : Shape := ⟨4, ![8, 2, 4, 4096]⟩
abbrev S8x2x4x4096x1 : Shape := ⟨5, ![8, 2, 4, 4096, 1]⟩
abbrev S8x2x64x4x4096 : Shape := ⟨5, ![8, 2, 64, 4, 4096]⟩
abbrev S8x4096x512 : Shape := ⟨3, ![8, 4096, 512]⟩

abbrev nBuf : Space → Nat
  | .hbm => 26
  | .vmem => 0
  | .smem => 0
  | _ => 0

abbrev bufTy : (tb : Table) → Fin (tcTables nBuf tb) → BufTy
  | .hbm, ⟨0, _⟩ => ⟨S8x4096x8x64, .f32⟩
  | .hbm, ⟨1, _⟩ => ⟨S8x4352x2x64, .f32⟩
  | .hbm, ⟨2, _⟩ => ⟨S8x4352x2x64, .f32⟩
  | .hbm, ⟨3, _⟩ => ⟨S8x4096x2x4x64, .f32⟩
  | .hbm, ⟨4, _⟩ => ⟨S8x2x4352x4096x4, .f32⟩
  | .hbm, ⟨5, _⟩ => ⟨S8x2x4x4096x4352, .f32⟩
  | .hbm, ⟨6, _⟩ => ⟨S_, .f32⟩
  | .hbm, ⟨7, _⟩ => ⟨S8x2x4x4096x4352, .f32⟩
  | .hbm, ⟨8, _⟩ => ⟨S8x2x4x4096x4352, .f32⟩
  | .hbm, ⟨9, _⟩ => ⟨S_, .f32⟩
  | .hbm, ⟨10, _⟩ => ⟨S8x2x4x4096, .f32⟩
  | .hbm, ⟨11, _⟩ => ⟨S_, .f32⟩
  | .hbm, ⟨12, _⟩ => ⟨S8x2x4x4096, .f32⟩
  | .hbm, ⟨13, _⟩ => ⟨S8x2x4x4096, .f32⟩
  | .hbm, ⟨14, _⟩ => ⟨S8x2x4x4096x1, .f32⟩
  | .hbm, ⟨15, _⟩ => ⟨S8x2x4x4096x4352, .f32⟩
  | .hbm, ⟨16, _⟩ => ⟨S8x2x4x4096x4352, .f32⟩
  | .hbm, ⟨17, _⟩ => ⟨S8x2x4x4096x4352, .f32⟩
  | .hbm, ⟨18, _⟩ => ⟨S_, .f32⟩
  | .hbm, ⟨19, _⟩ => ⟨S8x2x4x4096, .f32⟩
  | .hbm, ⟨20, _⟩ => ⟨S8x2x4x4096x1, .f32⟩
  | .hbm, ⟨21, _⟩ => ⟨S8x2x4x4096x4352, .f32⟩
  | .hbm, ⟨22, _⟩ => ⟨S8x2x4x4096x4352, .f32⟩
  | .hbm, ⟨23, _⟩ => ⟨S8x2x64x4x4096, .f32⟩
  | .hbm, ⟨24, _⟩ => ⟨S8x4096x2x4x64, .f32⟩
  | .hbm, ⟨25, _⟩ => ⟨S8x4096x512, .f32⟩
  | _, _ => ⟨S8x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel2.lean ====
abbrev S8x4096x1024 : Shape := ⟨3, ![8, 4096, 1024]⟩
abbrev S8x6144 : Shape := ⟨2, ![8, 6144]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S8x6x1024 : Shape := ⟨3, ![8, 6, 1024]⟩
abbrev S_ : Shape := ⟨0, ![]⟩
abbrev S8x1x6x1024 : Shape := ⟨4, ![8, 1, 6, 1024]⟩
abbrev S8x2x6x1024 : Shape := ⟨4, ![8, 2, 6, 1024]⟩
abbrev S16x6x1024 : Shape := ⟨3, ![16, 6, 1024]⟩
abbrev S1x5632 : Shape := ⟨2, ![1, 5632]⟩
abbrev S1x1024 : Shape := ⟨2, ![1, 1024]⟩
abbrev S1x8x1024 : Shape := ⟨3, ![1, 8, 1024]⟩
abbrev S1x256x1024 : Shape := ⟨3, ![1, 256, 1024]⟩
abbrev S1x6x1024 : Shape := ⟨3, ![1, 6, 1024]⟩
abbrev S1x1x1024 : Shape := ⟨3, ![1, 1, 1024]⟩
abbrev S256x1024 : Shape := ⟨2, ![256, 1024]⟩
abbrev S8x1024 : Shape := ⟨2, ![8, 1024]⟩
abbrev S8 : Shape := ⟨1, ![8]⟩
abbrev S8x1 : Shape := ⟨2, ![8, 1]⟩
abbrev S256 : Shape := ⟨1, ![256]⟩
abbrev S256x1 : Shape := ⟨2, ![256, 1]⟩
abbrev S272x1024 : Shape := ⟨2, ![272, 1024]⟩
abbrev S1024x256 : Shape := ⟨2, ![1024, 256]⟩
abbrev S272x256 : Shape := ⟨2, ![272, 256]⟩
abbrev S3x256 : Shape := ⟨2, ![3, 256]⟩
abbrev S1x256 : Shape := ⟨2, ![1, 256]⟩
abbrev S256x256 : Shape := ⟨2, ![256, 256]⟩

abbrev nBuf : Space → Nat
  | .hbm => 19
  | .vmem => 15
  | .smem => 0
  | _ => 0

abbrev bufTy : (tb : Table) → Fin (tcTables nBuf tb) → BufTy
  | .hbm, ⟨0, _⟩ => ⟨S8x4096x1024, .f32⟩
  | .hbm, ⟨1, _⟩ => ⟨S8x6144, .f32⟩
  | .hbm, ⟨2, _⟩ => ⟨S1024, .f32⟩
  | .hbm, ⟨3, _⟩ => ⟨S1024x5632, .f32⟩
  | .hbm, ⟨4, _⟩ => ⟨S3x5632, .f32⟩
  | .hbm, ⟨5, _⟩ => ⟨S5632, .f32⟩
  | .hbm, ⟨6, _⟩ => ⟨S2816x1024, .f32⟩
  | .hbm, ⟨7, _⟩ => ⟨S8x6x1024, .f32⟩
  | .hbm, ⟨8, _⟩ => ⟨S_, .f32⟩
  | .hbm, ⟨9, _⟩ => ⟨S8x6x1024, .f32⟩
  | .hbm, ⟨10, _⟩ => ⟨S8x1x6x1024, .f32⟩
  | .hbm, ⟨11, _⟩ => ⟨S8x1x6x1024, .f32⟩
  | .hbm, ⟨12, _⟩ => ⟨S8x2x6x1024, .f32⟩
  | .hbm, ⟨13, _⟩ => ⟨S16x6x1024, .f32⟩
  | .hbm, ⟨14, _⟩ => ⟨S1024x5632, .bf16⟩
  | .hbm, ⟨15, _⟩ => ⟨S1x5632, .f32⟩
  | .hbm, ⟨16, _⟩ => ⟨S2816x1024, .bf16⟩
  | .hbm, ⟨17, _⟩ => ⟨S1x1024, .f32⟩
  | .hbm, ⟨18, _⟩ => ⟨S8x4096x1024, .f32⟩
  | .local _ .vmem, ⟨0, _⟩ => ⟨S1x8x1024, .f32⟩
  | .local _ .vmem, ⟨1, _⟩ => ⟨S1x8x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x6x1024, .f32⟩
  | .local _ .vmem, ⟨7, _⟩ => ⟨S1x6x1024, .f32⟩
  | .local _ .vmem, ⟨8, _⟩ => ⟨S1x1024, .f32⟩
  | .local _ .vmem, ⟨9, _⟩ => ⟨S1024x5632, .bf16⟩
  | .local _ .vmem, ⟨10, _⟩ => ⟨S3x5632, .f32⟩
  | .local _ .vmem, ⟨11, _⟩ => ⟨S1x5632, .f32⟩
  | .local _ .vmem, ⟨12, _⟩ => ⟨S2816x1024, .bf16⟩
  | .local _ .vmem, ⟨13, _⟩ => ⟨S1x256x1024, .f32⟩
  | .local _ .vmem, ⟨14, _⟩ => ⟨S1x256x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c1_i32 : BitVec 32 := 1#32
  let v1 : BitVec 32 := Scalar.addi arg1 c1_i32
  let c1_i32_0 : BitVec 32 := 1#32
  let v2 : BitVec 1 := Scalar.cmpi .sge v1 c1_i32_0
  let v3 : BitVec 32 := Scalar.extui v2
  let v4 : BitVec 32 := Scalar.addi v0 v3
  let c0_i32 : BitVec 32 := 0#32
  let c0_i32_1 : BitVec 32 := 0#32
  let c0_i32_2 : BitVec 32 := 0#32
  ![v4.toNat, c0_i32.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference2Ideal.lean ====
abbrev S8x4096x1024 : Shape := ⟨3, ![8, 4096, 1024]⟩
abbrev S8x6144 : Shape := ⟨2, ![8, 6144]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S8x1x6144 : Shape := ⟨3, ![8, 1, 6144]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5632 : Shape := ⟨3, ![8, 4096, 5632]⟩
abbrev S8x4098x5632 : Shape := ⟨3, ![8, 4098, 5632]⟩
abbrev S1x5632 : Shape := ⟨2, ![1, 5632]⟩
abbrev S1x1x5632 : Shape := ⟨3, ![1, 1, 5632]⟩
abbrev S8x4096x2816 : Shape := ⟨3, ![8, 4096, 2816]⟩

abbrev nBuf : Space → Nat
  | .hbm => 80
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x6144, .f32⟩
  | .hbm, ⟨2, _⟩ => ⟨S1024, .f32⟩
  | .hbm, ⟨3, _⟩ => ⟨S1024x5632, .f32⟩
  | .hbm, ⟨4, _⟩ => ⟨S3x5632, .f32⟩
  | .hbm, ⟨5, _⟩ => ⟨S5632, .f32⟩
  | .hbm, ⟨6, _⟩ => ⟨S2816x1024, .f32⟩
  | .hbm, ⟨7, _⟩ => ⟨S8x1x6144, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x4096x1024, .f32⟩
  | .hbm, ⟨15, _⟩ => ⟨S_, .f32⟩
  | .hbm, ⟨16, _⟩ => ⟨S8x4096, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S_, .f32⟩
  | .hbm, ⟨22, _⟩ => ⟨S8x4096x1, .f32⟩
  | .hbm, ⟨23, _⟩ => ⟨S8x4096x1, .f32⟩
  | .hbm, ⟨24, _⟩ => ⟨S8x4096x1, .f32⟩
  | .hbm, ⟨25, _⟩ => ⟨S8x4096x1024, .f32⟩
  | .hbm, ⟨26, _⟩ => ⟨S8x4096x1024, .f32⟩
  | .hbm, ⟨27, _⟩ => ⟨S1x1x1024, .f32⟩
  | .hbm, ⟨28, _⟩ => ⟨S8x4096x1024, .f32⟩
  | .hbm, ⟨29, _⟩ => ⟨S8x4096x1024, .f32⟩
  | .hbm, ⟨30, _⟩ => ⟨S_, .f32⟩
  | .hbm, ⟨31, _⟩ => ⟨S8x1x1024, .f32⟩
  | .hbm, ⟨32, _⟩ => ⟨S8x1x1024, .f32⟩
  | .hbm, ⟨33, _⟩ => ⟨S8x4096x1024, .f32⟩
  | .hbm, ⟨34, _⟩ => ⟨S8x4096x1024, .f32⟩
  | .hbm, ⟨35, _⟩ => ⟨S8x4096x1024, .f32⟩
  | .hbm, ⟨36, _⟩ => ⟨S8x4096x1024, .f32⟩
  | .hbm, ⟨37, _⟩ => ⟨S8x4096x5632, .f32⟩
  | .hbm, ⟨38, _⟩ => ⟨S_, .i32⟩
  | .hbm, ⟨39, _⟩ => ⟨S_, .f32⟩
  | .hbm, ⟨40, _⟩ => ⟨S8x4098x5632, .f32⟩
  | .hbm, ⟨41, _⟩ => ⟨S1x5632, .f32⟩
  | .hbm, ⟨42, _⟩ => ⟨S5632, .f32⟩
  | .hbm, ⟨43, _⟩ => ⟨S8x4096x5632, .f32⟩
  | .hbm, ⟨44, _⟩ => ⟨S1x1x5632, .f32⟩
  | .hbm, ⟨45, _⟩ => ⟨S8x4096x5632, .f32⟩
  | .hbm, ⟨46, _⟩ => ⟨S8x4096x5632, .f32⟩
  | .hbm, ⟨47, _⟩ => ⟨S1x5632, .f32⟩
  | .hbm, ⟨48, _⟩ => ⟨S5632, .f32⟩
  | .hbm, ⟨49, _⟩ => ⟨S8x4096x5632, .f32⟩
  | .hbm, ⟨50, _⟩ => ⟨S1x1x5632, .f32⟩
  | .hbm, ⟨51, _⟩ => ⟨S8x4096x5632, .f32⟩
  | .hbm, ⟨52, _⟩ => ⟨S8x4096x5632, .f32⟩
  | .hbm, ⟨53, _⟩ => ⟨S8x4096x5632, .f32⟩
  | .hbm, ⟨54, _⟩ => ⟨S1x5632, .f32⟩
  | .hbm, ⟨55, _⟩ => ⟨S5632, .f32⟩
  | .hbm, ⟨56, _⟩ => ⟨S8x4096x5632, .f32⟩
  | .hbm, ⟨57, _⟩ => ⟨S1x1x5632, .f32⟩
  | .hbm, ⟨58, _⟩ => ⟨S8x4096x5632, .f32⟩
  | .hbm, ⟨59, _⟩ => ⟨S8x4096x5632, .f32⟩
  | .hbm, ⟨60, _⟩ => ⟨S8x4096x5632, .f32⟩
  | .hbm, ⟨61, _⟩ => ⟨S1x1x5632, .f32⟩
  | .hbm, ⟨62, _⟩ => ⟨S8x4096x5632, .f32⟩
  | .hbm, ⟨63, _⟩ => ⟨S8x4096x5632, .f32⟩
  | .hbm, ⟨64, _⟩ => ⟨S8x4096x2816, .f32⟩
  | .hbm, ⟨65, _⟩ => ⟨S8x4096x2816, .f32⟩
  | .hbm, ⟨66, _⟩ => ⟨S8x4096x2816, .f32⟩
  | .hbm, ⟨67, _⟩ => ⟨S8x4096x2816, .f32⟩
  | .hbm, ⟨68, _⟩ => ⟨S_, .f32⟩
  | .hbm, ⟨69, _⟩ => ⟨S8x4096x2816, .f32⟩
  | .hbm, ⟨70, _⟩ => ⟨S8x4096x2816, .f32⟩
  | .hbm, ⟨71, _⟩ => ⟨S_, .f32⟩
  | .hbm, ⟨72, _⟩ => ⟨S8x4096x2816, .f32⟩
  | .hbm, ⟨73, _⟩ => ⟨S8x4096x2816, .f32⟩
  | .hbm, ⟨74, _⟩ => ⟨S8x4096x2816, .f32⟩
  | .hbm, ⟨75, _⟩ => ⟨S8x4096x2816, .f32⟩
  | .hbm, ⟨76, _⟩ => ⟨S8x4096x1024, .f32⟩
  | .hbm, ⟨77, _⟩ => ⟨S8x4096x1024, .f32⟩
  | .hbm, ⟨78, _⟩ => ⟨S8x4096x1024, .f32⟩
  | .hbm, ⟨79, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c : Ref sig .tc := ⟨.hbm, 38, rfl⟩
abbrev main_call0_v0 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_call1_v0 : Ref sig .tc := ⟨.hbm, 66, rfl⟩
abbrev main_call1_v1 : Ref sig .tc := ⟨.hbm, 67, rfl⟩
abbrev main_call1_cst : Ref sig .tc := ⟨.hbm, 68, rfl⟩
abbrev main_call1_v2 : Ref sig .tc := ⟨.hbm, 69, rfl⟩
abbrev main_call1_v3 : Ref sig .tc := ⟨.hbm, 70, rfl⟩
abbrev main_call1_cst_0 : Ref sig .tc := ⟨.hbm, 71, rfl⟩
abbrev main_call1_v4 : Ref sig .tc := ⟨.hbm, 72, rfl⟩
abbrev main_call1_v5 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩

abbrev nD : Nat := 1
abbrev τ : Topo := Topo.v7x

variable {F : FTy → Type} [FloatOps F]
-- ==== Kernel3.lean ====
abbrev S8x4352x1024 : Shape := ⟨3, ![8, 4352, 1024]⟩
abbrev S8x6144 : Shape := ⟨2, ![8, 6144]⟩
abbrev S6144 : Shape := ⟨1, ![6144]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x6x1024 : Shape := ⟨3, ![1, 6, 1024]⟩
abbrev S8x6x1024 : Shape := ⟨3, ![8, 6, 1024]⟩
abbrev S8x1x6x1024 : Shape := ⟨4, ![8, 1, 6, 1024]⟩
abbrev S8x2x6x1024 : Shape := ⟨4, ![8, 2, 6, 1024]⟩
abbrev S1x5632 : Shape := ⟨2, ![1, 5632]⟩
abbrev S16x6x1024 : Shape := ⟨3, ![16, 6, 1024]⟩
abbrev S1x1024 : Shape := ⟨2, ![1, 1024]⟩
abbrev S1x8x1024 : Shape := ⟨3, ![1, 8, 1024]⟩
abbrev S1x256x1024 : Shape := ⟨3, ![1, 256, 1024]⟩
abbrev S1x1x1024 : Shape := ⟨3, ![1, 1, 1024]⟩
abbrev S256x1024 : Shape := ⟨2, ![256, 1024]⟩
abbrev S8x1024 : Shape := ⟨2, ![8, 1024]⟩
abbrev S8 : Shape := ⟨1, ![8]⟩
abbrev S8x1 : Shape := ⟨2, ![8, 1]⟩
abbrev S256 : Shape := ⟨1, ![256]⟩
abbrev S256x1 : Shape := ⟨2, ![256, 1]⟩
abbrev S272x1024 : Shape := ⟨2, ![272, 1024]⟩
abbrev S1024x256 : Shape := ⟨2, ![1024, 256]⟩
abbrev S272x256 : Shape := ⟨2, ![272, 256]⟩
abbrev S3x256 : Shape := ⟨2, ![3, 256]⟩
abbrev S1x256 : Shape := ⟨2, ![1, 256]⟩
abbrev S256x256 : Shape := ⟨2, ![256, 256]⟩

abbrev nBuf : Space → Nat
  | .hbm => 20
  | .vmem => 15
  | .smem => 0
  | _ => 0

abbrev bufTy : (tb : Table) → Fin (tcTables nBuf tb) → BufTy
  | .hbm, ⟨0, _⟩ => ⟨S8x4352x1024, .f32⟩
  | .hbm, ⟨1, _⟩ => ⟨S8x6144, .f32⟩
  | .hbm, ⟨2, _⟩ => ⟨S6144, .f32⟩
  | .hbm, ⟨3, _⟩ => ⟨S1024, .f32⟩
  | .hbm, ⟨4, _⟩ => ⟨S1024x5632, .f32⟩
  | .hbm, ⟨5, _⟩ => ⟨S3x5632, .f32⟩
  | .hbm, ⟨6, _⟩ => ⟨S5632, .f32⟩
  | .hbm, ⟨7, _⟩ => ⟨S2816x1024, .f32⟩
  | .hbm, ⟨8, _⟩ => ⟨S1x6x1024, .f32⟩
  | .hbm, ⟨9, _⟩ => ⟨S8x6x1024, .f32⟩
  | .hbm, ⟨10, _⟩ => ⟨S8x6x1024, .f32⟩
  | .hbm, ⟨11, _⟩ => ⟨S8x1x6x1024, .f32⟩
  | .hbm, ⟨12, _⟩ => ⟨S8x1x6x1024, .f32⟩
  | .hbm, ⟨13, _⟩ => ⟨S8x2x6x1024, .f32⟩
  | .hbm, ⟨14, _⟩ => ⟨S1024x5632, .bf16⟩
  | .hbm, ⟨15, _⟩ => ⟨S1x5632, .f32⟩
  | .hbm, ⟨16, _⟩ => ⟨S2816x1024, .bf16⟩
  | .hbm, ⟨17, _⟩ => ⟨S16x6x1024, .f32⟩
  | .hbm, ⟨18, _⟩ => ⟨S1x1024, .f32⟩
  | .hbm, ⟨19, _⟩ => ⟨S8x4352x1024, .f32⟩
  | .local _ .vmem, ⟨0, _⟩ => ⟨S1x8x1024, .f32⟩
  | .local _ .vmem, ⟨1, _⟩ => ⟨S1x8x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x6x1024, .f32⟩
  | .local _ .vmem, ⟨7, _⟩ => ⟨S1x6x1024, .f32⟩
  | .local _ .vmem, ⟨8, _⟩ => ⟨S1x1024, .f32⟩
  | .local _ .vmem, ⟨9, _⟩ => ⟨S1024x5632, .bf16⟩
  | .local _ .vmem, ⟨10, _⟩ => ⟨S3x5632, .f32⟩
  | .local _ .vmem, ⟨11, _⟩ => ⟨S1x5632, .f32⟩
  | .local _ .vmem, ⟨12, _⟩ => ⟨S2816x1024, .bf16⟩
  | .local _ .vmem, ⟨13, _⟩ => ⟨S1x256x1024, .f32⟩
  | .local _ .vmem, ⟨14, _⟩ => ⟨S1x256x1024, .f32⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c543_i32 : BitVec 32 := 543#32
  let v2 : BitVec 32 := Scalar.minsi v1 c543_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c0_i32 : BitVec 32 := 0#32
  let v1 : BitVec 32 := Scalar.addi arg1 c0_i32
  let c1_i32 : BitVec 32 := 1#32
  let v2 : BitVec 1 := Scalar.cmpi .sge v1 c1_i32
  let v3 : BitVec 32 := Scalar.extui v2
  let v4 : BitVec 32 := Scalar.addi v0 v3
  let c0_i32_0 : BitVec 32 := 0#32
  let c0_i32_1 : BitVec 32 := 0#32
  let c0_i32_2 : BitVec 32 := 0#32
  ![v4.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference3Ideal.lean ====
abbrev S8x4352x1024 : Shape := ⟨3, ![8, 4352, 1024]⟩
abbrev S8x6144 : Shape := ⟨2, ![8, 6144]⟩
abbrev S6144 : Shape := ⟨1, ![6144]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S8x256x1024 : Shape := ⟨3, ![8, 256, 1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x256x5632 : Shape := ⟨3, ![8, 256, 5632]⟩
abbrev S8x258x5632 : Shape := ⟨3, ![8, 258, 5632]⟩
abbrev S1x5632 : Shape := ⟨2, ![1, 5632]⟩
abbrev S1x1x5632 : Shape := ⟨3, ![1, 1, 5632]⟩
abbrev S8x256x2816 : Shape := ⟨3, ![8, 256, 2816]⟩
abbrev S8x4096x1024 : Shape := ⟨3, ![8, 4096, 1024]⟩
abbrev S8x1x6144 : Shape := ⟨3, ![8, 1, 6144]⟩
abbrev S8x1x1024 : Shape := ⟨3, ![8, 1, 1024]⟩
abbrev S8x4096 : Shape := ⟨2, ![8, 4096]⟩
abbrev S8x4096x1 : Shape := ⟨3, ![8, 4096, 1]⟩
abbrev S8x4096x5632 : Shape := ⟨3, ![8, 4096, 5632]⟩
abbrev S8x4098x5632 : Shape := ⟨3, ![8, 4098, 5632]⟩
abbrev S8x4096x2816 : Shape := ⟨3, ![8, 4096, 2816]⟩

abbrev nBuf : Space → Nat
  | .hbm => 159
  | .vmem => 0
  | .smem => 0
  | _ => 0

abbrev hbmTy0_0 (i : Nat) : BufTy := match i % 128 with
  | 0 => ⟨S8x4352x1024, .f32⟩
  | 1 => ⟨S8x6144, .f32⟩
  | 2 => ⟨S6144, .f32⟩
  | 3 => ⟨S1024, .f32⟩
  | 4 => ⟨S1024x5632, .f32⟩
  | 5 => ⟨S3x5632, .f32⟩
  | 6 => ⟨S5632, .f32⟩
  | 7 => ⟨S2816x1024, .f32⟩
  | 8 => ⟨S8x256x1024, .f32⟩
  | 9 => ⟨S1024, .f32⟩
  | 10 => ⟨S1024, .f32⟩
  | 11 => ⟨S1024, .f32⟩
  | 12 => ⟨S1024, .f32⟩
  | 13 => ⟨S1024, .f32⟩
  | 14 => ⟨S1024, .f32⟩
  | 15 => ⟨S8x256x1024, .f32⟩
  | 16 => ⟨S_, .f32⟩
  | 17 => ⟨S8x256, .f32⟩
  | 18 => ⟨S8x256x1, .f32⟩
  | 19 => ⟨S_, .f32⟩
  | 20 => ⟨S8x256x1, .f32⟩
  | 21 => ⟨S8x256x1, .f32⟩
  | 22 => ⟨S_, .f32⟩
  | 23 => ⟨S8x256x1, .f32⟩
  | 24 => ⟨S8x256x1, .f32⟩
  | 25 => ⟨S8x256x1, .f32⟩
  | 26 => ⟨S8x256x1024, .f32⟩
  | 27 => ⟨S8x256x1024, .f32⟩
  | 28 => ⟨S1x1x1024, .f32⟩
  | 29 => ⟨S8x256x1024, .f32⟩
  | 30 => ⟨S8x256x1024, .f32⟩
  | 31 => ⟨S_, .f32⟩
  | 32 => ⟨S1024, .f32⟩
  | 33 => ⟨S1024, .f32⟩
  | 34 => ⟨S1x1x1024, .f32⟩
  | 35 => ⟨S8x256x1024, .f32⟩
  | 36 => ⟨S8x256x1024, .f32⟩
  | 37 => ⟨S1x1x1024, .f32⟩
  | 38 => ⟨S8x256x1024, .f32⟩
  | 39 => ⟨S8x256x1024, .f32⟩
  | 40 => ⟨S8x256x5632, .f32⟩
  | 41 => ⟨S_, .i32⟩
  | 42 => ⟨S_, .f32⟩
  | 43 => ⟨S8x258x5632, .f32⟩
  | 44 => ⟨S1x5632, .f32⟩
  | 45 => ⟨S5632, .f32⟩
  | 46 => ⟨S8x256x5632, .f32⟩
  | 47 => ⟨S1x1x5632, .f32⟩
  | 48 => ⟨S8x256x5632, .f32⟩
  | 49 => ⟨S8x256x5632, .f32⟩
  | 50 => ⟨S1x5632, .f32⟩
  | 51 => ⟨S5632, .f32⟩
  | 52 => ⟨S8x256x5632, .f32⟩
  | 53 => ⟨S1x1x5632, .f32⟩
  | 54 => ⟨S8x256x5632, .f32⟩
  | 55 => ⟨S8x256x5632, .f32⟩
  | 56 => ⟨S8x256x5632, .f32⟩
  | 57 => ⟨S1x5632, .f32⟩
  | 58 => ⟨S5632, .f32⟩
  | 59 => ⟨S8x256x5632, .f32⟩
  | 60 => ⟨S1x1x5632, .f32⟩
  | 61 => ⟨S8x256x5632, .f32⟩
  | 62 => ⟨S8x256x5632, .f32⟩
  | 63 => ⟨S8x256x5632, .f32⟩
  | 64 => ⟨S1x1x5632, .f32⟩
  | 65 => ⟨S8x256x5632, .f32⟩
  | 66 => ⟨S8x256x5632, .f32⟩
  | 67 => ⟨S8x256x2816, .f32⟩
  | 68 => ⟨S8x256x2816, .f32⟩
  | 69 => ⟨S8x256x2816, .f32⟩
  | 70 => ⟨S8x256x2816, .f32⟩
  | 71 => ⟨S_, .f32⟩
  | 72 => ⟨S8x256x2816, .f32⟩
  | 73 => ⟨S8x256x2816, .f32⟩
  | 74 => ⟨S_, .f32⟩
  | 75 => ⟨S8x256x2816, .f32⟩
  | 76 => ⟨S8x256x2816, .f32⟩
  | 77 => ⟨S8x256x2816, .f32⟩
  | 78 => ⟨S8x256x2816, .f32⟩
  | 79 => ⟨S8x256x1024, .f32⟩
  | 80 => ⟨S1x1x1024, .f32⟩
  | 81 => ⟨S8x256x1024, .f32⟩
  | 82 => ⟨S8x256x1024, .f32⟩
  | 83 => ⟨S8x256x1024, .f32⟩
  | 84 => ⟨S8x4096x1024, .f32⟩
  | 85 => ⟨S8x1x6144, .f32⟩
  | 86 => ⟨S8x1x1024, .f32⟩
  | 87 => ⟨S8x1x1024, .f32⟩
  | 88 => ⟨S8x1x1024, .f32⟩
  | 89 => ⟨S8x1x1024, .f32⟩
  | 90 => ⟨S8x1x1024, .f32⟩
  | 91 => ⟨S8x1x1024, .f32⟩
  | 92 => ⟨S8x4096x1024, .f32⟩
  | 93 => ⟨S_, .f32⟩
  | 94 => ⟨S8x4096, .f32⟩
  | 95 => ⟨S8x4096x1, .f32⟩
  | 96 => ⟨S_, .f32⟩
  | 97 => ⟨S8x4096x1, .f32⟩
  | 98 => ⟨S8x4096x1, .f32⟩
  | 99 => ⟨S_, .f32⟩
  | 100 => ⟨S8x4096x1, .f32⟩
  | 101 => ⟨S8x4096x1, .f32⟩
  | 102 => ⟨S8x4096x1, .f32⟩
  | 103 => ⟨S8x4096x1024, .f32⟩
  | 104 => ⟨S8x4096x1024, .f32⟩
  | 105 => ⟨S1x1x1024, .f32⟩
  | 106 => ⟨S8x4096x1024, .f32⟩
  | 107 => ⟨S8x4096x1024, .f32⟩
  | 108 => ⟨S_, .f32⟩
  | 109 => ⟨S8x1x1024, .f32⟩
  | 110 => ⟨S8x1x1024, .f32⟩
  | 111 => ⟨S8x4096x1024, .f32⟩
  | 112 => ⟨S8x4096x1024, .f32⟩
  | 113 => ⟨S8x4096x1024, .f32⟩
  | 114 => ⟨S8x4096x1024, .f32⟩
  | 115 => ⟨S8x4096x5632, .f32⟩
  | 116 => ⟨S_, .i32⟩
  | 117 => ⟨S_, .f32⟩
  | 118 => ⟨S8x4098x5632, .f32⟩
  | 119 => ⟨S1x5632, .f32⟩
  | 120 => ⟨S5632, .f32⟩
  | 121 => ⟨S8x4096x5632, .f32⟩
  | 122 => ⟨S1x1x5632, .f32⟩
  | 123 => ⟨S8x4096x5632, .f32⟩
  | 124 => ⟨S8x4096x5632, .f32⟩
  | 125 => ⟨S1x5632, .f32⟩
  | 126 => ⟨S5632, .f32⟩
  | 127 => ⟨S8x4096x5632, .f32⟩
  | _ => ⟨S8x4352x1024, .f32⟩

abbrev hbmTy0_1 (i : Nat) : BufTy := match i % 128 with
  | 0 => ⟨S1x1x5632, .f32⟩
  | 1 => ⟨S8x4096x5632, .f32⟩
  | 2 => ⟨S8x4096x5632, .f32⟩
  | 3 => ⟨S8x4096x5632, .f32⟩
  | 4 => ⟨S1x5632, .f32⟩
  | 5 => ⟨S5632, .f32⟩
  | 6 => ⟨S8x4096x5632, .f32⟩
  | 7 => ⟨S1x1x5632, .f32⟩
  | 8 => ⟨S8x4096x5632, .f32⟩
  | 9 => ⟨S8x4096x5632, .f32⟩
  | 10 => ⟨S8x4096x5632, .f32⟩
  | 11 => ⟨S1x1x5632, .f32⟩
  | 12 => ⟨S8x4096x5632, .f32⟩
  | 13 => ⟨S8x4096x5632, .f32⟩
  | 14 => ⟨S8x4096x2816, .f32⟩
  | 15 => ⟨S8x4096x2816, .f32⟩
  | 16 => ⟨S8x4096x2816, .f32⟩
  | 17 => ⟨S8x4096x2816, .f32⟩
  | 18 => ⟨S_, .f32⟩
  | 19 => ⟨S8x4096x2816, .f32⟩
  | 20 => ⟨S8x4096x2816, .f32⟩
  | 21 => ⟨S_, .f32⟩
  | 22 => ⟨S8x4096x2816, .f32⟩
  | 23 => ⟨S8x4096x2816, .f32⟩
  | 24 => ⟨S8x4096x2816, .f32⟩
  | 25 => ⟨S8x4096x2816, .f32⟩
  | 26 => ⟨S8x4096x1024, .f32⟩
  | 27 => ⟨S8x4096x1024, .f32⟩
  | 28 => ⟨S8x4096x1024, .f32⟩
  | 29 => ⟨S8x4096x1024, .f32⟩
  | 30 => ⟨S8x4352x1024, .f32⟩
  | _ => ⟨S8x4352x1024, .f32⟩

abbrev hbmTy (i : Nat) : BufTy := match i / 128 with
  | 0 => hbmTy0_0 i
  | 1 => hbmTy0_1 i
  | _ => ⟨S8x4352x1024, .f32⟩

abbrev bufTy : (tb : Table) → Fin (tcTables nBuf tb) → BufTy
  | .hbm, ⟨i, _⟩ => hbmTy i
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c : Ref sig .tc := ⟨.hbm, 41, rfl⟩
abbrev main_call0_v0 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_call1_v0 : Ref sig .tc := ⟨.hbm, 69, rfl⟩
abbrev main_call1_v1 : Ref sig .tc := ⟨.hbm, 70, rfl⟩
abbrev main_call1_cst : Ref sig .tc := ⟨.hbm, 71, rfl⟩
abbrev main_call1_v2 : Ref sig .tc := ⟨.hbm, 72, rfl⟩
abbrev main_call1_v3 : Ref sig .tc := ⟨.hbm, 73, rfl⟩
abbrev main_call1_cst_0 : Ref sig .tc := ⟨.hbm, 74, rfl⟩
abbrev main_call1_v4 : Ref sig .tc := ⟨.hbm, 75, rfl⟩
abbrev main_call1_v5 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_3 : Ref sig .tc := ⟨.hbm, 93, rfl⟩
abbrev main_v71 : Ref sig .tc := ⟨.hbm, 94, rfl⟩
abbrev main_v72 : Ref sig .tc := ⟨.hbm, 95, rfl⟩
abbrev main_cst_4 : Ref sig .tc := ⟨.hbm, 96, rfl⟩
abbrev main_v73 : Ref sig .tc := ⟨.hbm, 97, rfl⟩
abbrev main_v74 : Ref sig .tc := ⟨.hbm, 98, rfl⟩
abbrev main_cst_5 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_6 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_c_7 : Ref sig .tc := ⟨.hbm, 116, rfl⟩
abbrev main_call2_v0 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_call3_v0 : Ref sig .tc := ⟨.hbm, 144, rfl⟩
abbrev main_call3_v1 : Ref sig .tc := ⟨.hbm, 145, rfl⟩
abbrev main_call3_cst : Ref sig .tc := ⟨.hbm, 146, rfl⟩
abbrev main_call3_v2 : Ref sig .tc := ⟨.hbm, 147, rfl⟩
abbrev main_call3_v3 : Ref sig .tc := ⟨.hbm, 148, rfl⟩
abbrev main_call3_cst_0 : Ref sig .tc := ⟨.hbm, 149, rfl⟩
abbrev main_call3_v4 : Ref sig .tc := ⟨.hbm, 150, rfl⟩
abbrev main_call3_v5 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩

abbrev nD : Nat := 1
abbrev τ : Topo := Topo.v7x

variable {F : FTy → Type} [FloatOps F]
-- ==== Kernel4.lean ====
abbrev S8x4352x1024 : Shape := ⟨3, ![8, 4352, 1024]⟩
abbrev S4096x32 : Shape := ⟨2, ![4096, 32]⟩
abbrev S8x6144 : Shape := ⟨2, ![8, 6144]⟩
abbrev S6144 : Shape := ⟨1, ![6144]⟩
abbrev S1024 : Shape := ⟨1, ![1024]⟩
abbrev S1024x8976 : Shape := ⟨2, ![1024, 8976]⟩
abbrev S3072 : Shape := ⟨1, ![3072]⟩
abbrev S16 : Shape := ⟨1, ![16]⟩
abbrev S64 : Shape := ⟨1, ![64]⟩
abbrev S1x6x1024 : Shape := ⟨3, ![1, 6, 1024]⟩
abbrev S8x6x1024 : Shape := ⟨3, ![8, 6, 1024]⟩
abbrev S8x1x6x1024 : Shape := ⟨4, ![8, 1, 6, 1024]⟩
abbrev S8x2x6x1024 : Shape := ⟨4, ![8, 2, 6, 1024]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S_ : Shape := ⟨0, ![]⟩
abbrev S256x128 : Shape := ⟨2, ![256, 128]⟩
abbrev S4352x128 : Shape := ⟨2, ![4352, 128]⟩
abbrev S1024x1024 : Shape := ⟨2, ![1024, 1024]⟩
abbrev S1024x3072 : Shape := ⟨2, ![1024, 3072]⟩
abbrev S1024x16 : Shape := ⟨2, ![1024, 16]⟩
abbrev S1024x512 : Shape := ⟨2, ![1024, 512]⟩
abbrev S1024x128 : Shape := ⟨2, ![1024, 128]⟩
abbrev S1024x64 : Shape := ⟨2, ![1024, 64]⟩
abbrev S1024x256 : Shape := ⟨2, ![1024, 256]⟩
abbrev S16x1024 : Shape := ⟨2, ![16, 1024]⟩
abbrev S16x1 : Shape := ⟨2, ![16, 1]⟩
abbrev S1x3072 : Shape := ⟨2, ![1, 3072]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S4x64 : Shape := ⟨2, ![4, 64]⟩
abbrev S256 : Shape := ⟨1, ![256]⟩
abbrev S1x256 : Shape := ⟨2, ![1, 256]⟩
abbrev S16x6x1024 : Shape := ⟨3, ![16, 6, 1024]⟩
abbrev S1x1024 : Shape := ⟨2, ![1, 1024]⟩
abbrev S512x1 : Shape := ⟨2, ![512, 1]⟩
abbrev S512x512 : Shape := ⟨2, ![512, 512]⟩
abbrev S256x1 : Shape := ⟨2, ![256, 1]⟩
abbrev S256x256 : Shape := ⟨2, ![256, 256]⟩
abbrev S8x4352x512 : Shape := ⟨3, ![8, 4352, 512]⟩
abbrev S8x4352x3072 : Shape := ⟨3, ![8, 4352, 3072]⟩
abbrev S8x32x4352 : Shape := ⟨3, ![8, 32, 4352]⟩
abbrev S8x4352x256 : Shape := ⟨3, ![8, 4352, 256]⟩
abbrev S1x256x1024 : Shape := ⟨3, ![1, 256, 1024]⟩
abbrev S1x256x512 : Shape := ⟨3, ![1, 256, 512]⟩
abbrev S1x256x3072 : Shape := ⟨3, ![1, 256, 3072]⟩
abbrev S1x32x256 : Shape := ⟨3, ![1, 32, 256]⟩
abbrev S1x256x256 : Shape := ⟨3, ![1, 256, 256]⟩
abbrev S256x1024 : Shape := ⟨2, ![256, 1024]⟩
abbrev S1x1x1024 : Shape := ⟨3, ![1, 1, 1024]⟩
abbrev S256x512 : Shape := ⟨2, ![256, 512]⟩
abbrev S16x256 : Shape := ⟨2, ![16, 256]⟩
abbrev S48x256 : Shape := ⟨2, ![48, 256]⟩
abbrev S1x16x256 : Shape := ⟨3, ![1, 16, 256]⟩
abbrev S96x256 : Shape := ⟨2, ![96, 256]⟩
abbrev S128x256 : Shape := ⟨2, ![128, 256]⟩
abbrev S1x256x128 : Shape := ⟨3, ![1, 256, 128]⟩

abbrev nBuf : Space → Nat
  | .hbm => 156
  | .vmem => 46
  | .smem => 0
  | _ => 0

abbrev hbmTy0_0 (i : Nat) : BufTy := match i % 128 with
  | 0 => ⟨S8x4352x1024, .f32⟩
  | 1 => ⟨S4096x32, .f32⟩
  | 2 => ⟨S4096x32, .f32⟩
  | 3 => ⟨S8x6144, .f32⟩
  | 4 => ⟨S6144, .f32⟩
  | 5 => ⟨S1024, .f32⟩
  | 6 => ⟨S1024x8976, .f32⟩
  | 7 => ⟨S3072, .f32⟩
  | 8 => ⟨S16, .f32⟩
  | 9 => ⟨S64, .f32⟩
  | 10 => ⟨S64, .f32⟩
  | 11 => ⟨S1x6x1024, .f32⟩
  | 12 => ⟨S8x6x1024, .f32⟩
  | 13 => ⟨S8x6x1024, .f32⟩
  | 14 => ⟨S8x1x6x1024, .f32⟩
  | 15 => ⟨S8x1x6x1024, .f32⟩
  | 16 => ⟨S8x2x6x1024, .f32⟩
  | 17 => ⟨S4096x64, .f32⟩
  | 18 => ⟨S1x4096x1x64, .f32⟩
  | 19 => ⟨S1x4096x2x64, .f32⟩
  | 20 => ⟨S4096x128, .f32⟩
  | 21 => ⟨S4096x32, .f32⟩
  | 22 => ⟨S4096x64, .f32⟩
  | 23 => ⟨S1x4096x1x64, .f32⟩
  | 24 => ⟨S1x4096x2x64, .f32⟩
  | 25 => ⟨S4096x128, .f32⟩
  | 26 => ⟨S_, .f32⟩
  | 27 => ⟨S256x128, .f32⟩
  | 28 => ⟨S4352x128, .f32⟩
  | 29 => ⟨S_, .f32⟩
  | 30 => ⟨S256x128, .f32⟩
  | 31 => ⟨S4352x128, .f32⟩
  | 32 => ⟨S1024x8976, .bf16⟩
  | 33 => ⟨S1024x1024, .bf16⟩
  | 34 => ⟨S1024x3072, .bf16⟩
  | 35 => ⟨S1024x1024, .bf16⟩
  | 36 => ⟨S1024x16, .bf16⟩
  | 37 => ⟨S1024x512, .bf16⟩
  | 38 => ⟨S1024x128, .bf16⟩
  | 39 => ⟨S1024x128, .bf16⟩
  | 40 => ⟨S1024x3072, .bf16⟩
  | 41 => ⟨S_, .bf16⟩
  | 42 => ⟨S1024x64, .bf16⟩
  | 43 => ⟨S1024x64, .bf16⟩
  | 44 => ⟨S1024x64, .bf16⟩
  | 45 => ⟨S1024x64, .bf16⟩
  | 46 => ⟨S1024x64, .bf16⟩
  | 47 => ⟨S1024x256, .bf16⟩
  | 48 => ⟨S1024x64, .bf16⟩
  | 49 => ⟨S1024x64, .bf16⟩
  | 50 => ⟨S1024x256, .bf16⟩
  | 51 => ⟨S16x1024, .bf16⟩
  | 52 => ⟨S16x1, .f32⟩
  | 53 => ⟨S1x3072, .f32⟩
  | 54 => ⟨S1x64, .f32⟩
  | 55 => ⟨S8x64, .f32⟩
  | 56 => ⟨S512, .f32⟩
  | 57 => ⟨S1x512, .f32⟩
  | 58 => ⟨S1x64, .f32⟩
  | 59 => ⟨S4x64, .f32⟩
  | 60 => ⟨S256, .f32⟩
  | 61 => ⟨S1x256, .f32⟩
  | 62 => ⟨S16x6x1024, .f32⟩
  | 63 => ⟨S1x1024, .f32⟩
  | 64 => ⟨S256, .i32⟩
  | 65 => ⟨S_, .i32⟩
  | 66 => ⟨S_, .i32⟩
  | 67 => ⟨S_, .i32⟩
  | 68 => ⟨S_, .i1⟩
  | 69 => ⟨S_, .i32⟩
  | 70 => ⟨S_, .i32⟩
  | 71 => ⟨S256, .i32⟩
  | 72 => ⟨S256, .i32⟩
  | 73 => ⟨S_, .i32⟩
  | 74 => ⟨S256, .i32⟩
  | 75 => ⟨S256, .i1⟩
  | 76 => ⟨S_, .i32⟩
  | 77 => ⟨S256, .i32⟩
  | 78 => ⟨S256, .i1⟩
  | 79 => ⟨S_, .i32⟩
  | 80 => ⟨S_, .i1⟩
  | 81 => ⟨S256, .i1⟩
  | 82 => ⟨S256, .i1⟩
  | 83 => ⟨S256, .i1⟩
  | 84 => ⟨S256, .i32⟩
  | 85 => ⟨S256, .i32⟩
  | 86 => ⟨S256, .i32⟩
  | 87 => ⟨S_, .i32⟩
  | 88 => ⟨S256, .i32⟩
  | 89 => ⟨S256, .i1⟩
  | 90 => ⟨S256, .f32⟩
  | 91 => ⟨S1x256, .f32⟩
  | 92 => ⟨S512, .i32⟩
  | 93 => ⟨S_, .i32⟩
  | 94 => ⟨S_, .i32⟩
  | 95 => ⟨S512, .i32⟩
  | 96 => ⟨S512, .i32⟩
  | 97 => ⟨S512, .i32⟩
  | 98 => ⟨S_, .i32⟩
  | 99 => ⟨S512, .i32⟩
  | 100 => ⟨S512, .i1⟩
  | 101 => ⟨S512, .i32⟩
  | 102 => ⟨S512, .i32⟩
  | 103 => ⟨S_, .i32⟩
  | 104 => ⟨S512, .i32⟩
  | 105 => ⟨S512, .i1⟩
  | 106 => ⟨S512, .i1⟩
  | 107 => ⟨S_, .i32⟩
  | 108 => ⟨S512, .i32⟩
  | 109 => ⟨S512, .i32⟩
  | 110 => ⟨S512, .i32⟩
  | 111 => ⟨S512x1, .i32⟩
  | 112 => ⟨S1x512, .i32⟩
  | 113 => ⟨S512x512, .i32⟩
  | 114 => ⟨S512x512, .i32⟩
  | 115 => ⟨S512x512, .i1⟩
  | 116 => ⟨S512x512, .bf16⟩
  | 117 => ⟨S256, .i32⟩
  | 118 => ⟨S_, .i32⟩
  | 119 => ⟨S_, .i32⟩
  | 120 => ⟨S256, .i32⟩
  | 121 => ⟨S256, .i32⟩
  | 122 => ⟨S256, .i32⟩
  | 123 => ⟨S_, .i32⟩
  | 124 => ⟨S256, .i32⟩
  | 125 => ⟨S256, .i1⟩
  | 126 => ⟨S256, .i32⟩
  | 127 => ⟨S256, .i32⟩
  | _ => ⟨S8x4352x1024, .f32⟩

abbrev hbmTy0_1 (i : Nat) : BufTy := match i % 128 with
  | 0 => ⟨S_, .i32⟩
  | 1 => ⟨S256, .i32⟩
  | 2 => ⟨S256, .i1⟩
  | 3 => ⟨S256, .i1⟩
  | 4 => ⟨S_, .i32⟩
  | 5 => ⟨S256, .i32⟩
  | 6 => ⟨S256, .i32⟩
  | 7 => ⟨S256, .i32⟩
  | 8 => ⟨S256x1, .i32⟩
  | 9 => ⟨S1x256, .i32⟩
  | 10 => ⟨S256x256, .i32⟩
  | 11 => ⟨S256x256, .i32⟩
  | 12 => ⟨S256x256, .i1⟩
  | 13 => ⟨S256x256, .bf16⟩
  | 14 => ⟨S8x4352x512, .bf16⟩
  | 15 => ⟨S8x4352x3072, .bf16⟩
  | 16 => ⟨S8x4352x1024, .bf16⟩
  | 17 => ⟨S8x32x4352, .f32⟩
  | 18 => ⟨S8x4352x1024, .f32⟩
  | 19 => ⟨S8x4352x1024, .f32⟩
  | 20 => ⟨S8x4352x512, .bf16⟩
  | 21 => ⟨S8x4352x256, .bf16⟩
  | 22 => ⟨S8x4352x256, .bf16⟩
  | 23 => ⟨S8x4352x3072, .bf16⟩
  | 24 => ⟨S8x4352x512, .f32⟩
  | 25 => ⟨S8x4352x3072, .f32⟩
  | 26 => ⟨S8x4352x1024, .f32⟩
  | 27 => ⟨S8x4352x3072, .f32⟩
  | _ => ⟨S8x4352x1024, .f32⟩

abbrev hbmTy (i : Nat) : BufTy := match i / 128 with
  | 0 => hbmTy0_0 i
  | 1 => hbmTy0_1 i
  | _ => ⟨S8x4352x1024, .f32⟩

abbrev bufTy : (tb : Table) → Fin (tcTables nBuf tb) → BufTy
  | .hbm, ⟨i, _⟩ => hbmTy i
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x6x1024, .f32⟩
  | .local _ .vmem, ⟨5, _⟩ => ⟨S1x6x1024, .f32⟩
  | .local _ .vmem, ⟨6, _⟩ => ⟨S1x1024, .f32⟩
  | .local _ .vmem, ⟨7, _⟩ => ⟨S1024x1024, .bf16⟩
  | .local _ .vmem, ⟨8, _⟩ => ⟨S1024x3072, .bf16⟩
  | .local _ .vmem, ⟨9, _⟩ => ⟨S1024x1024, .bf16⟩
  | .local _ .vmem, ⟨10, _⟩ => ⟨S16x1024, .bf16⟩
  | .local _ .vmem, ⟨11, _⟩ => ⟨S16x1, .f32⟩
  | .local _ .vmem, ⟨12, _⟩ => ⟨S1024x512, .bf16⟩
  | .local _ .vmem, ⟨13, _⟩ => ⟨S1024x256, .bf16⟩
  | .local _ .vmem, ⟨14, _⟩ => ⟨S1024x256, .bf16⟩
  | .local _ .vmem, ⟨15, _⟩ => ⟨S1024x3072, .bf16⟩
  | .local _ .vmem, ⟨16, _⟩ => ⟨S1x3072, .f32⟩
  | .local _ .vmem, ⟨17, _⟩ => ⟨S1x512, .f32⟩
  | .local _ .vmem, ⟨18, _⟩ => ⟨S1x256, .f32⟩
  | .local _ .vmem, ⟨19, _⟩ => ⟨S512x512, .bf16⟩
  | .local _ .vmem, ⟨20, _⟩ => ⟨S256x256, .bf16⟩
  | .local _ .vmem, ⟨21, _⟩ => ⟨S256x128, .f32⟩
  | .local _ .vmem, ⟨22, _⟩ => ⟨S256x128, .f32⟩
  | .local _ .vmem, ⟨23, _⟩ => ⟨S256x128, .f32⟩
  | .local _ .vmem, ⟨24, _⟩ => ⟨S256x128, .f32⟩
  | .local _ .vmem, ⟨25, _⟩ => ⟨S1x256, .f32⟩
  | .local _ .vmem, ⟨26, _⟩ => ⟨S1x256x512, .bf16⟩
  | .local _ .vmem, ⟨27, _⟩ => ⟨S1x256x512, .bf16⟩
  | .local _ .vmem, ⟨28, _⟩ => ⟨S1x256x3072, .bf16⟩
  | .local _ .vmem, ⟨29, _⟩ => ⟨S1x256x3072, .bf16⟩
  | .local _ .vmem, ⟨30, _⟩ => ⟨S1x256x1024, .bf16⟩
  | .local _ .vmem, ⟨31, _⟩ => ⟨S1x256x1024, .bf16⟩
  | .local _ .vmem, ⟨32, _⟩ => ⟨S1x32x256, .f32⟩
  | .local _ .vmem, ⟨33, _⟩ => ⟨S1x32x256, .f32⟩
  | .local _ .vmem, ⟨34, _⟩ => ⟨S1x256x1024, .f32⟩
  | .local _ .vmem, ⟨35, _⟩ => ⟨S1x256x1024, .f32⟩
  | .local _ .vmem, ⟨36, _⟩ => ⟨S1x256x1024, .f32⟩
  | .local _ .vmem, ⟨37, _⟩ => ⟨S1x256x1024, .f32⟩
  | .local _ .vmem, ⟨38, _⟩ => ⟨S1x256x512, .bf16⟩
  | .local _ .vmem, ⟨39, _⟩ => ⟨S1x256x512, .bf16⟩
  | .local _ .vmem, ⟨40, _⟩ => ⟨S1x256x256, .bf16⟩
  | .local _ .vmem, ⟨41, _⟩ => ⟨S1x256x256, .bf16⟩
  | .local _ .vmem, ⟨42, _⟩ => ⟨S1x256x256, .bf16⟩
  | .local _ .vmem, ⟨43, _⟩ => ⟨S1x256x256, .bf16⟩
  | .local _ .vmem, ⟨44, _⟩ => ⟨S1x256x3072, .bf16⟩
  | .local _ .vmem, ⟨45, _⟩ => ⟨S1x256x3072, .bf16⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_cst_0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_1 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_c : Ref sig .tc := ⟨.hbm, 65, rfl⟩
abbrev main_call0_v0 : Ref sig .tc := ⟨.hbm, 66, rfl⟩
abbrev main_call0_c : Ref sig .tc := ⟨.hbm, 67, rfl⟩
abbrev main_call0_v1 : Ref sig .tc := ⟨.hbm, 68, rfl⟩
abbrev main_call0_c_0 : Ref sig .tc := ⟨.hbm, 69, rfl⟩
abbrev main_call0_v2 : Ref sig .tc := ⟨.hbm, 70, rfl⟩
abbrev main_call0_v3 : Ref sig .tc := ⟨.hbm, 71, rfl⟩
abbrev main_call0_v4 : Ref sig .tc := ⟨.hbm, 72, rfl⟩
abbrev main_call0_c_1 : Ref sig .tc := ⟨.hbm, 73, rfl⟩
abbrev main_call0_v5 : Ref sig .tc := ⟨.hbm, 74, rfl⟩
abbrev main_call0_v6 : Ref sig .tc := ⟨.hbm, 75, rfl⟩
abbrev main_call0_c_2 : Ref sig .tc := ⟨.hbm, 76, rfl⟩
abbrev main_call0_v7 : Ref sig .tc := ⟨.hbm, 77, rfl⟩
abbrev main_call0_v8 : Ref sig .tc := ⟨.hbm, 78, rfl⟩
abbrev main_call0_c_3 : Ref sig .tc := ⟨.hbm, 79, rfl⟩
abbrev main_call0_v9 : Ref sig .tc := ⟨.hbm, 80, rfl⟩
abbrev main_call0_v10 : Ref sig .tc := ⟨.hbm, 81, rfl⟩
abbrev main_call0_v11 : Ref sig .tc := ⟨.hbm, 82, rfl⟩
abbrev main_call0_v12 : Ref sig .tc := ⟨.hbm, 83, rfl⟩
abbrev main_call0_v13 : Ref sig .tc := ⟨.hbm, 84, rfl⟩
abbrev main_call0_v14 : Ref sig .tc := ⟨.hbm, 85, rfl⟩
abbrev main_v51 : Ref sig .tc := ⟨.hbm, 86, rfl⟩
abbrev main_c_2 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_c_3 : Ref sig .tc := ⟨.hbm, 93, rfl⟩
abbrev main_call1_v0 : Ref sig .tc := ⟨.hbm, 94, rfl⟩
abbrev main_call1_v1 : Ref sig .tc := ⟨.hbm, 95, rfl⟩
abbrev main_call1_v2 : Ref sig .tc := ⟨.hbm, 96, rfl⟩
abbrev main_call1_v3 : Ref sig .tc := ⟨.hbm, 97, rfl⟩
abbrev main_call1_v4 : Ref sig .tc := ⟨.hbm, 98, rfl⟩
abbrev main_call1_v5 : Ref sig .tc := ⟨.hbm, 99, rfl⟩
abbrev main_call1_v6 : Ref sig .tc := ⟨.hbm, 100, rfl⟩
abbrev main_call1_v7 : Ref sig .tc := ⟨.hbm, 101, rfl⟩
abbrev main_call1_v8 : Ref sig .tc := ⟨.hbm, 102, rfl⟩
abbrev main_call1_c : Ref sig .tc := ⟨.hbm, 103, rfl⟩
abbrev main_call1_v9 : Ref sig .tc := ⟨.hbm, 104, rfl⟩
abbrev main_call1_v10 : Ref sig .tc := ⟨.hbm, 105, rfl⟩
abbrev main_call1_v11 : Ref sig .tc := ⟨.hbm, 106, rfl⟩
abbrev main_call1_c_0 : Ref sig .tc := ⟨.hbm, 107, rfl⟩
abbrev main_call1_v12 : Ref sig .tc := ⟨.hbm, 108, rfl⟩
abbrev main_call1_v13 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_c_4 : Ref sig .tc := ⟨.hbm, 118, rfl⟩
abbrev main_call2_v0 : Ref sig .tc := ⟨.hbm, 119, rfl⟩
abbrev main_call2_v1 : Ref sig .tc := ⟨.hbm, 120, rfl⟩
abbrev main_call2_v2 : Ref sig .tc := ⟨.hbm, 121, rfl⟩
abbrev main_call2_v3 : Ref sig .tc := ⟨.hbm, 122, rfl⟩
abbrev main_call2_v4 : Ref sig .tc := ⟨.hbm, 123, rfl⟩
abbrev main_call2_v5 : Ref sig .tc := ⟨.hbm, 124, rfl⟩
abbrev main_call2_v6 : Ref sig .tc := ⟨.hbm, 125, rfl⟩
abbrev main_call2_v7 : Ref sig .tc := ⟨.hbm, 126, rfl⟩
abbrev main_call2_v8 : Ref sig .tc := ⟨.hbm, 127, rfl⟩
abbrev main_call2_c : Ref sig .tc := ⟨.hbm, 128, rfl⟩
abbrev main_call2_v9 : Ref sig .tc := ⟨.hbm, 129, rfl⟩
abbrev main_call2_v10 : Ref sig .tc := ⟨.hbm, 130, rfl⟩
abbrev main_call2_v11 : Ref sig .tc := ⟨.hbm, 131, rfl⟩
abbrev main_call2_c_0 : Ref sig .tc := ⟨.hbm, 132, rfl⟩
abbrev main_call2_v12 : Ref sig .tc := ⟨.hbm, 133, rfl⟩
abbrev main_call2_v13 : Ref sig .tc := ⟨.hbm, 134, rfl⟩
abbrev main_v65 : Ref sig .tc := ⟨.hbm, 135, rfl⟩
abbrev main_v66 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩
abbrev main_v70 : Ref sig .tc := ⟨.hbm, 140, rfl⟩
abbrev main_v71 : Ref sig .tc := ⟨.hbm, 141, rfl⟩
abbrev main_v72_0 : Ref sig .tc := ⟨.hbm, 142, rfl⟩
abbrev main_v72_1 : Ref sig .tc := ⟨.hbm, 143, rfl⟩
abbrev main_v72_2 : Ref sig .tc := ⟨.hbm, 144, rfl⟩
abbrev main_v72_3 : Ref sig .tc := ⟨.hbm, 145, rfl⟩
abbrev main_v72_4 : Ref sig .tc := ⟨.hbm, 146, rfl⟩
abbrev main_v72_5 : Ref sig .tc := ⟨.hbm, 147, rfl⟩
abbrev main_v72_6 : Ref sig .tc := ⟨.hbm, 148, rfl⟩
abbrev main_v72_7 : Ref sig .tc := ⟨.hbm, 149, rfl⟩
abbrev main_v72_8 : Ref sig .tc := ⟨.hbm, 150, rfl⟩
abbrev main_v72_9 : Ref sig .tc := ⟨.hbm, 151, rfl⟩
abbrev main_v73 : Ref sig .tc := ⟨.hbm, 152, rfl⟩
abbrev main_v74 : Ref sig .tc := ⟨.hbm, 153, rfl⟩
abbrev main_v75 : Ref sig .tc := ⟨.hbm, 154, rfl⟩
abbrev main_v76 : Ref sig .tc := ⟨.hbm, 155, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg18_1 : Ref sig .tc := ⟨.vmem, 22, rfl⟩
abbrev cc0_stg19_0 : Ref sig .tc := ⟨.vmem, 23, rfl⟩
abbrev cc0_stg19_1 : Ref sig .tc := ⟨.vmem, 24, rfl⟩
abbrev cc0_stg20_0 : Ref sig .tc := ⟨.vmem, 25, rfl⟩
abbrev cc0_stg21_0 : Ref sig .tc := ⟨.vmem, 26, rfl⟩
abbrev cc0_stg21_1 : Ref sig .tc := ⟨.vmem, 27, rfl⟩
abbrev cc0_stg22_0 : Ref sig .tc := ⟨.vmem, 28, rfl⟩
abbrev cc0_stg22_1 : Ref sig .tc := ⟨.vmem, 29, rfl⟩
abbrev cc0_stg23_0 : Ref sig .tc := ⟨.vmem, 30, rfl⟩
abbrev cc0_stg23_1 : Ref sig .tc := ⟨.vmem, 31, rfl⟩
abbrev cc0_stg24_0 : Ref sig .tc := ⟨.vmem, 32, rfl⟩
abbrev cc0_stg24_1 : Ref sig .tc := ⟨.vmem, 33, rfl⟩
abbrev cc0_stg25_0 : Ref sig .tc := ⟨.vmem, 34, rfl⟩
abbrev cc0_stg25_1 : Ref sig .tc := ⟨.vmem, 35, rfl⟩
abbrev cc0_stg26_0 : Ref sig .tc := ⟨.vmem, 36, rfl⟩
abbrev cc0_stg26_1 : Ref sig .tc := ⟨.vmem, 37, rfl⟩
abbrev cc0_stg27_0 : Ref sig .tc := ⟨.vmem, 38, rfl⟩
abbrev cc0_stg27_1 : Ref sig .tc := ⟨.vmem, 39, rfl⟩
abbrev cc0_stg28_0 : Ref sig .tc := ⟨.vmem, 40, rfl⟩
abbrev cc0_stg28_1 : Ref sig .tc := ⟨.vmem, 41, rfl⟩
abbrev cc0_stg29_0 : Ref sig .tc := ⟨.vmem, 42, rfl⟩
abbrev cc0_stg29_1 : Ref sig .tc := ⟨.vmem, 43, rfl⟩
abbrev cc0_stg30_0 : Ref sig .tc := ⟨.vmem, 44, rfl⟩
abbrev cc0_stg30_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem18_1 : DmaSem sig := 22
abbrev cc0_sem19_0 : DmaSem sig := 23
abbrev cc0_sem19_1 : DmaSem sig := 24
abbrev cc0_sem20_0 : DmaSem sig := 25
abbrev cc0_sem21_0 : DmaSem sig := 26
abbrev cc0_sem21_1 : DmaSem sig := 27
abbrev cc0_sem22_0 : DmaSem sig := 28
abbrev cc0_sem22_1 : DmaSem sig := 29
abbrev cc0_sem23_0 : DmaSem sig := 30
abbrev cc0_sem23_1 : DmaSem sig := 31
abbrev cc0_sem24_0 : DmaSem sig := 32
abbrev cc0_sem24_1 : DmaSem sig := 33
abbrev cc0_sem25_0 : DmaSem sig := 34
abbrev cc0_sem25_1 : DmaSem sig := 35
abbrev cc0_sem26_0 : DmaSem sig := 36
abbrev cc0_sem26_1 : DmaSem sig := 37
abbrev cc0_sem27_0 : DmaSem sig := 38
abbrev cc0_sem27_1 : DmaSem sig := 39
abbrev cc0_sem28_0 : DmaSem sig := 40
abbrev cc0_sem28_1 : DmaSem sig := 41
abbrev cc0_sem29_0 : DmaSem sig := 42
abbrev cc0_sem29_1 : DmaSem sig := 43
abbrev cc0_sem30_0 : DmaSem sig := 44
abbrev cc0_sem30_1 : DmaSem sig := 45

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let v1 : BitVec 32 := Scalar.minsi v0 c0_i32_0
  let c0_i32_1 : BitVec 32 := 0#32
  let c0_i32_2 : BitVec 32 := 0#32
  ![arg0.toNat, v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let v1 : BitVec 32 := Scalar.subi v0 c1_i32
  let c0_i32_0 : BitVec 32 := 0#32
  let v2 : BitVec 32 := Scalar.maxsi v1 c0_i32_0
  let c1_i32_1 : BitVec 32 := 1#32
  let v3 : BitVec 32 := Scalar.addi v2 c1_i32_1
  let c0_i32_2 : BitVec 32 := 0#32
  let c0_i32_3 : BitVec 32 := 0#32
  ![arg0.toNat, v3.toNat, c0_i32_2.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c1_i32 : BitVec 32 := 1#32
  let v1 : BitVec 1 := Scalar.cmpi .sge arg1 c1_i32
  let v2 : BitVec 32 := Scalar.extui v1
  let v3 : BitVec 32 := Scalar.addi v0 v2
  let c0_i32 : BitVec 32 := 0#32
  let c0_i32_0 : BitVec 32 := 0#32
  let c0_i32_1 : BitVec 32 := 0#32
  ![v3.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_25 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_26 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_27 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_28 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_29 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_30 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S16x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S16x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x3072 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x3072 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S512x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S256x256 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 2 → Memref sig .tc .vmem S256x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![false, true]

abbrev stage0_19 : Fin 2 → Memref sig .tc .vmem S256x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![false, true]

abbrev stage0_20 : Fin 1 → Memref sig .tc .vmem S1x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 2 → Memref sig .tc .vmem S1x256x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x256x3072 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x256x1024 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x32x256 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x256x1024 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S1x256x1024 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]

abbrev stage0_27 : Fin 2 → Memref sig .tc .vmem S1x256x512 .bf16 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, true]

abbrev stage0_28 : Fin 2 → Memref sig .tc .vmem S1x256x256 .bf16 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true, true]

abbrev stage0_29 : Fin 2 → Memref sig .tc .vmem S1x256x256 .bf16 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true, true]

abbrev stage0_30 : Fin 2 → Memref sig .tc .vmem S1x256x3072 .bf16 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true, true]
-- ==== Reference4Ideal.lean ====
abbrev S8x4352x1024 : Shape := ⟨3, ![8, 4352, 1024]⟩
abbrev S4096x32 : Shape := ⟨2, ![4096, 32]⟩
abbrev S8x6144 : Shape := ⟨2, ![8, 6144]⟩
abbrev S6144 : Shape := ⟨1, ![6144]⟩
abbrev S1024 : Shape := ⟨1, ![1024]⟩
abbrev S1024x8976 : Shape := ⟨2, ![1024, 8976]⟩
abbrev S3072 : Shape := ⟨1, ![3072]⟩
abbrev S16 : Shape := ⟨1, ![16]⟩
abbrev S64 : Shape := ⟨1, ![64]⟩
abbrev S8x256x1024 : Shape := ⟨3, ![8, 256, 1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x4096x1024 : Shape := ⟨3, ![8, 4096, 1024]⟩
abbrev S8x1x6144 : Shape := ⟨3, ![8, 1, 6144]⟩
abbrev S8x1x1024 : Shape := ⟨3, ![8, 1, 1024]⟩
abbrev S8x4096 : Shape := ⟨2, ![8, 4096]⟩
abbrev S8x4096x1 : Shape := ⟨3, ![8, 4096, 1]⟩
abbrev S8x4352x8976 : Shape := ⟨3, ![8, 4352, 8976]⟩
abbrev S8x4352x3072 : Shape := ⟨3, ![8, 4352, 3072]⟩
abbrev S8x4352x16 : Shape := ⟨3, ![8, 4352, 16]⟩
abbrev S8x4352x512 : Shape := ⟨3, ![8, 4352, 512]⟩
abbrev S8x4352x128 : Shape := ⟨3, ![8, 4352, 128]⟩
abbrev S1x1x3072 : Shape := ⟨3, ![1, 1, 3072]⟩

abbrev nBuf : Space → Nat
  | .hbm => 121
  | .vmem => 0
  | .smem => 0
  | _ => 0

abbrev bufTy : (tb : Table) → Fin (tcTables nBuf tb) → BufTy
  | .hbm, ⟨0, _⟩ => ⟨S8x4352x1024, .f32⟩
  | .hbm, ⟨1, _⟩ => ⟨S4096x32, .f32⟩
  | .hbm, ⟨2, _⟩ => ⟨S4096x32, .f32⟩
  | .hbm, ⟨3, _⟩ => ⟨S8x6144, .f32⟩
  | .hbm, ⟨4, _⟩ => ⟨S6144, .f32⟩
  | .hbm, ⟨5, _⟩ => ⟨S1024, .f32⟩
  | .hbm, ⟨6, _⟩ => ⟨S1024x8976, .f32⟩
  | .hbm, ⟨7, _⟩ => ⟨S3072, .f32⟩
  | .hbm, ⟨8, _⟩ => ⟨S16, .f32⟩
  | .hbm, ⟨9, _⟩ => ⟨S64, .f32⟩
  | .hbm, ⟨10, _⟩ => ⟨S64, .f32⟩
  | .hbm, ⟨11, _⟩ => ⟨S8x256x1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1024, .f32⟩
  | .hbm, ⟨18, _⟩ => ⟨S8x256x1024, .f32⟩
  | .hbm, ⟨19, _⟩ => ⟨S_, .f32⟩
  | .hbm, ⟨20, _⟩ => ⟨S8x256, .f32⟩
  | .hbm, ⟨21, _⟩ => ⟨S8x256x1, .f32⟩
  | .hbm, ⟨22, _⟩ => ⟨S_, .f32⟩
  | .hbm, ⟨23, _⟩ => ⟨S8x256x1, .f32⟩
  | .hbm, ⟨24, _⟩ => ⟨S8x256x1, .f32⟩
  | .hbm, ⟨25, _⟩ => ⟨S_, .f32⟩
  | .hbm, ⟨26, _⟩ => ⟨S8x256x1, .f32⟩
  | .hbm, ⟨27, _⟩ => ⟨S8x256x1, .f32⟩
  | .hbm, ⟨28, _⟩ => ⟨S8x256x1, .f32⟩
  | .hbm, ⟨29, _⟩ => ⟨S8x256x1024, .f32⟩
  | .hbm, ⟨30, _⟩ => ⟨S8x256x1024, .f32⟩
  | .hbm, ⟨31, _⟩ => ⟨S1x1x1024, .f32⟩
  | .hbm, ⟨32, _⟩ => ⟨S8x256x1024, .f32⟩
  | .hbm, ⟨33, _⟩ => ⟨S8x256x1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S1x1x1024, .f32⟩
  | .hbm, ⟨38, _⟩ => ⟨S8x256x1024, .f32⟩
  | .hbm, ⟨39, _⟩ => ⟨S8x256x1024, .f32⟩
  | .hbm, ⟨40, _⟩ => ⟨S1x1x1024, .f32⟩
  | .hbm, ⟨41, _⟩ => ⟨S8x256x1024, .f32⟩
  | .hbm, ⟨42, _⟩ => ⟨S8x256x1024, .f32⟩
  | .hbm, ⟨43, _⟩ => ⟨S8x4096x1024, .f32⟩
  | .hbm, ⟨44, _⟩ => ⟨S8x1x6144, .f32⟩
  | .hbm, ⟨45, _⟩ => ⟨S8x1x1024, .f32⟩
  | .hbm, ⟨46, _⟩ => ⟨S8x1x1024, .f32⟩
  | .hbm, ⟨47, _⟩ => ⟨S8x1x1024, .f32⟩
  | .hbm, ⟨48, _⟩ => ⟨S8x1x1024, .f32⟩
  | .hbm, ⟨49, _⟩ => ⟨S8x1x1024, .f32⟩
  | .hbm, ⟨50, _⟩ => ⟨S8x1x1024, .f32⟩
  | .hbm, ⟨51, _⟩ => ⟨S8x4096x1024, .f32⟩
  | .hbm, ⟨52, _⟩ => ⟨S_, .f32⟩
  | .hbm, ⟨53, _⟩ => ⟨S8x4096, .f32⟩
  | .hbm, ⟨54, _⟩ => ⟨S8x4096x1, .f32⟩
  | .hbm, ⟨55, _⟩ => ⟨S_, .f32⟩
  | .hbm, ⟨56, _⟩ => ⟨S8x4096x1, .f32⟩
  | .hbm, ⟨57, _⟩ => ⟨S8x4096x1, .f32⟩
  | .hbm, ⟨58, _⟩ => ⟨S_, .f32⟩
  | .hbm, ⟨59, _⟩ => ⟨S8x4096x1, .f32⟩
  | .hbm, ⟨60, _⟩ => ⟨S8x4096x1, .f32⟩
  | .hbm, ⟨61, _⟩ => ⟨S8x4096x1, .f32⟩
  | .hbm, ⟨62, _⟩ => ⟨S8x4096x1024, .f32⟩
  | .hbm, ⟨63, _⟩ => ⟨S8x4096x1024, .f32⟩
  | .hbm, ⟨64, _⟩ => ⟨S1x1x1024, .f32⟩
  | .hbm, ⟨65, _⟩ => ⟨S8x4096x1024, .f32⟩
  | .hbm, ⟨66, _⟩ => ⟨S8x4096x1024, .f32⟩
  | .hbm, ⟨67, _⟩ => ⟨S_, .f32⟩
  | .hbm, ⟨68, _⟩ => ⟨S8x1x1024, .f32⟩
  | .hbm, ⟨69, _⟩ => ⟨S8x1x1024, .f32⟩
  | .hbm, ⟨70, _⟩ => ⟨S8x4096x1024, .f32⟩
  | .hbm, ⟨71, _⟩ => ⟨S8x4096x1024, .f32⟩
  | .hbm, ⟨72, _⟩ => ⟨S8x4096x1024, .f32⟩
  | .hbm, ⟨73, _⟩ => ⟨S8x4096x1024, .f32⟩
  | .hbm, ⟨74, _⟩ => ⟨S8x4352x1024, .f32⟩
  | .hbm, ⟨75, _⟩ => ⟨S8x4352x8976, .f32⟩
  | .hbm, ⟨76, _⟩ => ⟨S8x4352x1024, .f32⟩
  | .hbm, ⟨77, _⟩ => ⟨S8x4352x3072, .f32⟩
  | .hbm, ⟨78, _⟩ => ⟨S8x4352x1024, .f32⟩
  | .hbm, ⟨79, _⟩ => ⟨S8x4352x16, .f32⟩
  | .hbm, ⟨80, _⟩ => ⟨S8x4352x512, .f32⟩
  | .hbm, ⟨81, _⟩ => ⟨S8x4352x128, .f32⟩
  | .hbm, ⟨82, _⟩ => ⟨S8x4352x128, .f32⟩
  | .hbm, ⟨83, _⟩ => ⟨S8x4352x3072, .f32⟩
  | .hbm, ⟨84, _⟩ => ⟨S8x4352x512, .f32⟩
  | .hbm, ⟨85, _⟩ => ⟨S8x4352x512, .f32⟩
  | .hbm, ⟨86, _⟩ => ⟨S8x4352x1024, .f32⟩
  | .hbm, ⟨87, _⟩ => ⟨S8x4352x1024, .f32⟩
  | .hbm, ⟨88, _⟩ => ⟨S8x4352x1024, .f32⟩
  | .hbm, ⟨89, _⟩ => ⟨S8x4352x512, .f32⟩
  | .hbm, ⟨90, _⟩ => ⟨S8x4352x512, .f32⟩
  | .hbm, ⟨91, _⟩ => ⟨S_, .f32⟩
  | .hbm, ⟨92, _⟩ => ⟨S8x4352x512, .f32⟩
  | .hbm, ⟨93, _⟩ => ⟨S8x4352x512, .f32⟩
  | .hbm, ⟨94, _⟩ => ⟨S_, .f32⟩
  | .hbm, ⟨95, _⟩ => ⟨S8x4352x512, .f32⟩
  | .hbm, ⟨96, _⟩ => ⟨S8x4352x512, .f32⟩
  | .hbm, ⟨97, _⟩ => ⟨S8x4352x512, .f32⟩
  | .hbm, ⟨98, _⟩ => ⟨S_, .f32⟩
  | .hbm, ⟨99, _⟩ => ⟨S8x4352x1024, .f32⟩
  | .hbm, ⟨100, _⟩ => ⟨S8x4352x1024, .f32⟩
  | .hbm, ⟨101, _⟩ => ⟨S8x4352x3072, .f32⟩
  | .hbm, ⟨102, _⟩ => ⟨S8x4352x1024, .f32⟩
  | .hbm, ⟨103, _⟩ => ⟨S8x4352x1024, .f32⟩
  | .hbm, ⟨104, _⟩ => ⟨S_, .f32⟩
  | .hbm, ⟨105, _⟩ => ⟨S8x4352x1024, .f32⟩
  | .hbm, ⟨106, _⟩ => ⟨S8x4352x1024, .f32⟩
  | .hbm, ⟨107, _⟩ => ⟨S_, .f32⟩
  | .hbm, ⟨108, _⟩ => ⟨S8x4352x1024, .f32⟩
  | .hbm, ⟨109, _⟩ => ⟨S8x4352x1024, .f32⟩
  | .hbm, ⟨110, _⟩ => ⟨S1x1x3072, .f32⟩
  | .hbm, ⟨111, _⟩ => ⟨S8x4352x3072, .f32⟩
  | .hbm, ⟨112, _⟩ => ⟨S8x4352x3072, .f32⟩
  | .hbm, ⟨113, _⟩ => ⟨S8x4352x3072, .f32⟩
  | .hbm, ⟨114, _⟩ => ⟨S8x4352x3072, .f32⟩
  | .hbm, ⟨115, _⟩ => ⟨S_, .f32⟩
  | .hbm, ⟨116, _⟩ => ⟨S8x4352x3072, .f32⟩
  | .hbm, ⟨117, _⟩ => ⟨S8x4352x3072, .f32⟩
  | .hbm, ⟨118, _⟩ => ⟨S_, .f32⟩
  | .hbm, ⟨119, _⟩ => ⟨S8x4352x3072, .f32⟩
  | .hbm, ⟨120, _⟩ => ⟨S8x4352x3072, .f32⟩
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_3 : Ref sig .tc := ⟨.hbm, 52, rfl⟩
abbrev main_v37 : Ref sig .tc := ⟨.hbm, 53, rfl⟩
abbrev main_v38 : Ref sig .tc := ⟨.hbm, 54, rfl⟩
abbrev main_cst_4 : Ref sig .tc := ⟨.hbm, 55, rfl⟩
abbrev main_v39 : Ref sig .tc := ⟨.hbm, 56, rfl⟩
abbrev main_v40 : Ref sig .tc := ⟨.hbm, 57, rfl⟩
abbrev main_cst_5 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_6 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_7 : Ref sig .tc := ⟨.hbm, 91, rfl⟩
abbrev main_v72 : Ref sig .tc := ⟨.hbm, 92, rfl⟩
abbrev main_v73 : Ref sig .tc := ⟨.hbm, 93, rfl⟩
abbrev main_cst_8 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_cst_9 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_cst_10 : Ref sig .tc := ⟨.hbm, 104, rfl⟩
abbrev main_v82 : Ref sig .tc := ⟨.hbm, 105, rfl⟩
abbrev main_v83 : Ref sig .tc := ⟨.hbm, 106, rfl⟩
abbrev main_cst_11 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_cst_12 : Ref sig .tc := ⟨.hbm, 115, rfl⟩
abbrev main_v91 : Ref sig .tc := ⟨.hbm, 116, rfl⟩
abbrev main_v92 : Ref sig .tc := ⟨.hbm, 117, rfl⟩
abbrev main_cst_13 : Ref sig .tc := ⟨.hbm, 118, rfl⟩
abbrev main_v93 : Ref sig .tc := ⟨.hbm, 119, rfl⟩
abbrev main_v94 : Ref sig .tc := ⟨.hbm, 120, rfl⟩

abbrev nD : Nat := 1
abbrev τ : Topo := Topo.v7x

variable {F : FTy → Type} [FloatOps F]
-- ==== Proof.Frames.lean ====
/-
  The frames of the three programs: each runs to the end, leaves its arguments as they were and every
  semaphore counter at zero.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

noncomputable section

namespace Cert.Proof

open Idealize.ShloMosaic Idealize.ShloMosaic.TcCoe Idealize.SL.Sem

/-- The attention call with its host code, at the bits. -/
theorem kernel_frame : Cert.quiescent_Kernel (hKernel := Cert.Kernel.Gen.facts) :=
  fun m g _ => Cert.Kernel.Gen.frame m g

/-- The same program over the extended reals. -/
theorem kernelIdeal_frame : Cert.quiescent_KernelIdeal (hKernelIdeal := Cert.KernelIdeal.Gen.facts) :=
  fun m g _ => Cert.KernelIdeal.Gen.frame m g

/-- The reference has no semaphore, so its counters have nothing to say. -/
theorem referenceIdeal_frame :
    Cert.quiescent_ReferenceIdeal (hReferenceIdeal := Cert.ReferenceIdeal.Gen.facts) :=
  fun m g _ => (θ_run Cert.ReferenceIdeal.defs _ _).mono
    (fun r h => ⟨fun c => (h c).2, sem_eq_zero_of_no_sems (by decide) r.2⟩)
    (Cert.ReferenceIdeal.Value.run (F := Ideal) m g)

end Cert.Proof

end
-- ==== Proof.Frames2.lean ====
/-
  The frames of the three programs of the gated MLP: each runs to the end, leaves its arguments as they were and every
  semaphore counter at zero.
-/
module

public import proofs.«01_k».proof.Defs
public import proofs.«01_k».proof.Proof.Gen.Kernel2.Frame
public import proofs.«01_k».proof.Proof.Gen.Kernel2Ideal.Frame
public import proofs.«01_k».proof.Proof.Gen.Reference2Ideal.Run
public import Idealize.ShloMosaic.Lib.Quiescent

@[expose] public section

noncomputable section

namespace Cert.Proof

open Idealize.ShloMosaic Idealize.ShloMosaic.TcCoe Idealize.SL.Sem

/-- The gated MLP call with its host code, at the bits. -/
theorem kernel2_frame : Cert.quiescent_Kernel2 (hKernel2 := Cert.Kernel2.Gen.facts) :=
  fun m g _ => Cert.Kernel2.Gen.frame m g

/-- The same program over the extended reals. -/
theorem kernel2Ideal_frame : Cert.quiescent_Kernel2Ideal (hKernel2Ideal := Cert.Kernel2Ideal.Gen.facts) :=
  fun m g _ => Cert.Kernel2Ideal.Gen.frame m g

/-- The reference has no semaphore, so its counters have nothing to say. -/
theorem reference2Ideal_frame :
    Cert.quiescent_Reference2Ideal (hReference2Ideal := Cert.Reference2Ideal.Gen.facts) :=
  fun m g _ => (θ_run Cert.Reference2Ideal.defs _ _).mono
    (fun r h => ⟨fun c => (h c).2, sem_eq_zero_of_no_sems (by decide) r.2⟩)
    (Cert.Reference2Ideal.Value.run (F := Ideal) m g)

end Cert.Proof

end
-- ==== Proof.Frames3.lean ====
/-
  The frames of the three programs of the first layer's gated MLP: each runs to the end, leaves its arguments as they were and every
  semaphore counter at zero.
-/
module

public import proofs.«01_k».proof.Defs
public import proofs.«01_k».proof.Proof.Gen.Kernel3.Frame
public import proofs.«01_k».proof.Proof.Gen.Kernel3Ideal.Frame
public import proofs.«01_k».proof.Proof.Gen.Reference3Ideal.Run
public import Idealize.ShloMosaic.Lib.Quiescent

@[expose] public section

noncomputable section

namespace Cert.Proof

open Idealize.ShloMosaic Idealize.ShloMosaic.TcCoe Idealize.SL.Sem

/-- The gated MLP call with its host code, at the bits. -/
theorem kernel3_frame : Cert.quiescent_Kernel3 (hKernel3 := Cert.Kernel3.Gen.facts) :=
  fun m g _ => Cert.Kernel3.Gen.frame m g

/-- The same program over the extended reals. -/
theorem kernel3Ideal_frame : Cert.quiescent_Kernel3Ideal (hKernel3Ideal := Cert.Kernel3Ideal.Gen.facts) :=
  fun m g _ => Cert.Kernel3Ideal.Gen.frame m g

/-- The reference has no semaphore, so its counters have nothing to say. -/
theorem reference3Ideal_frame :
    Cert.quiescent_Reference3Ideal (hReference3Ideal := Cert.Reference3Ideal.Gen.facts) :=
  fun m g _ => (θ_run Cert.Reference3Ideal.defs _ _).mono
    (fun r h => ⟨fun c => (h c).2, sem_eq_zero_of_no_sems (by decide) r.2⟩)
    (Cert.Reference3Ideal.Value.run (F := Ideal) m g)

end Cert.Proof

end
-- ==== Proof.InFrame.lean ====
/-
  The run of the input projection's program, over any float values: the blocks that one grid point reads and leaves, the
  body at a point, and the launch. Both frames and the value claim rest on it.
-/
module

public import proofs.«01_k».proof.Proof.Gen.Kernel4Ideal.Launch
public import proofs.«01_k».proof.Proof.Gen.Kernel4Ideal.Skeleton
public import proofs.«01_k».proof.Proof.Gen.Kernel4Ideal.Points
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
abbrev V0 (c : Dev nD) : Valuation τ sig (Elt F) := StableHlo.after (List.flatten [hostOps0, hostOps0_1, hostOps0_2, hostOps0_3, hostOps0_4, hostOps0_5, hostOps0_6]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2, hostOps0_3, hostOps0_4, hostOps0_5, hostOps0_6] [hostOps1] (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch₀0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
set_option maxHeartbeats 248000 in
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)

set_option maxHeartbeats 1860000 in
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).1 1).trans (((dats 0 c).arrAt_in 1 rfl _).trans ((hA c 1).trans (V_main_arg0 m c))),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c)),
      (((h c).2 main_arg6 (Pipeline.mem_restRefs_of main_arg6 (by decide) (by decide))).trans (W_main_arg6 m dats c)),
      (((h c).2 main_arg7 (Pipeline.mem_restRefs_of main_arg7 (by decide) (by decide))).trans (W_main_arg7 m dats c)),
      (((h c).2 main_arg8 (Pipeline.mem_restRefs_of main_arg8 (by decide) (by decide))).trans (W_main_arg8 m dats c)),
      (((h c).2 main_arg9 (Pipeline.mem_restRefs_of main_arg9 (by decide) (by decide))).trans (W_main_arg9 m dats c)),
      (((h c).2 main_arg10 (Pipeline.mem_restRefs_of main_arg10 (by decide) (by decide))).trans (W_main_arg10 m dats c))⟩) h

abbrev r0_0 : Rect S1x256x1024 := Rect.unit (s := S1x256x1024) ![0, 0, 0] S1x256x1024.size inb_S1x256x1024_S1x256x1024_0_0_0
abbrev r0_1 : Rect S1x1024 := Rect.unit (s := S1x1024) ![0, 0] S1x1024.size inb_S1x1024_S1x1024_0_0
abbrev r0_2 : Rect S1x6x1024 := Rect.unit (s := S1x6x1024) ![0, 0, 0] S1x1x1024.size inb_S1x6x1024_S1x1x1024_0_0_0
abbrev r0_3 : Rect S1x6x1024 := Rect.unit (s := S1x6x1024) ![0, 1, 0] S1x1x1024.size inb_S1x6x1024_S1x1x1024_0_1_0
abbrev r0_4 : Rect S1024x1024 := Rect.unit (s := S1024x1024) ![0, 0] S1024x512.size inb_S1024x1024_S1024x512_0_0
abbrev r0_5 : Rect S1024x1024 := Rect.unit (s := S1024x1024) ![0, 512] S1024x512.size inb_S1024x1024_S1024x512_0_512
abbrev r0_6 : Rect S1x256x512 := Rect.unit (s := S1x256x512) ![0, 0, 0] S1x256x512.size inb_S1x256x512_S1x256x512_0_0_0
abbrev r0_7 : Rect S1024x3072 := Rect.unit (s := S1024x3072) ![0, 0] S1024x1024.size inb_S1024x3072_S1024x1024_0_0
abbrev r0_8 : Rect S1x256x3072 := Rect.unit (s := S1x256x3072) ![0, 0, 0] S1x256x1024.size inb_S1x256x3072_S1x256x1024_0_0_0
abbrev r0_9 : Rect S1024x3072 := Rect.unit (s := S1024x3072) ![0, 1024] S1024x1024.size inb_S1024x3072_S1024x1024_0_1024
abbrev r0_10 : Rect S1x256x3072 := Rect.unit (s := S1x256x3072) ![0, 0, 1024] S1x256x1024.size inb_S1x256x3072_S1x256x1024_0_0_1024
abbrev r0_11 : Rect S1024x3072 := Rect.unit (s := S1024x3072) ![0, 2048] S1024x1024.size inb_S1024x3072_S1024x1024_0_2048
abbrev r0_12 : Rect S1x256x3072 := Rect.unit (s := S1x256x3072) ![0, 0, 2048] S1x256x1024.size inb_S1x256x3072_S1x256x1024_0_0_2048
abbrev r0_13 : Rect S1024x1024 := Rect.unit (s := S1024x1024) ![0, 0] S1024x1024.size inb_S1024x1024_S1024x1024_0_0
abbrev r0_14 : Rect S16x1024 := Rect.unit (s := S16x1024) ![0, 0] S16x1024.size inb_S16x1024_S16x1024_0_0
abbrev r0_15 : Rect S16x1 := Rect.unit (s := S16x1) ![0, 0] S16x1.size inb_S16x1_S16x1_0_0
abbrev r0_16 : Rect S1x32x256 := Rect.unit (s := S1x32x256) ![0, 0, 0] S1x16x256.size inb_S1x32x256_S1x16x256_0_0_0
abbrev r0_17 : Rect S1x32x256 := Rect.unit (s := S1x32x256) ![0, 16, 0] S1x16x256.size inb_S1x32x256_S1x16x256_0_16_0
abbrev r0_18 : Rect S1x256x1024 := Rect.unit (s := S1x256x1024) ![0, 0, 0] S1x256x128.size inb_S1x256x1024_S1x256x128_0_0_0
abbrev r0_19 : Rect S1x256x1024 := Rect.unit (s := S1x256x1024) ![0, 0, 128] S1x256x128.size inb_S1x256x1024_S1x256x128_0_0_128
abbrev r0_20 : Rect S1x256x1024 := Rect.unit (s := S1x256x1024) ![0, 0, 256] S1x256x128.size inb_S1x256x1024_S1x256x128_0_0_256
abbrev r0_21 : Rect S1x256x1024 := Rect.unit (s := S1x256x1024) ![0, 0, 384] S1x256x128.size inb_S1x256x1024_S1x256x128_0_0_384
abbrev r0_22 : Rect S1x256x1024 := Rect.unit (s := S1x256x1024) ![0, 0, 512] S1x256x128.size inb_S1x256x1024_S1x256x128_0_0_512
abbrev r0_23 : Rect S1x256x1024 := Rect.unit (s := S1x256x1024) ![0, 0, 640] S1x256x128.size inb_S1x256x1024_S1x256x128_0_0_640
abbrev r0_24 : Rect S1x256x1024 := Rect.unit (s := S1x256x1024) ![0, 0, 768] S1x256x128.size inb_S1x256x1024_S1x256x128_0_0_768
abbrev r0_25 : Rect S1x256x1024 := Rect.unit (s := S1x256x1024) ![0, 0, 896] S1x256x128.size inb_S1x256x1024_S1x256x128_0_0_896
abbrev r0_26 : Rect S256x128 := Rect.unit (s := S256x128) ![0, 0] S256x128.size inb_S256x128_S256x128_0_0
abbrev r0_27 : Rect S1024x512 := Rect.unit (s := S1024x512) ![0, 0] S1024x512.size inb_S1024x512_S1024x512_0_0
abbrev r0_28 : Rect S512x512 := Rect.unit (s := S512x512) ![0, 0] S512x512.size inb_S512x512_S512x512_0_0
abbrev r0_29 : Rect S1x512 := Rect.unit (s := S1x512) ![0, 0] S1x512.size inb_S1x512_S1x512_0_0
abbrev r0_30 : Rect S1024x256 := Rect.unit (s := S1024x256) ![0, 0] S1024x256.size inb_S1024x256_S1024x256_0_0
abbrev r0_31 : Rect S256x256 := Rect.unit (s := S256x256) ![0, 0] S256x256.size inb_S256x256_S256x256_0_0
abbrev r0_32 : Rect S1x256 := Rect.unit (s := S1x256) ![0, 0] S1x256.size inb_S1x256_S1x256_0_0
abbrev r0_33 : Rect S1x256x256 := Rect.unit (s := S1x256x256) ![0, 0, 0] S1x256x256.size inb_S1x256x256_S1x256x256_0_0_0
abbrev r0_34 : Rect S1x3072 := Rect.unit (s := S1x3072) ![0, 0] S1x1024.size inb_S1x3072_S1x1024_0_0
abbrev r0_35 : Rect S1x3072 := Rect.unit (s := S1x3072) ![0, 1024] S1x1024.size inb_S1x3072_S1x1024_0_1024
abbrev r0_36 : Rect S1x3072 := Rect.unit (s := S1x3072) ![0, 2048] S1x1024.size inb_S1x3072_S1x1024_0_2048

def k0_pay54 (i : grid0.Coords) (x0 : Vec F S1x256x1024 .f32) (x1 : Vec F S1x256x1024 .f32) (x2 : Vec F S1x6x1024 .f32) (x3 : Vec F S1x1024 .f32) (x4 : Vec F S1024x1024 .bf16) (x5 : Vec F S1024x3072 .bf16) (x6 : Vec F S1024x1024 .bf16) (x7 : Vec F S16x1024 .bf16) (x8 : Vec F S16x1 .f32) (x9 : Vec F S1024x512 .bf16) (x10 : Vec F S1024x256 .bf16) (x11 : Vec F S1024x256 .bf16) (x12 : Vec F S1024x3072 .bf16) (x13 : Vec F S1x3072 .f32) (x14 : Vec F S1x512 .f32) (x15 : Vec F S1x256 .f32) (x16 : Vec F S512x512 .bf16) (x17 : Vec F S256x256 .bf16) (x18 : Vec F S256x128 .f32) (x19 : Vec F S256x128 .f32) (x20 : Vec F S1x256 .f32) : FVec F S256x1024 .bf16 :=
  k0_pay3 i (View.ld x0 r0_0) (View.ld x1 r0_0) (View.ld x3 r0_1) (View.ld x2 r0_2) (View.ld x2 r0_3)
def k0_pay55 (i : grid0.Coords) (x0 : Vec F S1x256x1024 .f32) (x1 : Vec F S1x256x1024 .f32) (x2 : Vec F S1x6x1024 .f32) (x3 : Vec F S1x1024 .f32) (x4 : Vec F S1024x1024 .bf16) (x5 : Vec F S1024x3072 .bf16) (x6 : Vec F S1024x1024 .bf16) (x7 : Vec F S16x1024 .bf16) (x8 : Vec F S16x1 .f32) (x9 : Vec F S1024x512 .bf16) (x10 : Vec F S1024x256 .bf16) (x11 : Vec F S1024x256 .bf16) (x12 : Vec F S1024x3072 .bf16) (x13 : Vec F S1x3072 .f32) (x14 : Vec F S1x512 .f32) (x15 : Vec F S1x256 .f32) (x16 : Vec F S512x512 .bf16) (x17 : Vec F S256x256 .bf16) (x18 : Vec F S256x128 .f32) (x19 : Vec F S256x128 .f32) (x20 : Vec F S1x256 .f32) : IVec S16x256 32 :=
  iota .tc S16x256 32 [0] iota_S16x256_d0_w32
def k0_pay56 (i : grid0.Coords) (x0 : Vec F S1x256x1024 .f32) (x1 : Vec F S1x256x1024 .f32) (x2 : Vec F S1x6x1024 .f32) (x3 : Vec F S1x1024 .f32) (x4 : Vec F S1024x1024 .bf16) (x5 : Vec F S1024x3072 .bf16) (x6 : Vec F S1024x1024 .bf16) (x7 : Vec F S16x1024 .bf16) (x8 : Vec F S16x1 .f32) (x9 : Vec F S1024x512 .bf16) (x10 : Vec F S1024x256 .bf16) (x11 : Vec F S1024x256 .bf16) (x12 : Vec F S1024x3072 .bf16) (x13 : Vec F S1x3072 .f32) (x14 : Vec F S1x512 .f32) (x15 : Vec F S1x256 .f32) (x16 : Vec F S512x512 .bf16) (x17 : Vec F S256x256 .bf16) (x18 : Vec F S256x128 .f32) (x19 : Vec F S256x128 .f32) (x20 : Vec F S1x256 .f32) : FVec F S16x256 .f32 :=
  k0_pay11 (k0_pay54 i x0 x1 x2 x3 x4 x5 x6 x7 x8 x9 x10 x11 x12 x13 x14 x15 x16 x17 x18 x19 x20) (View.ld x7 r0_14) (View.ld x8 r0_15)
def k0_pay57 (i : grid0.Coords) (x0 : Vec F S1x256x1024 .f32) (x1 : Vec F S1x256x1024 .f32) (x2 : Vec F S1x6x1024 .f32) (x3 : Vec F S1x1024 .f32) (x4 : Vec F S1024x1024 .bf16) (x5 : Vec F S1024x3072 .bf16) (x6 : Vec F S1024x1024 .bf16) (x7 : Vec F S16x1024 .bf16) (x8 : Vec F S16x1 .f32) (x9 : Vec F S1024x512 .bf16) (x10 : Vec F S1024x256 .bf16) (x11 : Vec F S1024x256 .bf16) (x12 : Vec F S1024x3072 .bf16) (x13 : Vec F S1x3072 .f32) (x14 : Vec F S1x512 .f32) (x15 : Vec F S1x256 .f32) (x16 : Vec F S512x512 .bf16) (x17 : Vec F S256x256 .bf16) (x18 : Vec F S256x128 .f32) (x19 : Vec F S256x128 .f32) (x20 : Vec F S1x256 .f32) : IVec S16x256 32 :=
  k0_pay12
def k0_pay58 (i : grid0.Coords) (x0 : Vec F S1x256x1024 .f32) (x1 : Vec F S1x256x1024 .f32) (x2 : Vec F S1x6x1024 .f32) (x3 : Vec F S1x1024 .f32) (x4 : Vec F S1024x1024 .bf16) (x5 : Vec F S1024x3072 .bf16) (x6 : Vec F S1024x1024 .bf16) (x7 : Vec F S16x1024 .bf16) (x8 : Vec F S16x1 .f32) (x9 : Vec F S1024x512 .bf16) (x10 : Vec F S1024x256 .bf16) (x11 : Vec F S1024x256 .bf16) (x12 : Vec F S1024x3072 .bf16) (x13 : Vec F S1x3072 .f32) (x14 : Vec F S1x512 .f32) (x15 : Vec F S1x256 .f32) (x16 : Vec F S512x512 .bf16) (x17 : Vec F S256x256 .bf16) (x18 : Vec F S256x128 .f32) (x19 : Vec F S256x128 .f32) (x20 : Vec F S1x256 .f32) : IVec S16x256 32 :=
  k0_pay13
def k0_pay59 (i : grid0.Coords) (x0 : Vec F S1x256x1024 .f32) (x1 : Vec F S1x256x1024 .f32) (x2 : Vec F S1x6x1024 .f32) (x3 : Vec F S1x1024 .f32) (x4 : Vec F S1024x1024 .bf16) (x5 : Vec F S1024x3072 .bf16) (x6 : Vec F S1024x1024 .bf16) (x7 : Vec F S16x1024 .bf16) (x8 : Vec F S16x1 .f32) (x9 : Vec F S1024x512 .bf16) (x10 : Vec F S1024x256 .bf16) (x11 : Vec F S1024x256 .bf16) (x12 : Vec F S1024x3072 .bf16) (x13 : Vec F S1x3072 .f32) (x14 : Vec F S1x512 .f32) (x15 : Vec F S1x256 .f32) (x16 : Vec F S512x512 .bf16) (x17 : Vec F S256x256 .bf16) (x18 : Vec F S256x128 .f32) (x19 : Vec F S256x128 .f32) (x20 : Vec F S1x256 .f32) : IVec S256x256 32 :=
  iota .tc S256x256 32 [0] iota_S256x256_d0_w32
def k0_pay60 (i : grid0.Coords) (x0 : Vec F S1x256x1024 .f32) (x1 : Vec F S1x256x1024 .f32) (x2 : Vec F S1x6x1024 .f32) (x3 : Vec F S1x1024 .f32) (x4 : Vec F S1024x1024 .bf16) (x5 : Vec F S1024x3072 .bf16) (x6 : Vec F S1024x1024 .bf16) (x7 : Vec F S16x1024 .bf16) (x8 : Vec F S16x1 .f32) (x9 : Vec F S1024x512 .bf16) (x10 : Vec F S1024x256 .bf16) (x11 : Vec F S1024x256 .bf16) (x12 : Vec F S1024x3072 .bf16) (x13 : Vec F S1x3072 .f32) (x14 : Vec F S1x512 .f32) (x15 : Vec F S1x256 .f32) (x16 : Vec F S512x512 .bf16) (x17 : Vec F S256x256 .bf16) (x18 : Vec F S256x128 .f32) (x19 : Vec F S256x128 .f32) (x20 : Vec F S1x256 .f32) : IVec S256x256 32 :=
  iota .tc S256x256 32 [1] iota_S256x256_d1_w32
def k0_pay61 (i : grid0.Coords) (x0 : Vec F S1x256x1024 .f32) (x1 : Vec F S1x256x1024 .f32) (x2 : Vec F S1x6x1024 .f32) (x3 : Vec F S1x1024 .f32) (x4 : Vec F S1024x1024 .bf16) (x5 : Vec F S1024x3072 .bf16) (x6 : Vec F S1024x1024 .bf16) (x7 : Vec F S16x1024 .bf16) (x8 : Vec F S16x1 .f32) (x9 : Vec F S1024x512 .bf16) (x10 : Vec F S1024x256 .bf16) (x11 : Vec F S1024x256 .bf16) (x12 : Vec F S1024x3072 .bf16) (x13 : Vec F S1x3072 .f32) (x14 : Vec F S1x512 .f32) (x15 : Vec F S1x256 .f32) (x16 : Vec F S512x512 .bf16) (x17 : Vec F S256x256 .bf16) (x18 : Vec F S256x128 .f32) (x19 : Vec F S256x128 .f32) (x20 : Vec F S1x256 .f32) : FVec F S16x256 .f32 :=
  k0_pay14 (k0_pay56 i x0 x1 x2 x3 x4 x5 x6 x7 x8 x9 x10 x11 x12 x13 x14 x15 x16 x17 x18 x19 x20) (k0_pay55 i x0 x1 x2 x3 x4 x5 x6 x7 x8 x9 x10 x11 x12 x13 x14 x15 x16 x17 x18 x19 x20) 4#32 (k0_pay57 i x0 x1 x2 x3 x4 x5 x6 x7 x8 x9 x10 x11 x12 x13 x14 x15 x16 x17 x18 x19 x20) (k0_pay58 i x0 x1 x2 x3 x4 x5 x6 x7 x8 x9 x10 x11 x12 x13 x14 x15 x16 x17 x18 x19 x20) 0#32
def k0_pay62 (i : grid0.Coords) (x0 : Vec F S1x256x1024 .f32) (x1 : Vec F S1x256x1024 .f32) (x2 : Vec F S1x6x1024 .f32) (x3 : Vec F S1x1024 .f32) (x4 : Vec F S1024x1024 .bf16) (x5 : Vec F S1024x3072 .bf16) (x6 : Vec F S1024x1024 .bf16) (x7 : Vec F S16x1024 .bf16) (x8 : Vec F S16x1 .f32) (x9 : Vec F S1024x512 .bf16) (x10 : Vec F S1024x256 .bf16) (x11 : Vec F S1024x256 .bf16) (x12 : Vec F S1024x3072 .bf16) (x13 : Vec F S1x3072 .f32) (x14 : Vec F S1x512 .f32) (x15 : Vec F S1x256 .f32) (x16 : Vec F S512x512 .bf16) (x17 : Vec F S256x256 .bf16) (x18 : Vec F S256x128 .f32) (x19 : Vec F S256x128 .f32) (x20 : Vec F S1x256 .f32) : FVec F S16x256 .bf16 :=
  k0_pay15 (k0_pay56 i x0 x1 x2 x3 x4 x5 x6 x7 x8 x9 x10 x11 x12 x13 x14 x15 x16 x17 x18 x19 x20) (k0_pay55 i x0 x1 x2 x3 x4 x5 x6 x7 x8 x9 x10 x11 x12 x13 x14 x15 x16 x17 x18 x19 x20) 4#32 (k0_pay57 i x0 x1 x2 x3 x4 x5 x6 x7 x8 x9 x10 x11 x12 x13 x14 x15 x16 x17 x18 x19 x20) (k0_pay58 i x0 x1 x2 x3 x4 x5 x6 x7 x8 x9 x10 x11 x12 x13 x14 x15 x16 x17 x18 x19 x20) 0#32
def k0_pay63 (i : grid0.Coords) (x0 : Vec F S1x256x1024 .f32) (x1 : Vec F S1x256x1024 .f32) (x2 : Vec F S1x6x1024 .f32) (x3 : Vec F S1x1024 .f32) (x4 : Vec F S1024x1024 .bf16) (x5 : Vec F S1024x3072 .bf16) (x6 : Vec F S1024x1024 .bf16) (x7 : Vec F S16x1024 .bf16) (x8 : Vec F S16x1 .f32) (x9 : Vec F S1024x512 .bf16) (x10 : Vec F S1024x256 .bf16) (x11 : Vec F S1024x256 .bf16) (x12 : Vec F S1024x3072 .bf16) (x13 : Vec F S1x3072 .f32) (x14 : Vec F S1x512 .f32) (x15 : Vec F S1x256 .f32) (x16 : Vec F S512x512 .bf16) (x17 : Vec F S256x256 .bf16) (x18 : Vec F S256x128 .f32) (x19 : Vec F S256x128 .f32) (x20 : Vec F S1x256 .f32) : FVec F S16x256 .f32 :=
  k0_pay16 (k0_pay56 i x0 x1 x2 x3 x4 x5 x6 x7 x8 x9 x10 x11 x12 x13 x14 x15 x16 x17 x18 x19 x20) (k0_pay55 i x0 x1 x2 x3 x4 x5 x6 x7 x8 x9 x10 x11 x12 x13 x14 x15 x16 x17 x18 x19 x20) 4#32 (k0_pay57 i x0 x1 x2 x3 x4 x5 x6 x7 x8 x9 x10 x11 x12 x13 x14 x15 x16 x17 x18 x19 x20) (k0_pay58 i x0 x1 x2 x3 x4 x5 x6 x7 x8 x9 x10 x11 x12 x13 x14 x15 x16 x17 x18 x19 x20) 0#32
def k0_pay64 (i : grid0.Coords) (x0 : Vec F S1x256x1024 .f32) (x1 : Vec F S1x256x1024 .f32) (x2 : Vec F S1x6x1024 .f32) (x3 : Vec F S1x1024 .f32) (x4 : Vec F S1024x1024 .bf16) (x5 : Vec F S1024x3072 .bf16) (x6 : Vec F S1024x1024 .bf16) (x7 : Vec F S16x1024 .bf16) (x8 : Vec F S16x1 .f32) (x9 : Vec F S1024x512 .bf16) (x10 : Vec F S1024x256 .bf16) (x11 : Vec F S1024x256 .bf16) (x12 : Vec F S1024x3072 .bf16) (x13 : Vec F S1x3072 .f32) (x14 : Vec F S1x512 .f32) (x15 : Vec F S1x256 .f32) (x16 : Vec F S512x512 .bf16) (x17 : Vec F S256x256 .bf16) (x18 : Vec F S256x128 .f32) (x19 : Vec F S256x128 .f32) (x20 : Vec F S1x256 .f32) : FVec F S16x256 .bf16 :=
  k0_pay17 (k0_pay56 i x0 x1 x2 x3 x4 x5 x6 x7 x8 x9 x10 x11 x12 x13 x14 x15 x16 x17 x18 x19 x20) (k0_pay55 i x0 x1 x2 x3 x4 x5 x6 x7 x8 x9 x10 x11 x12 x13 x14 x15 x16 x17 x18 x19 x20) 4#32 (k0_pay57 i x0 x1 x2 x3 x4 x5 x6 x7 x8 x9 x10 x11 x12 x13 x14 x15 x16 x17 x18 x19 x20) (k0_pay58 i x0 x1 x2 x3 x4 x5 x6 x7 x8 x9 x10 x11 x12 x13 x14 x15 x16 x17 x18 x19 x20) 0#32
def k0_pay65 (i : grid0.Coords) (x0 : Vec F S1x256x1024 .f32) (x1 : Vec F S1x256x1024 .f32) (x2 : Vec F S1x6x1024 .f32) (x3 : Vec F S1x1024 .f32) (x4 : Vec F S1024x1024 .bf16) (x5 : Vec F S1024x3072 .bf16) (x6 : Vec F S1024x1024 .bf16) (x7 : Vec F S16x1024 .bf16) (x8 : Vec F S16x1 .f32) (x9 : Vec F S1024x512 .bf16) (x10 : Vec F S1024x256 .bf16) (x11 : Vec F S1024x256 .bf16) (x12 : Vec F S1024x3072 .bf16) (x13 : Vec F S1x3072 .f32) (x14 : Vec F S1x512 .f32) (x15 : Vec F S1x256 .f32) (x16 : Vec F S512x512 .bf16) (x17 : Vec F S256x256 .bf16) (x18 : Vec F S256x128 .f32) (x19 : Vec F S256x128 .f32) (x20 : Vec F S1x256 .f32) : FVec F S256x128 .f32 :=
  k0_pay21 (k0_pay55 i x0 x1 x2 x3 x4 x5 x6 x7 x8 x9 x10 x11 x12 x13 x14 x15 x16 x17 x18 x19 x20) (k0_pay61 i x0 x1 x2 x3 x4 x5 x6 x7 x8 x9 x10 x11 x12 x13 x14 x15 x16 x17 x18 x19 x20) (k0_pay59 i x0 x1 x2 x3 x4 x5 x6 x7 x8 x9 x10 x11 x12 x13 x14 x15 x16 x17 x18 x19 x20) (k0_pay60 i x0 x1 x2 x3 x4 x5 x6 x7 x8 x9 x10 x11 x12 x13 x14 x15 x16 x17 x18 x19 x20) (k0_pay62 i x0 x1 x2 x3 x4 x5 x6 x7 x8 x9 x10 x11 x12 x13 x14 x15 x16 x17 x18 x19 x20) (k0_pay63 i x0 x1 x2 x3 x4 x5 x6 x7 x8 x9 x10 x11 x12 x13 x14 x15 x16 x17 x18 x19 x20) (k0_pay64 i x0 x1 x2 x3 x4 x5 x6 x7 x8 x9 x10 x11 x12 x13 x14 x15 x16 x17 x18 x19 x20)
def k0_pay66 (i : grid0.Coords) (x0 : Vec F S1x256x1024 .f32) (x1 : Vec F S1x256x1024 .f32) (x2 : Vec F S1x6x1024 .f32) (x3 : Vec F S1x1024 .f32) (x4 : Vec F S1024x1024 .bf16) (x5 : Vec F S1024x3072 .bf16) (x6 : Vec F S1024x1024 .bf16) (x7 : Vec F S16x1024 .bf16) (x8 : Vec F S16x1 .f32) (x9 : Vec F S1024x512 .bf16) (x10 : Vec F S1024x256 .bf16) (x11 : Vec F S1024x256 .bf16) (x12 : Vec F S1024x3072 .bf16) (x13 : Vec F S1x3072 .f32) (x14 : Vec F S1x512 .f32) (x15 : Vec F S1x256 .f32) (x16 : Vec F S512x512 .bf16) (x17 : Vec F S256x256 .bf16) (x18 : Vec F S256x128 .f32) (x19 : Vec F S256x128 .f32) (x20 : Vec F S1x256 .f32) : FVec F S256x128 .f32 :=
  k0_pay41 (View.ld x18 r0_26)
def k0_pay67 (i : grid0.Coords) (x0 : Vec F S1x256x1024 .f32) (x1 : Vec F S1x256x1024 .f32) (x2 : Vec F S1x6x1024 .f32) (x3 : Vec F S1x1024 .f32) (x4 : Vec F S1024x1024 .bf16) (x5 : Vec F S1024x3072 .bf16) (x6 : Vec F S1024x1024 .bf16) (x7 : Vec F S16x1024 .bf16) (x8 : Vec F S16x1 .f32) (x9 : Vec F S1024x512 .bf16) (x10 : Vec F S1024x256 .bf16) (x11 : Vec F S1024x256 .bf16) (x12 : Vec F S1024x3072 .bf16) (x13 : Vec F S1x3072 .f32) (x14 : Vec F S1x512 .f32) (x15 : Vec F S1x256 .f32) (x16 : Vec F S512x512 .bf16) (x17 : Vec F S256x256 .bf16) (x18 : Vec F S256x128 .f32) (x19 : Vec F S256x128 .f32) (x20 : Vec F S1x256 .f32) : FVec F S256x128 .f32 :=
  k0_pay42 (View.ld x19 r0_26)

def out0_21 (i : grid0.Coords) (x0 : Vec F S1x256x1024 .f32) (x1 : Vec F S1x256x1024 .f32) (x2 : Vec F S1x6x1024 .f32) (x3 : Vec F S1x1024 .f32) (x4 : Vec F S1024x1024 .bf16) (x5 : Vec F S1024x3072 .bf16) (x6 : Vec F S1024x1024 .bf16) (x7 : Vec F S16x1024 .bf16) (x8 : Vec F S16x1 .f32) (x9 : Vec F S1024x512 .bf16) (x10 : Vec F S1024x256 .bf16) (x11 : Vec F S1024x256 .bf16) (x12 : Vec F S1024x3072 .bf16) (x13 : Vec F S1x3072 .f32) (x14 : Vec F S1x512 .f32) (x15 : Vec F S1x256 .f32) (x16 : Vec F S512x512 .bf16) (x17 : Vec F S256x256 .bf16) (x18 : Vec F S256x128 .f32) (x19 : Vec F S256x128 .f32) (x20 : Vec F S1x256 .f32) : Vec F S1x256x512 .bf16 :=
  View.canon [⟨r0_6, k0_pay5 (k0_pay54 i x0 x1 x2 x3 x4 x5 x6 x7 x8 x9 x10 x11 x12 x13 x14 x15 x16 x17 x18 x19 x20) (k0_pay4 i (View.ld x0 r0_0) (View.ld x1 r0_0) (View.ld x3 r0_1) (View.ld x2 r0_2) (View.ld x2 r0_3) (View.ld x4 r0_4)) (View.ld x4 r0_5)⟩]

theorem cover0_21 (p0 : Vec F S1x256x512 .bf16) (y : S1x256x512.Idx) :
    ∃ pc ∈ ([⟨r0_6, p0⟩] : List (View.Piece (Elt F) S1x256x512 .bf16)), y ∈ pc.1.set :=
  View.cover_of_tiled [⟨r0_6, p0⟩] S1x256x512.size (by rfl) y

def out0_22 (i : grid0.Coords) (x0 : Vec F S1x256x1024 .f32) (x1 : Vec F S1x256x1024 .f32) (x2 : Vec F S1x6x1024 .f32) (x3 : Vec F S1x1024 .f32) (x4 : Vec F S1024x1024 .bf16) (x5 : Vec F S1024x3072 .bf16) (x6 : Vec F S1024x1024 .bf16) (x7 : Vec F S16x1024 .bf16) (x8 : Vec F S16x1 .f32) (x9 : Vec F S1024x512 .bf16) (x10 : Vec F S1024x256 .bf16) (x11 : Vec F S1024x256 .bf16) (x12 : Vec F S1024x3072 .bf16) (x13 : Vec F S1x3072 .f32) (x14 : Vec F S1x512 .f32) (x15 : Vec F S1x256 .f32) (x16 : Vec F S512x512 .bf16) (x17 : Vec F S256x256 .bf16) (x18 : Vec F S256x128 .f32) (x19 : Vec F S256x128 .f32) (x20 : Vec F S1x256 .f32) : Vec F S1x256x3072 .bf16 :=
  View.canon [⟨r0_12, k0_pay9 (k0_pay54 i x0 x1 x2 x3 x4 x5 x6 x7 x8 x9 x10 x11 x12 x13 x14 x15 x16 x17 x18 x19 x20) (k0_pay8 (View.ld x5 r0_11))⟩,
    ⟨r0_10, k0_pay7 (k0_pay54 i x0 x1 x2 x3 x4 x5 x6 x7 x8 x9 x10 x11 x12 x13 x14 x15 x16 x17 x18 x19 x20) (View.ld x5 r0_9)⟩,
    ⟨r0_8, k0_pay6 (k0_pay54 i x0 x1 x2 x3 x4 x5 x6 x7 x8 x9 x10 x11 x12 x13 x14 x15 x16 x17 x18 x19 x20) (View.ld x5 r0_7)⟩]

theorem cover0_22 (p0 : Vec F S1x256x1024 .bf16) (p1 : Vec F S1x256x1024 .bf16) (p2 : Vec F S1x256x1024 .bf16) (y : S1x256x3072.Idx) :
    ∃ pc ∈ ([⟨r0_12, p0⟩, ⟨r0_10, p1⟩, ⟨r0_8, p2⟩] : List (View.Piece (Elt F) S1x256x3072 .bf16)), y ∈ pc.1.set :=
  View.cover_of_tiled [⟨r0_12, p0⟩, ⟨r0_10, p1⟩, ⟨r0_8, p2⟩] S1x256x1024.size (by rfl) y

def out0_23 (i : grid0.Coords) (x0 : Vec F S1x256x1024 .f32) (x1 : Vec F S1x256x1024 .f32) (x2 : Vec F S1x6x1024 .f32) (x3 : Vec F S1x1024 .f32) (x4 : Vec F S1024x1024 .bf16) (x5 : Vec F S1024x3072 .bf16) (x6 : Vec F S1024x1024 .bf16) (x7 : Vec F S16x1024 .bf16) (x8 : Vec F S16x1 .f32) (x9 : Vec F S1024x512 .bf16) (x10 : Vec F S1024x256 .bf16) (x11 : Vec F S1024x256 .bf16) (x12 : Vec F S1024x3072 .bf16) (x13 : Vec F S1x3072 .f32) (x14 : Vec F S1x512 .f32) (x15 : Vec F S1x256 .f32) (x16 : Vec F S512x512 .bf16) (x17 : Vec F S256x256 .bf16) (x18 : Vec F S256x128 .f32) (x19 : Vec F S256x128 .f32) (x20 : Vec F S1x256 .f32) : Vec F S1x256x1024 .bf16 :=
  View.canon [⟨r0_0, k0_pay10 (k0_pay54 i x0 x1 x2 x3 x4 x5 x6 x7 x8 x9 x10 x11 x12 x13 x14 x15 x16 x17 x18 x19 x20) (View.ld x6 r0_13)⟩]

theorem cover0_23 (p0 : Vec F S1x256x1024 .bf16) (y : S1x256x1024.Idx) :
    ∃ pc ∈ ([⟨r0_0, p0⟩] : List (View.Piece (Elt F) S1x256x1024 .bf16)), y ∈ pc.1.set :=
  View.cover_of_tiled [⟨r0_0, p0⟩] S1x256x1024.size (by rfl) y

def out0_24 (i : grid0.Coords) (x0 : Vec F S1x256x1024 .f32) (x1 : Vec F S1x256x1024 .f32) (x2 : Vec F S1x6x1024 .f32) (x3 : Vec F S1x1024 .f32) (x4 : Vec F S1024x1024 .bf16) (x5 : Vec F S1024x3072 .bf16) (x6 : Vec F S1024x1024 .bf16) (x7 : Vec F S16x1024 .bf16) (x8 : Vec F S16x1 .f32) (x9 : Vec F S1024x512 .bf16) (x10 : Vec F S1024x256 .bf16) (x11 : Vec F S1024x256 .bf16) (x12 : Vec F S1024x3072 .bf16) (x13 : Vec F S1x3072 .f32) (x14 : Vec F S1x512 .f32) (x15 : Vec F S1x256 .f32) (x16 : Vec F S512x512 .bf16) (x17 : Vec F S256x256 .bf16) (x18 : Vec F S256x128 .f32) (x19 : Vec F S256x128 .f32) (x20 : Vec F S1x256 .f32) : Vec F S1x32x256 .f32 :=
  View.canon [⟨r0_17, k0_pay20 (k0_pay55 i x0 x1 x2 x3 x4 x5 x6 x7 x8 x9 x10 x11 x12 x13 x14 x15 x16 x17 x18 x19 x20) (k0_pay61 i x0 x1 x2 x3 x4 x5 x6 x7 x8 x9 x10 x11 x12 x13 x14 x15 x16 x17 x18 x19 x20) (k0_pay59 i x0 x1 x2 x3 x4 x5 x6 x7 x8 x9 x10 x11 x12 x13 x14 x15 x16 x17 x18 x19 x20) (k0_pay60 i x0 x1 x2 x3 x4 x5 x6 x7 x8 x9 x10 x11 x12 x13 x14 x15 x16 x17 x18 x19 x20) (k0_pay62 i x0 x1 x2 x3 x4 x5 x6 x7 x8 x9 x10 x11 x12 x13 x14 x15 x16 x17 x18 x19 x20) (k0_pay63 i x0 x1 x2 x3 x4 x5 x6 x7 x8 x9 x10 x11 x12 x13 x14 x15 x16 x17 x18 x19 x20) (k0_pay64 i x0 x1 x2 x3 x4 x5 x6 x7 x8 x9 x10 x11 x12 x13 x14 x15 x16 x17 x18 x19 x20)⟩,
    ⟨r0_16, k0_pay19 (k0_pay61 i x0 x1 x2 x3 x4 x5 x6 x7 x8 x9 x10 x11 x12 x13 x14 x15 x16 x17 x18 x19 x20)⟩]

theorem cover0_24 (p0 : Vec F S1x16x256 .f32) (p1 : Vec F S1x16x256 .f32) (y : S1x32x256.Idx) :
    ∃ pc ∈ ([⟨r0_17, p0⟩, ⟨r0_16, p1⟩] : List (View.Piece (Elt F) S1x32x256 .f32)), y ∈ pc.1.set :=
  View.cover_of_tiled [⟨r0_17, p0⟩, ⟨r0_16, p1⟩] S1x16x256.size (by rfl) y

def out0_25 (i : grid0.Coords) (x0 : Vec F S1x256x1024 .f32) (x1 : Vec F S1x256x1024 .f32) (x2 : Vec F S1x6x1024 .f32) (x3 : Vec F S1x1024 .f32) (x4 : Vec F S1024x1024 .bf16) (x5 : Vec F S1024x3072 .bf16) (x6 : Vec F S1024x1024 .bf16) (x7 : Vec F S16x1024 .bf16) (x8 : Vec F S16x1 .f32) (x9 : Vec F S1024x512 .bf16) (x10 : Vec F S1024x256 .bf16) (x11 : Vec F S1024x256 .bf16) (x12 : Vec F S1024x3072 .bf16) (x13 : Vec F S1x3072 .f32) (x14 : Vec F S1x512 .f32) (x15 : Vec F S1x256 .f32) (x16 : Vec F S512x512 .bf16) (x17 : Vec F S256x256 .bf16) (x18 : Vec F S256x128 .f32) (x19 : Vec F S256x128 .f32) (x20 : Vec F S1x256 .f32) : Vec F S1x256x1024 .f32 :=
  View.canon [⟨r0_25, k0_pay31 (k0_pay30 (k0_pay65 i x0 x1 x2 x3 x4 x5 x6 x7 x8 x9 x10 x11 x12 x13 x14 x15 x16 x17 x18 x19 x20))⟩,
    ⟨r0_24, k0_pay29 (k0_pay65 i x0 x1 x2 x3 x4 x5 x6 x7 x8 x9 x10 x11 x12 x13 x14 x15 x16 x17 x18 x19 x20)⟩,
    ⟨r0_23, k0_pay28 (k0_pay65 i x0 x1 x2 x3 x4 x5 x6 x7 x8 x9 x10 x11 x12 x13 x14 x15 x16 x17 x18 x19 x20)⟩,
    ⟨r0_22, k0_pay27 (k0_pay65 i x0 x1 x2 x3 x4 x5 x6 x7 x8 x9 x10 x11 x12 x13 x14 x15 x16 x17 x18 x19 x20)⟩,
    ⟨r0_21, k0_pay26 (k0_pay65 i x0 x1 x2 x3 x4 x5 x6 x7 x8 x9 x10 x11 x12 x13 x14 x15 x16 x17 x18 x19 x20)⟩,
    ⟨r0_20, k0_pay25 (k0_pay65 i x0 x1 x2 x3 x4 x5 x6 x7 x8 x9 x10 x11 x12 x13 x14 x15 x16 x17 x18 x19 x20)⟩,
    ⟨r0_19, k0_pay24 (k0_pay23 (k0_pay55 i x0 x1 x2 x3 x4 x5 x6 x7 x8 x9 x10 x11 x12 x13 x14 x15 x16 x17 x18 x19 x20) (k0_pay61 i x0 x1 x2 x3 x4 x5 x6 x7 x8 x9 x10 x11 x12 x13 x14 x15 x16 x17 x18 x19 x20) (k0_pay59 i x0 x1 x2 x3 x4 x5 x6 x7 x8 x9 x10 x11 x12 x13 x14 x15 x16 x17 x18 x19 x20) (k0_pay60 i x0 x1 x2 x3 x4 x5 x6 x7 x8 x9 x10 x11 x12 x13 x14 x15 x16 x17 x18 x19 x20) (k0_pay62 i x0 x1 x2 x3 x4 x5 x6 x7 x8 x9 x10 x11 x12 x13 x14 x15 x16 x17 x18 x19 x20) (k0_pay63 i x0 x1 x2 x3 x4 x5 x6 x7 x8 x9 x10 x11 x12 x13 x14 x15 x16 x17 x18 x19 x20) (k0_pay64 i x0 x1 x2 x3 x4 x5 x6 x7 x8 x9 x10 x11 x12 x13 x14 x15 x16 x17 x18 x19 x20))⟩,
    ⟨r0_18, k0_pay22 (k0_pay55 i x0 x1 x2 x3 x4 x5 x6 x7 x8 x9 x10 x11 x12 x13 x14 x15 x16 x17 x18 x19 x20) (k0_pay61 i x0 x1 x2 x3 x4 x5 x6 x7 x8 x9 x10 x11 x12 x13 x14 x15 x16 x17 x18 x19 x20) (k0_pay59 i x0 x1 x2 x3 x4 x5 x6 x7 x8 x9 x10 x11 x12 x13 x14 x15 x16 x17 x18 x19 x20) (k0_pay60 i x0 x1 x2 x3 x4 x5 x6 x7 x8 x9 x10 x11 x12 x13 x14 x15 x16 x17 x18 x19 x20) (k0_pay62 i x0 x1 x2 x3 x4 x5 x6 x7 x8 x9 x10 x11 x12 x13 x14 x15 x16 x17 x18 x19 x20) (k0_pay63 i x0 x1 x2 x3 x4 x5 x6 x7 x8 x9 x10 x11 x12 x13 x14 x15 x16 x17 x18 x19 x20) (k0_pay64 i x0 x1 x2 x3 x4 x5 x6 x7 x8 x9 x10 x11 x12 x13 x14 x15 x16 x17 x18 x19 x20)⟩]

theorem cover0_25 (p0 : Vec F S1x256x128 .f32) (p1 : Vec F S1x256x128 .f32) (p2 : Vec F S1x256x128 .f32) (p3 : Vec F S1x256x128 .f32) (p4 : Vec F S1x256x128 .f32) (p5 : Vec F S1x256x128 .f32) (p6 : Vec F S1x256x128 .f32) (p7 : Vec F S1x256x128 .f32) (y : S1x256x1024.Idx) :
    ∃ pc ∈ ([⟨r0_25, p0⟩, ⟨r0_24, p1⟩, ⟨r0_23, p2⟩, ⟨r0_22, p3⟩, ⟨r0_21, p4⟩, ⟨r0_20, p5⟩, ⟨r0_19, p6⟩, ⟨r0_18, p7⟩] : List (View.Piece (Elt F) S1x256x1024 .f32)), y ∈ pc.1.set :=
  View.cover_of_tiled [⟨r0_25, p0⟩, ⟨r0_24, p1⟩, ⟨r0_23, p2⟩, ⟨r0_22, p3⟩, ⟨r0_21, p4⟩, ⟨r0_20, p5⟩, ⟨r0_19, p6⟩, ⟨r0_18, p7⟩] S1x256x128.size (by rfl) y

def out0_26 (i : grid0.Coords) (x0 : Vec F S1x256x1024 .f32) (x1 : Vec F S1x256x1024 .f32) (x2 : Vec F S1x6x1024 .f32) (x3 : Vec F S1x1024 .f32) (x4 : Vec F S1024x1024 .bf16) (x5 : Vec F S1024x3072 .bf16) (x6 : Vec F S1024x1024 .bf16) (x7 : Vec F S16x1024 .bf16) (x8 : Vec F S16x1 .f32) (x9 : Vec F S1024x512 .bf16) (x10 : Vec F S1024x256 .bf16) (x11 : Vec F S1024x256 .bf16) (x12 : Vec F S1024x3072 .bf16) (x13 : Vec F S1x3072 .f32) (x14 : Vec F S1x512 .f32) (x15 : Vec F S1x256 .f32) (x16 : Vec F S512x512 .bf16) (x17 : Vec F S256x256 .bf16) (x18 : Vec F S256x128 .f32) (x19 : Vec F S256x128 .f32) (x20 : Vec F S1x256 .f32) : Vec F S1x256x1024 .f32 :=
  View.canon [⟨r0_25, k0_pay40 (k0_pay65 i x0 x1 x2 x3 x4 x5 x6 x7 x8 x9 x10 x11 x12 x13 x14 x15 x16 x17 x18 x19 x20)⟩,
    ⟨r0_24, k0_pay39 (k0_pay65 i x0 x1 x2 x3 x4 x5 x6 x7 x8 x9 x10 x11 x12 x13 x14 x15 x16 x17 x18 x19 x20)⟩,
    ⟨r0_23, k0_pay38 (k0_pay37 (k0_pay65 i x0 x1 x2 x3 x4 x5 x6 x7 x8 x9 x10 x11 x12 x13 x14 x15 x16 x17 x18 x19 x20))⟩,
    ⟨r0_22, k0_pay36 (k0_pay65 i x0 x1 x2 x3 x4 x5 x6 x7 x8 x9 x10 x11 x12 x13 x14 x15 x16 x17 x18 x19 x20)⟩,
    ⟨r0_21, k0_pay35 (k0_pay65 i x0 x1 x2 x3 x4 x5 x6 x7 x8 x9 x10 x11 x12 x13 x14 x15 x16 x17 x18 x19 x20)⟩,
    ⟨r0_20, k0_pay34 (k0_pay65 i x0 x1 x2 x3 x4 x5 x6 x7 x8 x9 x10 x11 x12 x13 x14 x15 x16 x17 x18 x19 x20)⟩,
    ⟨r0_19, k0_pay33 (k0_pay65 i x0 x1 x2 x3 x4 x5 x6 x7 x8 x9 x10 x11 x12 x13 x14 x15 x16 x17 x18 x19 x20)⟩,
    ⟨r0_18, k0_pay32 (k0_pay65 i x0 x1 x2 x3 x4 x5 x6 x7 x8 x9 x10 x11 x12 x13 x14 x15 x16 x17 x18 x19 x20)⟩]

theorem cover0_26 (p0 : Vec F S1x256x128 .f32) (p1 : Vec F S1x256x128 .f32) (p2 : Vec F S1x256x128 .f32) (p3 : Vec F S1x256x128 .f32) (p4 : Vec F S1x256x128 .f32) (p5 : Vec F S1x256x128 .f32) (p6 : Vec F S1x256x128 .f32) (p7 : Vec F S1x256x128 .f32) (y : S1x256x1024.Idx) :
    ∃ pc ∈ ([⟨r0_25, p0⟩, ⟨r0_24, p1⟩, ⟨r0_23, p2⟩, ⟨r0_22, p3⟩, ⟨r0_21, p4⟩, ⟨r0_20, p5⟩, ⟨r0_19, p6⟩, ⟨r0_18, p7⟩] : List (View.Piece (Elt F) S1x256x1024 .f32)), y ∈ pc.1.set :=
  View.cover_of_tiled [⟨r0_25, p0⟩, ⟨r0_24, p1⟩, ⟨r0_23, p2⟩, ⟨r0_22, p3⟩, ⟨r0_21, p4⟩, ⟨r0_20, p5⟩, ⟨r0_19, p6⟩, ⟨r0_18, p7⟩] S1x256x128.size (by rfl) y

def out0_27 (i : grid0.Coords) (x0 : Vec F S1x256x1024 .f32) (x1 : Vec F S1x256x1024 .f32) (x2 : Vec F S1x6x1024 .f32) (x3 : Vec F S1x1024 .f32) (x4 : Vec F S1024x1024 .bf16) (x5 : Vec F S1024x3072 .bf16) (x6 : Vec F S1024x1024 .bf16) (x7 : Vec F S16x1024 .bf16) (x8 : Vec F S16x1 .f32) (x9 : Vec F S1024x512 .bf16) (x10 : Vec F S1024x256 .bf16) (x11 : Vec F S1024x256 .bf16) (x12 : Vec F S1024x3072 .bf16) (x13 : Vec F S1x3072 .f32) (x14 : Vec F S1x512 .f32) (x15 : Vec F S1x256 .f32) (x16 : Vec F S512x512 .bf16) (x17 : Vec F S256x256 .bf16) (x18 : Vec F S256x128 .f32) (x19 : Vec F S256x128 .f32) (x20 : Vec F S1x256 .f32) : Vec F S1x256x512 .bf16 :=
  View.canon [⟨r0_6, k0_pay44 (k0_pay66 i x0 x1 x2 x3 x4 x5 x6 x7 x8 x9 x10 x11 x12 x13 x14 x15 x16 x17 x18 x19 x20) (k0_pay67 i x0 x1 x2 x3 x4 x5 x6 x7 x8 x9 x10 x11 x12 x13 x14 x15 x16 x17 x18 x19 x20) (k0_pay43 (k0_pay54 i x0 x1 x2 x3 x4 x5 x6 x7 x8 x9 x10 x11 x12 x13 x14 x15 x16 x17 x18 x19 x20) (View.ld x9 r0_27) (View.ld x16 r0_28) (View.ld x14 r0_29))⟩]

theorem cover0_27 (p0 : Vec F S1x256x512 .bf16) (y : S1x256x512.Idx) :
    ∃ pc ∈ ([⟨r0_6, p0⟩] : List (View.Piece (Elt F) S1x256x512 .bf16)), y ∈ pc.1.set :=
  View.cover_of_tiled [⟨r0_6, p0⟩] S1x256x512.size (by rfl) y

def out0_28 (i : grid0.Coords) (x0 : Vec F S1x256x1024 .f32) (x1 : Vec F S1x256x1024 .f32) (x2 : Vec F S1x6x1024 .f32) (x3 : Vec F S1x1024 .f32) (x4 : Vec F S1024x1024 .bf16) (x5 : Vec F S1024x3072 .bf16) (x6 : Vec F S1024x1024 .bf16) (x7 : Vec F S16x1024 .bf16) (x8 : Vec F S16x1 .f32) (x9 : Vec F S1024x512 .bf16) (x10 : Vec F S1024x256 .bf16) (x11 : Vec F S1024x256 .bf16) (x12 : Vec F S1024x3072 .bf16) (x13 : Vec F S1x3072 .f32) (x14 : Vec F S1x512 .f32) (x15 : Vec F S1x256 .f32) (x16 : Vec F S512x512 .bf16) (x17 : Vec F S256x256 .bf16) (x18 : Vec F S256x128 .f32) (x19 : Vec F S256x128 .f32) (x20 : Vec F S1x256 .f32) : Vec F S1x256x256 .bf16 :=
  View.canon [⟨r0_33, k0_pay48 (k0_pay66 i x0 x1 x2 x3 x4 x5 x6 x7 x8 x9 x10 x11 x12 x13 x14 x15 x16 x17 x18 x19 x20) (k0_pay67 i x0 x1 x2 x3 x4 x5 x6 x7 x8 x9 x10 x11 x12 x13 x14 x15 x16 x17 x18 x19 x20) (k0_pay45 (k0_pay54 i x0 x1 x2 x3 x4 x5 x6 x7 x8 x9 x10 x11 x12 x13 x14 x15 x16 x17 x18 x19 x20) (View.ld x10 r0_30)) (k0_pay46 (k0_pay54 i x0 x1 x2 x3 x4 x5 x6 x7 x8 x9 x10 x11 x12 x13 x14 x15 x16 x17 x18 x19 x20) (View.ld x10 r0_30) (View.ld x17 r0_31)) (k0_pay47 (F := F)) (View.ld x15 r0_32)⟩]

theorem cover0_28 (p0 : Vec F S1x256x256 .bf16) (y : S1x256x256.Idx) :
    ∃ pc ∈ ([⟨r0_33, p0⟩] : List (View.Piece (Elt F) S1x256x256 .bf16)), y ∈ pc.1.set :=
  View.cover_of_tiled [⟨r0_33, p0⟩] S1x256x256.size (by rfl) y

def out0_29 (i : grid0.Coords) (x0 : Vec F S1x256x1024 .f32) (x1 : Vec F S1x256x1024 .f32) (x2 : Vec F S1x6x1024 .f32) (x3 : Vec F S1x1024 .f32) (x4 : Vec F S1024x1024 .bf16) (x5 : Vec F S1024x3072 .bf16) (x6 : Vec F S1024x1024 .bf16) (x7 : Vec F S16x1024 .bf16) (x8 : Vec F S16x1 .f32) (x9 : Vec F S1024x512 .bf16) (x10 : Vec F S1024x256 .bf16) (x11 : Vec F S1024x256 .bf16) (x12 : Vec F S1024x3072 .bf16) (x13 : Vec F S1x3072 .f32) (x14 : Vec F S1x512 .f32) (x15 : Vec F S1x256 .f32) (x16 : Vec F S512x512 .bf16) (x17 : Vec F S256x256 .bf16) (x18 : Vec F S256x128 .f32) (x19 : Vec F S256x128 .f32) (x20 : Vec F S1x256 .f32) : Vec F S1x256x256 .bf16 :=
  View.canon [⟨r0_33, k0_pay50 (k0_pay54 i x0 x1 x2 x3 x4 x5 x6 x7 x8 x9 x10 x11 x12 x13 x14 x15 x16 x17 x18 x19 x20) (k0_pay49 (View.ld x11 r0_30)) (View.ld x20 r0_32)⟩]

theorem cover0_29 (p0 : Vec F S1x256x256 .bf16) (y : S1x256x256.Idx) :
    ∃ pc ∈ ([⟨r0_33, p0⟩] : List (View.Piece (Elt F) S1x256x256 .bf16)), y ∈ pc.1.set :=
  View.cover_of_tiled [⟨r0_33, p0⟩] S1x256x256.size (by rfl) y

def out0_30 (i : grid0.Coords) (x0 : Vec F S1x256x1024 .f32) (x1 : Vec F S1x256x1024 .f32) (x2 : Vec F S1x6x1024 .f32) (x3 : Vec F S1x1024 .f32) (x4 : Vec F S1024x1024 .bf16) (x5 : Vec F S1024x3072 .bf16) (x6 : Vec F S1024x1024 .bf16) (x7 : Vec F S16x1024 .bf16) (x8 : Vec F S16x1 .f32) (x9 : Vec F S1024x512 .bf16) (x10 : Vec F S1024x256 .bf16) (x11 : Vec F S1024x256 .bf16) (x12 : Vec F S1024x3072 .bf16) (x13 : Vec F S1x3072 .f32) (x14 : Vec F S1x512 .f32) (x15 : Vec F S1x256 .f32) (x16 : Vec F S512x512 .bf16) (x17 : Vec F S256x256 .bf16) (x18 : Vec F S256x128 .f32) (x19 : Vec F S256x128 .f32) (x20 : Vec F S1x256 .f32) : Vec F S1x256x3072 .bf16 :=
  View.canon [⟨r0_12, k0_pay2 (k0_pay54 i x0 x1 x2 x3 x4 x5 x6 x7 x8 x9 x10 x11 x12 x13 x14 x15 x16 x17 x18 x19 x20) (View.ld x12 r0_11) (View.ld x13 r0_36)⟩,
    ⟨r0_10, k0_pay1 (k0_pay52 (k0_pay54 i x0 x1 x2 x3 x4 x5 x6 x7 x8 x9 x10 x11 x12 x13 x14 x15 x16 x17 x18 x19 x20) (View.ld x12 r0_9) (View.ld x13 r0_35)) (k0_pay53 (F := F))⟩,
    ⟨r0_8, k0_pay51 (k0_pay54 i x0 x1 x2 x3 x4 x5 x6 x7 x8 x9 x10 x11 x12 x13 x14 x15 x16 x17 x18 x19 x20) (View.ld x12 r0_7) (View.ld x13 r0_34)⟩]

theorem cover0_30 (p0 : Vec F S1x256x1024 .bf16) (p1 : Vec F S1x256x1024 .bf16) (p2 : Vec F S1x256x1024 .bf16) (y : S1x256x3072.Idx) :
    ∃ pc ∈ ([⟨r0_12, p0⟩, ⟨r0_10, p1⟩, ⟨r0_8, p2⟩] : List (View.Piece (Elt F) S1x256x3072 .bf16)), y ∈ pc.1.set :=
  View.cover_of_tiled [⟨r0_12, p0⟩, ⟨r0_10, p1⟩, ⟨r0_8, p2⟩] S1x256x1024.size (by rfl) y

set_option maxHeartbeats 1056550 in
theorem sound_kernel (c : Dev nD) (E : Set ℕ) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x6x1024 .f32) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1024x3072 .bf16) (harg7 : arg7.IsWhole) (arg8 : Memref sig .tc .vmem S1024x1024 .bf16) (harg8 : arg8.IsWhole) (arg9 : Memref sig .tc .vmem S16x1024 .bf16) (harg9 : arg9.IsWhole) (arg10 : Memref sig .tc .vmem S16x1 .f32) (harg10 : arg10.IsWhole) (arg11 : Memref sig .tc .vmem S1024x512 .bf16) (harg11 : arg11.IsWhole) (arg12 : Memref sig .tc .vmem S1024x256 .bf16) (harg12 : arg12.IsWhole) (arg13 : Memref sig .tc .vmem S1024x256 .bf16) (harg13 : arg13.IsWhole) (arg14 : Memref sig .tc .vmem S1024x3072 .bf16) (harg14 : arg14.IsWhole) (arg15 : Memref sig .tc .vmem S1x3072 .f32) (harg15 : arg15.IsWhole) (arg16 : Memref sig .tc .vmem S1x512 .f32) (harg16 : arg16.IsWhole) (arg17 : Memref sig .tc .vmem S1x256 .f32) (harg17 : arg17.IsWhole) (arg18 : Memref sig .tc .vmem S512x512 .bf16) (harg18 : arg18.IsWhole) (arg19 : Memref sig .tc .vmem S256x256 .bf16) (harg19 : arg19.IsWhole) (arg20 : Memref sig .tc .vmem S256x128 .f32) (harg20 : arg20.IsWhole) (arg21 : Memref sig .tc .vmem S256x128 .f32) (harg21 : arg21.IsWhole) (arg22 : Memref sig .tc .vmem S1x256 .f32) (harg22 : arg22.IsWhole) (arg23 : Memref sig .tc .vmem S1x256x512 .bf16) (harg23 : arg23.IsWhole) (arg24 : Memref sig .tc .vmem S1x256x3072 .bf16) (harg24 : arg24.IsWhole) (arg25 : Memref sig .tc .vmem S1x256x1024 .bf16) (harg25 : arg25.IsWhole) (arg26 : Memref sig .tc .vmem S1x32x256 .f32) (harg26 : arg26.IsWhole) (arg27 : Memref sig .tc .vmem S1x256x1024 .f32) (harg27 : arg27.IsWhole) (arg28 : Memref sig .tc .vmem S1x256x1024 .f32) (harg28 : arg28.IsWhole) (arg29 : Memref sig .tc .vmem S1x256x512 .bf16) (harg29 : arg29.IsWhole) (arg30 : Memref sig .tc .vmem S1x256x256 .bf16) (harg30 : arg30.IsWhole) (arg31 : Memref sig .tc .vmem S1x256x256 .bf16) (harg31 : arg31.IsWhole) (arg32 : Memref sig .tc .vmem S1x256x3072 .bf16) (harg32 : arg32.IsWhole)
    (x0 : Vec F S1x256x1024 .f32) (x1 : Vec F S1x256x1024 .f32) (x2 : Vec F S1x6x1024 .f32) (x3 : Vec F S1x1024 .f32) (x4 : Vec F S1024x1024 .bf16) (x5 : Vec F S1024x3072 .bf16) (x6 : Vec F S1024x1024 .bf16) (x7 : Vec F S16x1024 .bf16) (x8 : Vec F S16x1 .f32) (x9 : Vec F S1024x512 .bf16) (x10 : Vec F S1024x256 .bf16) (x11 : Vec F S1024x256 .bf16) (x12 : Vec F S1024x3072 .bf16) (x13 : Vec F S1x3072 .f32) (x14 : Vec F S1x512 .f32) (x15 : Vec F S1x256 .f32) (x16 : Vec F S512x512 .bf16) (x17 : Vec F S256x256 .bf16) (x18 : Vec F S256x128 .f32) (x19 : Vec F S256x128 .f32) (x20 : Vec F S1x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare (out0_21 i x0 x1 x2 x3 x4 x5 x6 x7 x8 x9 x10 x11 x12 x13 x14 x15 x16 x17 x18 x19 x20) ∗ owns (c : Thread nD τ) arg24 fullShare (out0_22 i x0 x1 x2 x3 x4 x5 x6 x7 x8 x9 x10 x11 x12 x13 x14 x15 x16 x17 x18 x19 x20) ∗ owns (c : Thread nD τ) arg25 fullShare (out0_23 i x0 x1 x2 x3 x4 x5 x6 x7 x8 x9 x10 x11 x12 x13 x14 x15 x16 x17 x18 x19 x20) ∗ owns (c : Thread nD τ) arg26 fullShare (out0_24 i x0 x1 x2 x3 x4 x5 x6 x7 x8 x9 x10 x11 x12 x13 x14 x15 x16 x17 x18 x19 x20) ∗ owns (c : Thread nD τ) arg27 fullShare (out0_25 i x0 x1 x2 x3 x4 x5 x6 x7 x8 x9 x10 x11 x12 x13 x14 x15 x16 x17 x18 x19 x20) ∗ owns (c : Thread nD τ) arg28 fullShare (out0_26 i x0 x1 x2 x3 x4 x5 x6 x7 x8 x9 x10 x11 x12 x13 x14 x15 x16 x17 x18 x19 x20) ∗ owns (c : Thread nD τ) arg29 fullShare (out0_27 i x0 x1 x2 x3 x4 x5 x6 x7 x8 x9 x10 x11 x12 x13 x14 x15 x16 x17 x18 x19 x20) ∗ owns (c : Thread nD τ) arg30 fullShare (out0_28 i x0 x1 x2 x3 x4 x5 x6 x7 x8 x9 x10 x11 x12 x13 x14 x15 x16 x17 x18 x19 x20) ∗ owns (c : Thread nD τ) arg31 fullShare (out0_29 i x0 x1 x2 x3 x4 x5 x6 x7 x8 x9 x10 x11 x12 x13 x14 x15 x16 x17 x18 x19 x20) ∗ owns (c : Thread nD τ) arg32 fullShare (out0_30 i x0 x1 x2 x3 x4 x5 x6 x7 x8 x9 x10 x11 x12 x13 x14 x15 x16 x17 x18 x19 x20)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) K := by
  simp only [cc0_in_proj_eq_skeleton]; unfold cc0_in_proj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, Hk⟩
  subst hf0 hf1 hf2 hf3 hf4 hf5 hf6 hf7 hf8 hf9 hf10 hf11 hf12 hf13 hf14 hf15 hf16 hf17 hf18 hf19 hf20
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists _; isplitr
    swap; · iexact H21
    ipureintro
    refine (View.read_writes_eq_canon _ _ _ (cover0_21 _)).trans ?_
    rfl
  isplitl [H22]
  · iexists _; isplitr
    swap; · iexact H22
    ipureintro
    refine (View.read_writes_eq_canon _ _ _ (cover0_22 _ _ _)).trans ?_
    rfl
  isplitl [H23]
  · iexists _; isplitr
    swap; · iexact H23
    ipureintro
    refine (View.read_writes_eq_canon _ _ _ (cover0_23 _)).trans ?_
    rfl
  isplitl [H24]
  · iexists _; isplitr
    swap; · iexact H24
    ipureintro
    refine (View.read_writes_eq_canon _ _ _ (cover0_24 _ _)).trans ?_
    rfl
  isplitl [H25]
  · iexists _; isplitr
    swap; · iexact H25
    ipureintro
    refine (View.read_writes_eq_canon _ _ _ (cover0_25 _ _ _ _ _ _ _ _)).trans ?_
    rfl
  isplitl [H26]
  · iexists _; isplitr
    swap; · iexact H26
    ipureintro
    refine (View.read_writes_eq_canon _ _ _ (cover0_26 _ _ _ _ _ _ _ _)).trans ?_
    rfl
  isplitl [H27]
  · iexists _; isplitr
    swap; · iexact H27
    ipureintro
    refine (View.read_writes_eq_canon _ _ _ (cover0_27 _)).trans ?_
    rfl
  isplitl [H28]
  · iexists _; isplitr
    swap; · iexact H28
    ipureintro
    refine (View.read_writes_eq_canon _ _ _ (cover0_28 _)).trans ?_
    rfl
  isplitl [H29]
  · iexists _; isplitr
    swap; · iexact H29
    ipureintro
    refine (View.read_writes_eq_canon _ _ _ (cover0_29 _)).trans ?_
    rfl
  iexists _; isplitr
  swap; · iexact H30
  ipureintro
  refine (View.read_writes_eq_canon _ _ _ (cover0_30 _ _ _)).trans ?_
  rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => out0_21 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)
    | ⟨22, _⟩ => out0_22 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)
    | ⟨23, _⟩ => out0_23 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)
    | ⟨24, _⟩ => out0_24 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)
    | ⟨25, _⟩ => out0_25 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)
    | ⟨26, _⟩ => out0_26 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)
    | ⟨27, _⟩ => out0_27 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)
    | ⟨28, _⟩ => out0_28 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)
    | ⟨29, _⟩ => out0_29 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)
    | ⟨30, _⟩ => out0_30 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)
    | ⟨_ + 31, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = out0_21 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by dsimp only [dats]
theorem after0_22 (c : Dev nD) (t : Fin cfg0.N) : (dats m 0 c).after 22 t = out0_22 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by dsimp only [dats]
theorem after0_23 (c : Dev nD) (t : Fin cfg0.N) : (dats m 0 c).after 23 t = out0_23 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by dsimp only [dats]
theorem after0_24 (c : Dev nD) (t : Fin cfg0.N) : (dats m 0 c).after 24 t = out0_24 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by dsimp only [dats]
theorem after0_25 (c : Dev nD) (t : Fin cfg0.N) : (dats m 0 c).after 25 t = out0_25 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by dsimp only [dats]
theorem after0_26 (c : Dev nD) (t : Fin cfg0.N) : (dats m 0 c).after 26 t = out0_26 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by dsimp only [dats]
theorem after0_27 (c : Dev nD) (t : Fin cfg0.N) : (dats m 0 c).after 27 t = out0_27 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by dsimp only [dats]
theorem after0_28 (c : Dev nD) (t : Fin cfg0.N) : (dats m 0 c).after 28 t = out0_28 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by dsimp only [dats]
theorem after0_29 (c : Dev nD) (t : Fin cfg0.N) : (dats m 0 c).after 29 t = out0_29 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by dsimp only [dats]
theorem after0_30 (c : Dev nD) (t : Fin cfg0.N) : (dats m 0 c).after 30 t = out0_30 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t))

set_option maxHeartbeats 1600000 in
/-- The body at a point: from its blocks to what it leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  iintro ⟨H0, H1, H2, H3, H4, H5, H6, H7, H8, H9, H10, H11, H12, H13, H14, H15, H16, H17, H18, H19, H20, H21, H22, H23, H24, H25, H26, H27, H28, H29, H30⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  iexact H30

theorem defs₀_row (t : Fin cfg0.N) :
    defs₀ (F := F) .tc cfg0.body (cfg0.bodyArgs t (cfg0.slots t)) = bodyAt0 t := by
  unfold defs₀; rw [Defs.onTc_tc]

set_option maxHeartbeats 1600000 in
/-- The body does its part at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.Kernel4Ideal.Gen

end
-- ==== Proof.Frames4.lean ====
/-
  The frames of the three programs of the last layer's input projection: each runs to the end, leaves its arguments as they were and every
  semaphore counter at zero.
-/
module

public import proofs.«01_k».proof.Defs
public import proofs.«01_k».proof.Proof.InFrameBits
public import proofs.«01_k».proof.Proof.InFrame
public import proofs.«01_k».proof.Proof.Gen.Reference4Ideal.Run
public import Idealize.ShloMosaic.Lib.Quiescent

@[expose] public section

noncomputable section

namespace Cert.Proof

open Idealize.ShloMosaic Idealize.ShloMosaic.TcCoe Idealize.SL.Sem

/-- The input projection with its host code, at the bits. -/
theorem kernel4_frame : Cert.quiescent_Kernel4 (hKernel4 := Cert.Kernel4.Gen.facts) :=
  fun m g _ => Cert.Kernel4.Gen.frame m g

/-- The same program over the extended reals. -/
theorem kernel4Ideal_frame : Cert.quiescent_Kernel4Ideal (hKernel4Ideal := Cert.Kernel4Ideal.Gen.facts) :=
  fun m g _ => Cert.Kernel4Ideal.Gen.frame m g

/-- The reference has no semaphore, so its counters have nothing to say. -/
theorem reference4Ideal_frame :
    Cert.quiescent_Reference4Ideal (hReference4Ideal := Cert.Reference4Ideal.Gen.facts) :=
  fun m g _ => (θ_run Cert.Reference4Ideal.defs _ _).mono
    (fun r h => ⟨fun c => (h c).2.2.2.2, sem_eq_zero_of_no_sems (by decide) r.2⟩)
    (Cert.Reference4Ideal.Value.run (F := Ideal) m g)

end Cert.Proof

end
-- ==== Proof.Soft.lean ====
/-
  The real arithmetic of the softmax: powers of two of scores divided by the logarithm of two are exponentials of the
  scores, and dividing the weighted sum once is dividing every weight.
-/
module

public import Idealize.ShloMosaic.PureOps.Ideal
public import Idealize.ShloMosaic.PureOps.Ideal.Laws
public import Mathlib.Analysis.SpecialFunctions.Pow.Real

@[expose] public section

noncomputable section

namespace Cert.Soft

open Idealize.ShloMosaic

theorem coe_sum' {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem sum_mul' {ι : Type*} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hr) (EReal.coe_ne_top r) _ _

/-- The largest of finitely many reals is one of them. -/
theorem sup_real {N : ℕ} [NeZero N] (s : Fin N → ℝ) : ∃ n0, (∀ n, s n ≤ s n0) := Finite.exists_max s

theorem sup_coe {N : ℕ} (s : Fin N → ℝ) (n0 : Fin N) (h : ∀ n, s n ≤ s n0) : (⨆ n, (s n : EReal)) = (s n0 : EReal) :=
  le_antisymm (iSup_le fun n => EReal.coe_le_coe_iff.mpr (h n)) (le_iSup (fun n => (s n : EReal)) n0)

theorem exp_weight {N : ℕ} (s : Fin N → ℝ) (n0 : Fin N) (h : ∀ n, s n ≤ s n0) (n : Fin N) :
    Ideal.exp ((s n : EReal) - ⨆ n, (s n : EReal)) = ((Real.exp (s n - s n0) : ℝ) : EReal) := by
  rw [sup_coe s n0 h, ← EReal.coe_sub]
  rfl

theorem exp2_weight {N : ℕ} (s : Fin N → ℝ) (n0 : Fin N) (h : ∀ n, s n ≤ s n0) (n : Fin N) :
    Ideal.exp2 (((s n / Real.log 2 : ℝ) : EReal) - ⨆ n, ((s n / Real.log 2 : ℝ) : EReal)) = ((Real.exp (s n - s n0) : ℝ) : EReal) := by
  have hl : 0 < Real.log 2 := Real.log_pos (by norm_num)
  rw [sup_coe (fun n => s n / Real.log 2) n0 (fun n => div_le_div_of_nonneg_right (h n) hl.le), ← EReal.coe_sub]
  show ((Real.rpow 2 (s n / Real.log 2 - s n0 / Real.log 2) : ℝ) : EReal) = _
  congr 1
  show (2 : ℝ) ^ (s n / Real.log 2 - s n0 / Real.log 2) = _
  rw [Real.rpow_def_of_pos (by norm_num)]
  congr 1
  field_simp

/-- One division of the weighted sum, and a division of every weight. -/
theorem normalized {N : ℕ} [NeZero N] (w : Fin N → ℝ) (hw : ∀ n, 0 < w n) (v : Fin N → EReal) :
    (∑ n, (w n : EReal) * v n) * Ideal.div 1 (∑ n, (w n : EReal) * 1) = ∑ n, v n * Ideal.div (w n : EReal) (∑ n, (w n : EReal)) := by
  have hL : 0 < ∑ n, w n := Finset.sum_pos (fun n _ => hw n) Finset.univ_nonempty
  have h0 : ((∑ n, w n : ℝ) : EReal) ≠ 0 := by exact_mod_cast hL.ne'
  have hi : ((∑ n, w n : ℝ) : EReal)⁻¹ = (((∑ n, w n)⁻¹ : ℝ) : EReal) := (EReal.coe_inv _).symm
  simp only [mul_one]
  rw [coe_sum']
  unfold Ideal.div
  simp only [if_neg h0, one_mul, hi]
  rw [sum_mul' _ _ _ (inv_nonneg.mpr hL.le)]
  refine Finset.sum_congr rfl fun n _ => ?_
  rw [mul_comm (w n : EReal) (v n), mul_assoc]

theorem ofBits_eighth : Ideal.ofBits .f32 0x3E000000#32 = (((1 : ℝ) / 8 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem scale : Ideal.div (Ideal.ofBits .f32 0x3E000000#32) (Ideal.log (Ideal.ofBits .f32 0x40000000#32))
    = ((1 / 8 / Real.log 2 : ℝ) : EReal) := by
  have hl : 0 < Real.log 2 := Real.log_pos (by norm_num)
  rw [ofBits_eighth, ofBits_two]
  have h1 : Ideal.log ((2 : ℝ) : EReal) = ((Real.log 2 : ℝ) : EReal) := by
    show (if (2 : ℝ) ≤ 0 then (⊥ : EReal) else (Real.log 2 : EReal)) = _
    rw [if_neg (by norm_num)]
  rw [h1]
  unfold Ideal.div
  rw [if_neg (by exact_mod_cast hl.ne'), ← EReal.coe_inv, ← EReal.coe_mul]
  rfl

/-- The scores on the two sides, over real queries and keys. -/
theorem score_ker {D : ℕ} (q k : Fin D → ℝ) :
    (∑ d, ((q d : EReal) * ((1 / 8 / Real.log 2 : ℝ) : EReal)) * (k d : EReal)) = (((∑ d, k d * q d) * (1 / 8) / Real.log 2 : ℝ) : EReal) := by
  simp only [← EReal.coe_mul]
  rw [coe_sum', Finset.sum_mul, Finset.sum_div]
  congr 1
  exact Finset.sum_congr rfl fun d _ => by ring

theorem score_ref {D : ℕ} (q k : Fin D → ℝ) :
    (∑ d, (k d : EReal) * (q d : EReal)) * (((1 : ℝ) / 8 : ℝ) : EReal) = (((∑ d, k d * q d) * (1 / 8) : ℝ) : EReal) := by
  simp only [← EReal.coe_mul]
  rw [coe_sum', ← EReal.coe_mul]

/-- A number of magnitude below infinity is real. -/
theorem real_of_abs_lt (x : EReal) (h : FloatOps.cmpf (F := Ideal) (φ := .f32) .olt (FloatOps.hostAbsf (F := Ideal) (φ := .f32) x)
    (Ideal.ofBits .f32 0x7F800000#32) = 1#1) : ∃ r : ℝ, x = (r : EReal) := by
  have ht : Ideal.ofBits .f32 0x7F800000#32 = (⊤ : EReal) := by simp [Ideal.ofBits, Ideal.ieee]
  rw [ht] at h
  induction x with
  | bot => exact absurd h (by first | decide | simp | (intro h; cases h))
  | coe r => exact ⟨r, rfl⟩
  | top => exact absurd h (by first | decide | simp | (intro h; cases h))

end Cert.Soft

end
-- ==== Proof.Pre.lean ====
/-
  The precondition read: every query and every key is a real number.
-/
module

public import proofs.«01_k».proof.Pre_finite_qk
public import proofs.«01_k».proof.Proof.Soft
public import Idealize.ShloMosaic.Lib.ReduceAll

@[expose] public section

noncomputable section

namespace Cert.Pre_finite_qk

open Idealize.ShloMosaic

/-- The shape relations the precondition's operations take. -/
theorem facts : Facts where
  bcast_S_S8x4096x8x64 := by decide
  reducesTo_S8x4096x8x64_S_d0_1_2_3 := by decide
  h_S_ := by decide
  bcast_S_S8x4352x2x64 := by decide
  reducesTo_S8x4352x2x64_S_d0_1_2_3 := by decide

theorem andi_one (a b : BitVec 1) (h : IntOp.andi a b = 1#1) : a = 1#1 ∧ b = 1#1 := by
  revert h; revert a b; decide

instance : Subsingleton S_.Idx := ⟨fun a b => funext fun i => i.elim0⟩

theorem reals (q : FVec Ideal S8x4096x8x64 .f32) (k v : FVec Ideal S8x4352x2x64 .f32)
    (h : @fn facts Ideal _ q k v = fun _ => 1#1) :
    (∀ i, ∃ r : ℝ, (q i : EReal) = (r : EReal)) ∧ ∀ i, ∃ r : ℝ, (k i : EReal) = (r : EReal) := by
  have h0 := congrFun h (Shape.Idx.first facts.h_S_)
  obtain ⟨hq, hk⟩ := andi_one _ _ h0
  constructor
  · intro i
    exact Soft.real_of_abs_lt (q i) (Host.reduce_andi_all _ _ _ _ _ hq i)
  · intro i
    exact Soft.real_of_abs_lt (k i) (Host.reduce_andi_all _ _ _ _ _ hk i)

end Cert.Pre_finite_qk

end
-- ==== Proof.Scores.lean ====
/-
  The scores of one tile of queries, read entry by entry.

  A tile holds 256 queries of four heads; the kernel stacks the four heads as 1024 rows of 128 lanes, each row
  zero in the half that is not its head's, and multiplies with the keys, whose 64 numbers stand twice in a row.
-/
module

public import proofs.«01_k».proof.Proof.Gen.KernelIdeal.Skeleton
public import Idealize.ShloMosaic.Lib.Pointwise

@[expose] public section

set_option maxRecDepth 16384

noncomputable section

namespace Cert.KernelIdeal.Attn

open Idealize.ShloMosaic Idealize.ShloMosaic.TcCoe Idealize.SL.Sem
open Cert.KernelIdeal Cert.KernelIdeal.Gen

/-- Row `r` of the stacked queries at lane `d`: head `r / 256`, query `r % 256`, zero outside the head's half. -/
def stk (X : FVec Ideal S1x256x256 .bf16) (r : Fin 1024) (d : Fin 128) : EReal :=
  if (r : ℕ) / 256 % 2 = (d : ℕ) / 64 then
    X (ix3 (0 : Fin 1) (⟨(r : ℕ) % 256, by omega⟩ : Fin 256) (⟨(r : ℕ) / 512 * 128 + d, by omega⟩ : Fin 256))
  else 0

theorem sel_lt (d : Fin 128) (a b : EReal) :
    Scalar.select (IntOp.cmpi .slt (BitVec.ofNat 32 (d : ℕ)) 64#32) a b = if (d : ℕ) < 64 then a else b := by
  have h : IntOp.cmpi .slt (BitVec.ofNat 32 (d : ℕ)) 64#32 = if (d : ℕ) < 64 then 1#1 else 0#1 := by
    revert d; decide +kernel
  rw [h]; split_ifs <;> rfl

theorem stk_lad (X : FVec Ideal S1x256x256 .bf16) (r : Fin 1024) (d : Fin 128) :
    (if h : (r : ℕ) < 256 then
      Scalar.select (IntOp.cmpi .slt (BitVec.ofNat 32 (d : ℕ)) 64#32) (X (ix3 (0 : Fin 1) (⟨(r : ℕ), by omega⟩ : Fin 256) (⟨(d : ℕ), by omega⟩ : Fin 256))) (0 : EReal)
    else
      if h : (r : ℕ) - 256 < 256 then
        Scalar.select (IntOp.cmpi .slt (BitVec.ofNat 32 (d : ℕ)) 64#32) (0 : EReal) (X (ix3 (0 : Fin 1) (⟨(r : ℕ) - 256, by omega⟩ : Fin 256) (⟨(d : ℕ), by omega⟩ : Fin 256)))
      else
        if h : (r : ℕ) - 256 - 256 < 256 then
          Scalar.select (IntOp.cmpi .slt (BitVec.ofNat 32 (d : ℕ)) 64#32)
            (X (ix3 (0 : Fin 1) (⟨(r : ℕ) - 256 - 256, by omega⟩ : Fin 256) (⟨128 + (d : ℕ), by omega⟩ : Fin 256))) (0 : EReal)
        else
          Scalar.select (IntOp.cmpi .slt (BitVec.ofNat 32 (d : ℕ)) 64#32) (0 : EReal)
            (X (ix3 (0 : Fin 1) (⟨(r : ℕ) - 256 - 256 - 256, by omega⟩ : Fin 256) (⟨128 + (d : ℕ), by omega⟩ : Fin 256)))) = stk X r d := by
  unfold stk
  have hr := r.isLt
  have hd := d.isLt
  by_cases h1 : (r : ℕ) < 256
  · refine (dif_pos h1).trans ?_; refine (sel_lt d _ _).trans ?_
    by_cases hd : (d : ℕ) < 64
    · rw [if_pos hd, if_pos (by omega)]
      exact congrArg X (by idx_ext <;> omega)
    · rw [if_neg hd, if_neg (by omega)]
  · refine (dif_neg h1).trans ?_
    by_cases h2 : (r : ℕ) - 256 < 256
    · refine (dif_pos h2).trans ?_; refine (sel_lt d _ _).trans ?_
      by_cases hd : (d : ℕ) < 64
      · rw [if_pos hd, if_neg (by omega)]
      · rw [if_neg hd, if_pos (by omega)]
        exact congrArg X (by idx_ext <;> omega)
    · refine (dif_neg h2).trans ?_
      by_cases h3 : (r : ℕ) - 256 - 256 < 256
      · refine (dif_pos h3).trans ?_; refine (sel_lt d _ _).trans ?_
        by_cases hd : (d : ℕ) < 64
        · rw [if_pos hd, if_pos (by omega)]
          exact congrArg X (by idx_ext <;> omega)
        · rw [if_neg hd, if_neg (by omega)]
      · refine (dif_neg h3).trans ?_; refine (sel_lt d _ _).trans ?_
        by_cases hd : (d : ℕ) < 64
        · rw [if_pos hd, if_neg (by omega)]
        · rw [if_neg hd, if_pos (by omega)]
          exact congrArg X (by idx_ext <;> omega)

theorem stk_at (X : FVec Ideal S1x256x256 .bf16) (r : Fin 1024) (d : Fin 128) :
    k0_pay21 (F := Ideal) X (ix2 r d) = stk X r d := by
  pointwise [k0_pay21]
  exact stk_lad X r d

/-- The score of row `r` against key `n`. -/
def sco (X : FVec Ideal S1x256x256 .bf16) {N : ℕ} (K : FVec Ideal ⟨3, ![1, N, 128]⟩ .bf16) (r : Fin 1024) (n : Fin N) : EReal :=
  ∑ d : Fin 128, stk X r d * K (ix3 (0 : Fin 1) n d)

theorem pay22_at (X : FVec Ideal S1x256x256 .bf16) (Y : FVec Ideal S1x256x128 .bf16) (r : Fin 1024) (n : Fin 256) :
    k0_pay22 (F := Ideal) X Y (ix2 r n) = sco X Y r n := by
  pointwise [k0_pay22, stk_at, sco]

theorem pay25_at (X : FVec Ideal S1x256x256 .bf16) (Y : FVec Ideal S1x1024x128 .bf16) (r : Fin 1024) (n : Fin 1024) :
    k0_pay25 (F := Ideal) X Y (ix2 r n) = sco X Y r n := by
  pointwise [k0_pay25, stk_at, sco]

theorem pay30_at (X : FVec Ideal S1x256x256 .bf16) (Y : FVec Ideal S1x1024x128 .bf16) (r : Fin 1024) (n : Fin 1024) :
    k0_pay30 (F := Ideal) (k0_pay21 X) Y (ix2 r n) = sco X Y r n := by
  pointwise [k0_pay30, stk_at, sco]

theorem pay33_at (X : FVec Ideal S1x256x256 .bf16) (Y : FVec Ideal S1x1024x128 .bf16) (r : Fin 1024) (n : Fin 1024) :
    k0_pay33 (F := Ideal) (k0_pay21 X) Y (ix2 r n) = sco X Y r n := by
  pointwise [k0_pay33, stk_at, sco]

theorem pay36_at (X : FVec Ideal S1x256x256 .bf16) (Y : FVec Ideal S1x1024x128 .bf16) (r : Fin 1024) (n : Fin 1024) :
    k0_pay36 (F := Ideal) (k0_pay21 X) Y (ix2 r n) = sco X Y r n := by
  pointwise [k0_pay36, stk_at, sco]

/-- The running maximum of every lane over the 34 slabs of keys. -/
def mx (X : FVec Ideal S1x256x256 .bf16) (c0 : FVec Ideal S1x256x128 .bf16) (c1 c2 c3 c4 : FVec Ideal S1x1024x128 .bf16) :
    FVec Ideal S1024x128 .f32 :=
  k0_pay38 (k0_pay21 X) (k0_pay32 (k0_pay21 X) (k0_pay24 X c0) (k0_pay27 X c1) (k0_pay28 X c1) (k0_pay29 X c1) c2)
    (k0_pay35 (k0_pay21 X) c3) c4

/-- Eight slabs of 128 are all of a chunk of 1024. -/
theorem le8 (S : Fin 1024 → EReal) (b : EReal) :
    (∀ l : Fin 128, S ⟨(l : ℕ), by omega⟩ ≤ b ∧ S ⟨128 + (l : ℕ), by omega⟩ ≤ b ∧ S ⟨256 + (l : ℕ), by omega⟩ ≤ b
      ∧ S ⟨384 + (l : ℕ), by omega⟩ ≤ b ∧ S ⟨512 + (l : ℕ), by omega⟩ ≤ b ∧ S ⟨640 + (l : ℕ), by omega⟩ ≤ b
      ∧ S ⟨768 + (l : ℕ), by omega⟩ ≤ b ∧ S ⟨896 + (l : ℕ), by omega⟩ ≤ b) ↔ ∀ n, S n ≤ b := by
  constructor
  · intro h n
    have hn := n.isLt
    obtain ⟨h0, h1, h2, h3, h4, h5, h6, h7⟩ := h ⟨(n : ℕ) % 128, by omega⟩
    have at' : ∀ (k : ℕ) (hk : k < 1024), S ⟨k, hk⟩ ≤ b → k = (n : ℕ) → S n ≤ b := by
      rintro k hk h rfl; exact h
    rcases (by omega : (n : ℕ) / 128 = 0 ∨ (n : ℕ) / 128 = 1 ∨ (n : ℕ) / 128 = 2 ∨ (n : ℕ) / 128 = 3 ∨ (n : ℕ) / 128 = 4
      ∨ (n : ℕ) / 128 = 5 ∨ (n : ℕ) / 128 = 6 ∨ (n : ℕ) / 128 = 7) with e | e | e | e | e | e | e | e
    · exact at' _ _ h0 (by simp only; omega)
    · exact at' _ _ h1 (by simp only; omega)
    · exact at' _ _ h2 (by simp only; omega)
    · exact at' _ _ h3 (by simp only; omega)
    · exact at' _ _ h4 (by simp only; omega)
    · exact at' _ _ h5 (by simp only; omega)
    · exact at' _ _ h6 (by simp only; omega)
    · exact at' _ _ h7 (by simp only; omega)
  · intro h l
    exact ⟨h _, h _, h _, h _, h _, h _, h _, h _⟩

/-- Two slabs of 128 are all of a chunk of 256. -/
theorem le2 (S : Fin 256 → EReal) (b : EReal) :
    (∀ l : Fin 128, S ⟨(l : ℕ), by omega⟩ ≤ b ∧ S ⟨128 + (l : ℕ), by omega⟩ ≤ b) ↔ ∀ n, S n ≤ b := by
  constructor
  · intro h n
    have hn := n.isLt
    obtain ⟨h0, h1⟩ := h ⟨(n : ℕ) % 128, by omega⟩
    have at' : ∀ (k : ℕ) (hk : k < 256), S ⟨k, hk⟩ ≤ b → k = (n : ℕ) → S n ≤ b := by
      rintro k hk h rfl; exact h
    rcases (by omega : (n : ℕ) / 128 = 0 ∨ (n : ℕ) / 128 = 1) with e | e
    · exact at' _ _ h0 (by simp only; omega)
    · exact at' _ _ h1 (by simp only; omega)
  · intro h l
    exact ⟨h _, h _⟩

/-- The lane maxima of row `r` are at most `b` exactly when every score of the row is. -/
theorem mx_le (X : FVec Ideal S1x256x256 .bf16) (c0 : FVec Ideal S1x256x128 .bf16) (c1 c2 c3 c4 : FVec Ideal S1x1024x128 .bf16)
    (r : Fin 1024) (b : EReal) :
    (∀ l : Fin 128, mx X c0 c1 c2 c3 c4 (ix2 r l) ≤ b) ↔
      (∀ n, sco X c0 r n ≤ b) ∧ (∀ n, sco X c1 r n ≤ b) ∧ (∀ n, sco X c2 r n ≤ b) ∧ (∀ n, sco X c3 r n ≤ b)
        ∧ (∀ n, sco X c4 r n ≤ b) := by
  rw [← le2 (sco X c0 r), ← le8 (sco X c1 r), ← le8 (sco X c2 r), ← le8 (sco X c3 r), ← le8 (sco X c4 r),
    ← forall_and, ← forall_and, ← forall_and, ← forall_and]
  refine forall_congr' fun l => ?_
  pointwise [mx, k0_pay38, k0_pay32, k0_pay24, k0_pay27, k0_pay28, k0_pay29, k0_pay35, pay22_at, pay25_at, pay30_at, pay33_at, pay36_at]
  simp only [max_le_iff, and_assoc]

theorem negInf : Ideal.ofBits .f32 4286578688#32 = ⊥ := by
  simp [Ideal.ofBits, Ideal.ieee]

/-- The row maximum of the lane maxima, as the least upper bound of the row's scores. -/
theorem mx_fold (X : FVec Ideal S1x256x256 .bf16) (c0 : FVec Ideal S1x256x128 .bf16) (c1 c2 c3 c4 : FVec Ideal S1x1024x128 .bf16)
    (r : Fin 1024) (μ : EReal)
    (hμ : ∀ b, μ ≤ b ↔ (∀ n, sco X c0 r n ≤ b) ∧ (∀ n, sco X c1 r n ≤ b) ∧ (∀ n, sco X c2 r n ≤ b) ∧ (∀ n, sco X c3 r n ≤ b)
        ∧ (∀ n, sco X c4 r n ≤ b)) :
    Finset.fold max (Ideal.ofBits .f32 4286578688#32) (fun x => mx X c0 c1 c2 c3 c4 (ix2 r x)) Finset.univ = μ := by
  refine eq_of_forall_ge_iff fun b => ?_
  rw [hμ, ← mx_le, Finset.fold_max_le, negInf]
  exact ⟨fun h l => h.2 l (Finset.mem_univ l), fun h => ⟨bot_le, fun l _ => h l⟩⟩

/-- Eight slabs of 128 set side by side are the chunk they were cut from. -/
theorem lad (f : Fin 1024 → EReal) (x : Fin 1024) :
    (if h : (x : ℕ) < 128 then f x else (if h : (x : ℕ) - 128 < 128 then f ⟨128 + ((x : ℕ) - 128), by omega⟩ else (if h : (x : ℕ) - 128 - 128 < 128 then f ⟨256 + ((x : ℕ) - 128 - 128), by omega⟩ else (if h : (x : ℕ) - 128 - 128 - 128 < 128 then f ⟨384 + ((x : ℕ) - 128 - 128 - 128), by omega⟩ else (if h : (x : ℕ) - 128 - 128 - 128 - 128 < 128 then f ⟨512 + ((x : ℕ) - 128 - 128 - 128 - 128), by omega⟩ else (if h : (x : ℕ) - 128 - 128 - 128 - 128 - 128 < 128 then f ⟨640 + ((x : ℕ) - 128 - 128 - 128 - 128 - 128), by omega⟩ else (if h : (x : ℕ) - 128 - 128 - 128 - 128 - 128 - 128 < 128 then f ⟨768 + ((x : ℕ) - 128 - 128 - 128 - 128 - 128 - 128), by omega⟩ else f ⟨896 + ((x : ℕ) - 128 - 128 - 128 - 128 - 128 - 128 - 128), by omega⟩))))))) = f x := by
  have hx := x.isLt
  have at' : ∀ (k : ℕ) (hk : k < 1024), k = (x : ℕ) → f ⟨k, hk⟩ = f x := by
    rintro k hk rfl; rfl
  split_ifs
  · rfl
  all_goals exact at' _ _ (by omega)

/-- The values weighted by the powers of two of the scores less the row maximum. -/
def wv {N : ℕ} (μ : EReal) (s : FVec Ideal ⟨2, ![1024, N]⟩ .f32) (v : FVec Ideal ⟨3, ![1, N, 128]⟩ .bf16) (r : Fin 1024)
    (d : Fin 128) : EReal :=
  ∑ n : Fin N, (show EReal from FloatOps.exp2 (F := Ideal) (φ := .f32) (s (ix2 r n) - μ)) * v (ix3 (0 : Fin 1) n d)

set_option maxHeartbeats 1600000 in
/-- The accumulated weighted values of the five chunks of keys. -/
theorem acc_at (mxv : FVec Ideal S1024x128 .f32) (s0 : FVec Ideal S1024x256 .f32) (s1 s2 s3 s4 : FVec Ideal S1024x1024 .f32)
    (v0 : FVec Ideal S1x256x128 .bf16) (v1 v2 v3 v4 : FVec Ideal S1x1024x128 .bf16) (r : Fin 1024) (d : Fin 128)
    (μ : EReal) (hμ : Finset.fold max (Ideal.ofBits .f32 4286578688#32) (fun x => mxv (ix2 r x)) Finset.univ = μ) :
    k0_pay52 (F := Ideal) (k0_pay39 mxv) (k0_pay49 (k0_pay39 mxv) (k0_pay42 (k0_pay39 mxv) (k0_pay40 mxv s0) (k0_pay41 v0) s1 v1) s2
      (k0_pay43 (k0_pay39 mxv) s2) (k0_pay44 (k0_pay39 mxv) s2) (k0_pay45 (k0_pay39 mxv) s2) (k0_pay46 (k0_pay39 mxv) s2)
      (k0_pay47 (k0_pay39 mxv) s2) (k0_pay48 (k0_pay39 mxv) s2) v2 s3 v3) s4 (k0_pay50 (k0_pay39 mxv) s4) (k0_pay51 s4) v4 (ix2 r d)
      = wv μ s0 v0 r d + wv μ s1 v1 r d + wv μ s2 v2 r d + wv μ s3 v3 r d + wv μ s4 v4 r d := by
  have hM : ∀ l : Fin 128, k0_pay39 (F := Ideal) mxv (ix2 r l) = μ := by
    intro l
    pointwise [k0_pay39]
    exact hμ
  pointwise [k0_pay52, k0_pay49, k0_pay42, k0_pay40, k0_pay41, k0_pay43, k0_pay44, k0_pay45, k0_pay46, k0_pay47, k0_pay48, k0_pay50, k0_pay51, hM]
  unfold wv
  rw [Fin.sum_univ_two_halves 128 128 rfl]
  refine congrArg₂ (· + ·) (congrArg₂ (· + ·) (congrArg₂ (· + ·) (congrArg₂ (· + ·) rfl ?_) ?_) ?_) ?_
  · exact Finset.sum_congr rfl fun x _ => Ideal.mul_congr (lad (fun z => (show EReal from FloatOps.exp2 (F := Ideal) (φ := .f32) (s1 (ix2 r z) - μ))) x) rfl
  · exact Finset.sum_congr rfl fun x _ => Ideal.mul_congr (lad (fun z => (show EReal from FloatOps.exp2 (F := Ideal) (φ := .f32) (s2 (ix2 r z) - μ))) x) rfl
  · exact Finset.sum_congr rfl fun x _ => Ideal.mul_congr (lad (fun z => (show EReal from FloatOps.exp2 (F := Ideal) (φ := .f32) (s3 (ix2 r z) - μ))) x) rfl
  · exact Finset.sum_congr rfl fun x _ => Ideal.mul_congr (lad (fun z => (show EReal from FloatOps.exp2 (F := Ideal) (φ := .f32) (s4 (ix2 r z) - μ))) x) rfl

end Cert.KernelIdeal.Attn

end
-- ==== Proof.Tile.lean ====
/-
  One tile of queries, whole: its 1024 rows of scores against all 4352 keys, the maximum of each row, and the
  weighted values of each row, as sums over the keys; the kernel's chunks of 256 and four times 1024 keys put together.
-/
module

public import proofs.«01_k».proof.Proof.Scores

@[expose] public section

set_option maxRecDepth 16384

noncomputable section

namespace Cert.KernelIdeal.Attn

open Idealize.ShloMosaic Idealize.ShloMosaic.TcCoe Idealize.SL.Sem
open Cert.KernelIdeal Cert.KernelIdeal.Gen

/-- The scores of a tile, as the scratch holds them. -/
def scoF (X : FVec Ideal S1x256x256 .bf16) (K : FVec Ideal S1x4352x128 .bf16) : FVec Ideal S1024x4352 .f32 :=
  fun i => sco X K (i 0) (i 1)

/-- The largest score of a row. -/
def mrow (X : FVec Ideal S1x256x256 .bf16) (K : FVec Ideal S1x4352x128 .bf16) (r : Fin 1024) : EReal :=
  ⨆ n : Fin 4352, sco X K r n

/-- The lane maxima `mv` hold, in every row, the largest score of the row. -/
def MaxOk (X : FVec Ideal S1x256x256 .bf16) (K : FVec Ideal S1x4352x128 .bf16) (mv : FVec Ideal S1024x128 .f32) : Prop :=
  ∀ r : Fin 1024, Finset.fold max (Ideal.ofBits .f32 4286578688#32) (fun x => mv (ix2 r x)) Finset.univ = mrow X K r

/-- Row `r` of the tile: the values at lane `d` weighted by the powers of two of the scores less their maximum. -/
def att (X : FVec Ideal S1x256x256 .bf16) (K V : FVec Ideal S1x4352x128 .bf16) (r : Fin 1024) (d : Fin 128) : EReal :=
  ∑ n : Fin 4352, (show EReal from FloatOps.exp2 (F := Ideal) (φ := .f32) (sco X K r n - mrow X K r)) * V (ix3 (0 : Fin 1) n d)

/-- A property of all keys, chunk by chunk. -/
theorem all_chunks (P : Fin 4352 → Prop) :
    ((∀ n : Fin 256, P ⟨(n : ℕ), by omega⟩) ∧ (∀ n : Fin 1024, P ⟨256 + (n : ℕ), by omega⟩) ∧ (∀ n : Fin 1024, P ⟨1280 + (n : ℕ), by omega⟩)
      ∧ (∀ n : Fin 1024, P ⟨2304 + (n : ℕ), by omega⟩) ∧ (∀ n : Fin 1024, P ⟨3328 + (n : ℕ), by omega⟩)) ↔ ∀ n, P n := by
  constructor
  · rintro ⟨h0, h1, h2, h3, h4⟩ n
    have hn := n.isLt
    have at' : ∀ (k : ℕ) (hk : k < 4352), P ⟨k, hk⟩ → k = (n : ℕ) → P n := by
      rintro k hk h rfl; exact h
    by_cases a : (n : ℕ) < 256
    · exact at' _ _ (h0 ⟨n, a⟩) rfl
    by_cases b : (n : ℕ) < 1280
    · exact at' _ _ (h1 ⟨(n : ℕ) - 256, by omega⟩) (by simp only; omega)
    by_cases c : (n : ℕ) < 2304
    · exact at' _ _ (h2 ⟨(n : ℕ) - 1280, by omega⟩) (by simp only; omega)
    by_cases d : (n : ℕ) < 3328
    · exact at' _ _ (h3 ⟨(n : ℕ) - 2304, by omega⟩) (by simp only; omega)
    · exact at' _ _ (h4 ⟨(n : ℕ) - 3328, by omega⟩) (by simp only; omega)
  · intro h
    exact ⟨fun _ => h _, fun _ => h _, fun _ => h _, fun _ => h _, fun _ => h _⟩

/-- A sum over all keys, chunk by chunk. -/
theorem sum_chunks (f : Fin 4352 → EReal) :
    (∑ n : Fin 256, f ⟨(n : ℕ), by omega⟩) + (∑ n : Fin 1024, f ⟨256 + (n : ℕ), by omega⟩) + (∑ n : Fin 1024, f ⟨1280 + (n : ℕ), by omega⟩)
      + (∑ n : Fin 1024, f ⟨2304 + (n : ℕ), by omega⟩) + (∑ n : Fin 1024, f ⟨3328 + (n : ℕ), by omega⟩) = ∑ n, f n := by
  rw [Fin.sum_univ_two_halves 3328 1024 rfl f, Fin.sum_univ_two_halves 2304 1024 rfl (fun k : Fin 3328 => f ⟨(k : ℕ), by omega⟩),
    Fin.sum_univ_two_halves 1280 1024 rfl (fun k : Fin 2304 => f ⟨(k : ℕ), by omega⟩),
    Fin.sum_univ_two_halves 256 1024 rfl (fun k : Fin 1280 => f ⟨(k : ℕ), by omega⟩)]

/-- A chunk's scores are the tile's, at the chunk's keys. -/
theorem sco_chunk {N : ℕ} (X : FVec Ideal S1x256x256 .bf16) (K : FVec Ideal S1x4352x128 .bf16) (Y : FVec Ideal ⟨3, ![1, N, 128]⟩ .bf16)
    (r : Fin 1024) (n : Fin N) (k : Fin 4352) (h : ∀ d : Fin 128, Y (ix3 (0 : Fin 1) n d) = K (ix3 (0 : Fin 1) k d)) :
    sco X Y r n = sco X K r k := by
  unfold sco
  exact Finset.sum_congr rfl fun d _ => Ideal.mul_congr rfl (h d)

section
variable (X : FVec Ideal S1x256x256 .bf16) (K V : FVec Ideal S1x4352x128 .bf16)

theorem maxok (c0 : FVec Ideal S1x256x128 .bf16) (c1 c2 c3 c4 : FVec Ideal S1x1024x128 .bf16)
    (h0 : ∀ (n : Fin 256) (d : Fin 128), c0 (ix3 (0 : Fin 1) n d) = K (ix3 (0 : Fin 1) (⟨(n : ℕ), by omega⟩ : Fin 4352) d))
    (h1 : ∀ (n : Fin 1024) (d : Fin 128), c1 (ix3 (0 : Fin 1) n d) = K (ix3 (0 : Fin 1) (⟨256 + (n : ℕ), by omega⟩ : Fin 4352) d))
    (h2 : ∀ (n : Fin 1024) (d : Fin 128), c2 (ix3 (0 : Fin 1) n d) = K (ix3 (0 : Fin 1) (⟨1280 + (n : ℕ), by omega⟩ : Fin 4352) d))
    (h3 : ∀ (n : Fin 1024) (d : Fin 128), c3 (ix3 (0 : Fin 1) n d) = K (ix3 (0 : Fin 1) (⟨2304 + (n : ℕ), by omega⟩ : Fin 4352) d))
    (h4 : ∀ (n : Fin 1024) (d : Fin 128), c4 (ix3 (0 : Fin 1) n d) = K (ix3 (0 : Fin 1) (⟨3328 + (n : ℕ), by omega⟩ : Fin 4352) d)) :
    MaxOk X K (mx X c0 c1 c2 c3 c4) := by
  intro r
  refine mx_fold X c0 c1 c2 c3 c4 r _ fun b => ?_
  unfold mrow
  rw [iSup_le_iff, ← all_chunks (fun n => sco X K r n ≤ b)]
  refine and_congr ?_ (and_congr ?_ (and_congr ?_ (and_congr ?_ ?_)))
  · exact forall_congr' fun n => by rw [sco_chunk X K c0 r n _ (h0 n)]
  · exact forall_congr' fun n => by rw [sco_chunk X K c1 r n _ (h1 n)]
  · exact forall_congr' fun n => by rw [sco_chunk X K c2 r n _ (h2 n)]
  · exact forall_congr' fun n => by rw [sco_chunk X K c3 r n _ (h3 n)]
  · exact forall_congr' fun n => by rw [sco_chunk X K c4 r n _ (h4 n)]

theorem acc_att (mv : FVec Ideal S1024x128 .f32) (hm : MaxOk X K mv) (s0 : FVec Ideal S1024x256 .f32) (s1 s2 s3 s4 : FVec Ideal S1024x1024 .f32)
    (v0 : FVec Ideal S1x256x128 .bf16) (v1 v2 v3 v4 : FVec Ideal S1x1024x128 .bf16) (r : Fin 1024) (d : Fin 128)
    (hs0 : ∀ n : Fin 256, s0 (ix2 r n) = sco X K r ⟨(n : ℕ), by omega⟩)
    (hs1 : ∀ n : Fin 1024, s1 (ix2 r n) = sco X K r ⟨256 + (n : ℕ), by omega⟩)
    (hs2 : ∀ n : Fin 1024, s2 (ix2 r n) = sco X K r ⟨1280 + (n : ℕ), by omega⟩)
    (hs3 : ∀ n : Fin 1024, s3 (ix2 r n) = sco X K r ⟨2304 + (n : ℕ), by omega⟩)
    (hs4 : ∀ n : Fin 1024, s4 (ix2 r n) = sco X K r ⟨3328 + (n : ℕ), by omega⟩)
    (h0 : ∀ (n : Fin 256), v0 (ix3 (0 : Fin 1) n d) = V (ix3 (0 : Fin 1) (⟨(n : ℕ), by omega⟩ : Fin 4352) d))
    (h1 : ∀ (n : Fin 1024), v1 (ix3 (0 : Fin 1) n d) = V (ix3 (0 : Fin 1) (⟨256 + (n : ℕ), by omega⟩ : Fin 4352) d))
    (h2 : ∀ (n : Fin 1024), v2 (ix3 (0 : Fin 1) n d) = V (ix3 (0 : Fin 1) (⟨1280 + (n : ℕ), by omega⟩ : Fin 4352) d))
    (h3 : ∀ (n : Fin 1024), v3 (ix3 (0 : Fin 1) n d) = V (ix3 (0 : Fin 1) (⟨2304 + (n : ℕ), by omega⟩ : Fin 4352) d))
    (h4 : ∀ (n : Fin 1024), v4 (ix3 (0 : Fin 1) n d) = V (ix3 (0 : Fin 1) (⟨3328 + (n : ℕ), by omega⟩ : Fin 4352) d)) :
    k0_pay52 (F := Ideal) (k0_pay39 mv) (k0_pay49 (k0_pay39 mv) (k0_pay42 (k0_pay39 mv) (k0_pay40 mv s0) (k0_pay41 v0) s1 v1) s2
      (k0_pay43 (k0_pay39 mv) s2) (k0_pay44 (k0_pay39 mv) s2) (k0_pay45 (k0_pay39 mv) s2) (k0_pay46 (k0_pay39 mv) s2)
      (k0_pay47 (k0_pay39 mv) s2) (k0_pay48 (k0_pay39 mv) s2) v2 s3 v3) s4 (k0_pay50 (k0_pay39 mv) s4) (k0_pay51 s4) v4 (ix2 r d)
      = att X K V r d := by
  refine (acc_at mv s0 s1 s2 s3 s4 v0 v1 v2 v3 v4 r d (mrow X K r) (hm r)).trans ?_
  unfold att
  rw [← sum_chunks]
  refine congrArg₂ (· + ·) (congrArg₂ (· + ·) (congrArg₂ (· + ·) (congrArg₂ (· + ·) ?_ ?_) ?_) ?_) ?_
  · exact Finset.sum_congr rfl fun n _ => by rw [hs0, h0]
  · exact Finset.sum_congr rfl fun n _ => by rw [hs1, h1]
  · exact Finset.sum_congr rfl fun n _ => by rw [hs2, h2]
  · exact Finset.sum_congr rfl fun n _ => by rw [hs3, h3]
  · exact Finset.sum_congr rfl fun n _ => by rw [hs4, h4]

end

/-! The kernel repeats its scores and its weighted values once per kind of grid point, word for word. -/

theorem copy1 : k0_pay1 (F := Ideal) = k0_pay36 (F := Ideal) := rfl
theorem copy2 : k0_pay2 (F := Ideal) = k0_pay37 (F := Ideal) := rfl
theorem copy3 : k0_pay3 (F := Ideal) = k0_pay38 (F := Ideal) := rfl
theorem copy6 : k0_pay6 (F := Ideal) = k0_pay21 (F := Ideal) := rfl
theorem copy7 : k0_pay7 (F := Ideal) = k0_pay22 (F := Ideal) := rfl
theorem copy8 : k0_pay8 (F := Ideal) = k0_pay23 (F := Ideal) := rfl
theorem copy9 : k0_pay9 (F := Ideal) = k0_pay24 (F := Ideal) := rfl
theorem copy10 : k0_pay10 (F := Ideal) = k0_pay25 (F := Ideal) := rfl
theorem copy11 : k0_pay11 (F := Ideal) = k0_pay26 (F := Ideal) := rfl
theorem copy12 : k0_pay12 (F := Ideal) = k0_pay27 (F := Ideal) := rfl
theorem copy13 : k0_pay13 (F := Ideal) = k0_pay28 (F := Ideal) := rfl
theorem copy14 : k0_pay14 (F := Ideal) = k0_pay29 (F := Ideal) := rfl
theorem copy15 : k0_pay15 (F := Ideal) = k0_pay30 (F := Ideal) := rfl
theorem copy16 : k0_pay16 (F := Ideal) = k0_pay31 (F := Ideal) := rfl
theorem copy17 : k0_pay17 (F := Ideal) = k0_pay32 (F := Ideal) := rfl
theorem copy18 : k0_pay18 (F := Ideal) = k0_pay33 (F := Ideal) := rfl
theorem copy19 : k0_pay19 (F := Ideal) = k0_pay34 (F := Ideal) := rfl
theorem copy20 : k0_pay20 (F := Ideal) = k0_pay35 (F := Ideal) := rfl
theorem copy57 : k0_pay57 (F := Ideal) = k0_pay21 (F := Ideal) := rfl
theorem copy58 : k0_pay58 (F := Ideal) = k0_pay22 (F := Ideal) := rfl
theorem copy59 : k0_pay59 (F := Ideal) = k0_pay23 (F := Ideal) := rfl
theorem copy60 : k0_pay60 (F := Ideal) = k0_pay24 (F := Ideal) := rfl
theorem copy61 : k0_pay61 (F := Ideal) = k0_pay25 (F := Ideal) := rfl
theorem copy62 : k0_pay62 (F := Ideal) = k0_pay26 (F := Ideal) := rfl
theorem copy63 : k0_pay63 (F := Ideal) = k0_pay27 (F := Ideal) := rfl
theorem copy64 : k0_pay64 (F := Ideal) = k0_pay28 (F := Ideal) := rfl
theorem copy65 : k0_pay65 (F := Ideal) = k0_pay29 (F := Ideal) := rfl
theorem copy66 : k0_pay66 (F := Ideal) = k0_pay30 (F := Ideal) := rfl
theorem copy67 : k0_pay67 (F := Ideal) = k0_pay31 (F := Ideal) := rfl
theorem copy68 : k0_pay68 (F := Ideal) = k0_pay32 (F := Ideal) := rfl
theorem copy69 : k0_pay69 (F := Ideal) = k0_pay33 (F := Ideal) := rfl
theorem copy70 : k0_pay70 (F := Ideal) = k0_pay34 (F := Ideal) := rfl
theorem copy71 : k0_pay71 (F := Ideal) = k0_pay35 (F := Ideal) := rfl
theorem copy72 : k0_pay72 (F := Ideal) = k0_pay36 (F := Ideal) := rfl
theorem copy73 : k0_pay73 (F := Ideal) = k0_pay37 (F := Ideal) := rfl
theorem copy74 : k0_pay74 (F := Ideal) = k0_pay38 (F := Ideal) := rfl
theorem copy75 : k0_pay75 (F := Ideal) = k0_pay39 (F := Ideal) := rfl
theorem copy76 : k0_pay76 (F := Ideal) = k0_pay40 (F := Ideal) := rfl
theorem copy77 : k0_pay77 (F := Ideal) = k0_pay41 (F := Ideal) := rfl
theorem copy78 : k0_pay78 (F := Ideal) = k0_pay42 (F := Ideal) := rfl
theorem copy79 : k0_pay79 (F := Ideal) = k0_pay43 (F := Ideal) := rfl
theorem copy80 : k0_pay80 (F := Ideal) = k0_pay44 (F := Ideal) := rfl
theorem copy81 : k0_pay81 (F := Ideal) = k0_pay45 (F := Ideal) := rfl
theorem copy82 : k0_pay82 (F := Ideal) = k0_pay46 (F := Ideal) := rfl
theorem copy83 : k0_pay83 (F := Ideal) = k0_pay47 (F := Ideal) := rfl
theorem copy84 : k0_pay84 (F := Ideal) = k0_pay48 (F := Ideal) := rfl
theorem copy85 : k0_pay85 (F := Ideal) = k0_pay49 (F := Ideal) := rfl
theorem copy86 : k0_pay86 (F := Ideal) = k0_pay50 (F := Ideal) := rfl
theorem copy87 : k0_pay87 (F := Ideal) = k0_pay51 (F := Ideal) := rfl
theorem copy88 : k0_pay88 (F := Ideal) = k0_pay52 (F := Ideal) := rfl
theorem copy89 : k0_pay89 (F := Ideal) = k0_pay53 (F := Ideal) := rfl
theorem copy90 : k0_pay90 (F := Ideal) = k0_pay54 (F := Ideal) := rfl
theorem copy91 : k0_pay91 (F := Ideal) = k0_pay55 (F := Ideal) := rfl
theorem copy92 : k0_pay92 (F := Ideal) = k0_pay56 (F := Ideal) := rfl

theorem piece0 (X : FVec Ideal S1x256x256 .bf16) (K : FVec Ideal S1x4352x128 .bf16) (Y : FVec Ideal S1x256x128 .bf16)
    (hY : ∀ (n : Fin 256) (d : Fin 128), Y (ix3 (0 : Fin 1) n d) = K (ix3 (0 : Fin 1) (⟨(n : ℕ), by omega⟩ : Fin 4352) d))
    (x : S1024x256.Idx) (y : S1024x4352.Idx) (e0 : (y 0 : ℕ) = x 0) (e1 : (y 1 : ℕ) = x 1) :
    k0_pay23 (F := Ideal) X Y x = scoF X K y := by
  idx_vars x
  idx_vars y
  pointwise [k0_pay23, scoF]
  refine (pay22_at X Y x0 x1).trans ?_
  obtain rfl : y0 = x0 := Fin.ext e0
  exact (sco_chunk X K Y y0 x1 _ (hY x1)).trans (congrArg (sco X K y0) (Fin.ext e1.symm))

theorem piece1 (X : FVec Ideal S1x256x256 .bf16) (K : FVec Ideal S1x4352x128 .bf16) (Y : FVec Ideal S1x1024x128 .bf16)
    (hY : ∀ (n : Fin 1024) (d : Fin 128), Y (ix3 (0 : Fin 1) n d) = K (ix3 (0 : Fin 1) (⟨256 + (n : ℕ), by omega⟩ : Fin 4352) d))
    (x : S1024x1024.Idx) (y : S1024x4352.Idx) (e0 : (y 0 : ℕ) = x 0) (e1 : (y 1 : ℕ) = 256 + x 1) :
    k0_pay26 (F := Ideal) X Y x = scoF X K y := by
  idx_vars x
  idx_vars y
  pointwise [k0_pay26, scoF]
  refine (pay25_at X Y x0 x1).trans ?_
  obtain rfl : y0 = x0 := Fin.ext e0
  exact (sco_chunk X K Y y0 x1 _ (hY x1)).trans (congrArg (sco X K y0) (Fin.ext e1.symm))

theorem piece2 (X : FVec Ideal S1x256x256 .bf16) (K : FVec Ideal S1x4352x128 .bf16) (Y : FVec Ideal S1x1024x128 .bf16)
    (hY : ∀ (n : Fin 1024) (d : Fin 128), Y (ix3 (0 : Fin 1) n d) = K (ix3 (0 : Fin 1) (⟨1280 + (n : ℕ), by omega⟩ : Fin 4352) d))
    (x : S1024x1024.Idx) (y : S1024x4352.Idx) (e0 : (y 0 : ℕ) = x 0) (e1 : (y 1 : ℕ) = 1280 + x 1) :
    k0_pay31 (F := Ideal) (k0_pay21 X) Y x = scoF X K y := by
  idx_vars x
  idx_vars y
  pointwise [k0_pay31, scoF]
  refine (pay30_at X Y x0 x1).trans ?_
  obtain rfl : y0 = x0 := Fin.ext e0
  exact (sco_chunk X K Y y0 x1 _ (hY x1)).trans (congrArg (sco X K y0) (Fin.ext e1.symm))

theorem piece3 (X : FVec Ideal S1x256x256 .bf16) (K : FVec Ideal S1x4352x128 .bf16) (Y : FVec Ideal S1x1024x128 .bf16)
    (hY : ∀ (n : Fin 1024) (d : Fin 128), Y (ix3 (0 : Fin 1) n d) = K (ix3 (0 : Fin 1) (⟨2304 + (n : ℕ), by omega⟩ : Fin 4352) d))
    (x : S1024x1024.Idx) (y : S1024x4352.Idx) (e0 : (y 0 : ℕ) = x 0) (e1 : (y 1 : ℕ) = 2304 + x 1) :
    k0_pay34 (F := Ideal) (k0_pay21 X) Y x = scoF X K y := by
  idx_vars x
  idx_vars y
  pointwise [k0_pay34, scoF]
  refine (pay33_at X Y x0 x1).trans ?_
  obtain rfl : y0 = x0 := Fin.ext e0
  exact (sco_chunk X K Y y0 x1 _ (hY x1)).trans (congrArg (sco X K y0) (Fin.ext e1.symm))

theorem piece4 (X : FVec Ideal S1x256x256 .bf16) (K : FVec Ideal S1x4352x128 .bf16) (Y : FVec Ideal S1x1024x128 .bf16)
    (hY : ∀ (n : Fin 1024) (d : Fin 128), Y (ix3 (0 : Fin 1) n d) = K (ix3 (0 : Fin 1) (⟨3328 + (n : ℕ), by omega⟩ : Fin 4352) d))
    (x : S1024x1024.Idx) (y : S1024x4352.Idx) (e0 : (y 0 : ℕ) = x 0) (e1 : (y 1 : ℕ) = 3328 + x 1) :
    k0_pay37 (F := Ideal) (k0_pay21 X) Y x = scoF X K y := by
  idx_vars x
  idx_vars y
  pointwise [k0_pay37, scoF]
  refine (pay36_at X Y x0 x1).trans ?_
  obtain rfl : y0 = x0 := Fin.ext e0
  exact (sco_chunk X K Y y0 x1 _ (hY x1)).trans (congrArg (sco X K y0) (Fin.ext e1.symm))

/-- The block of a grid point: head `y2 / 128` of the tile at lanes `y2 % 128`. -/
def attC (X : FVec Ideal S1x256x256 .bf16) (K V : FVec Ideal S1x4352x128 .bf16) (y1 : Fin 256) (y2 : Fin 512) : EReal :=
  att X K V (⟨(y2 : ℕ) / 128 * 256 + (y1 : ℕ), by omega⟩ : Fin 1024) (⟨(y2 : ℕ) % 128, by omega⟩ : Fin 128)

def attB (X : FVec Ideal S1x256x256 .bf16) (K V : FVec Ideal S1x4352x128 .bf16) : FVec Ideal S1x256x512 .f32 :=
  fun y => attC X K V (y 1) (y 2)

theorem attB_at (X : FVec Ideal S1x256x256 .bf16) (K V : FVec Ideal S1x4352x128 .bf16) (y0 : Fin 1) (y1 : Fin 256) (y2 : Fin 512)
    (r : Fin 1024) (d : Fin 128) (hr : (r : ℕ) = (y2 : ℕ) / 128 * 256 + (y1 : ℕ)) (hd : (d : ℕ) = (y2 : ℕ) % 128) :
    att X K V r d = attB X K V (ix3 y0 y1 y2) :=
  congrArg₂ (att X K V) (Fin.ext hr) (Fin.ext hd)

theorem slab0 (X : FVec Ideal S1x256x256 .bf16) (K V : FVec Ideal S1x4352x128 .bf16) (a1 a2 : FVec Ideal S1024x128 .f32) (a3 : FVec Ideal S1024x1024 .f32) (a4 a5 : FVec Ideal S1024x128 .f32) (a6 : FVec Ideal S1x1024x128 .bf16)
    (hA : ∀ (r : Fin 1024) (d : Fin 128), k0_pay52 (F := Ideal) a1 a2 a3 a4 a5 a6 (ix2 r d) = att X K V r d)
    (x : S1x256x128.Idx) (y : S1x256x512.Idx) (e1 : (y 1 : ℕ) = x 1) (e2 : (y 2 : ℕ) = x 2) :
    k0_pay53 (F := Ideal) a1 a2 a3 a4 a5 a6 x = attB X K V y := by
  idx_vars x
  idx_vars y
  have e1' : (y1 : ℕ) = (x1 : ℕ) := e1
  have e2' : (y2 : ℕ) = (x2 : ℕ) := e2
  have hx : (x2 : ℕ) < 128 := x2.isLt
  have hx1 : (x1 : ℕ) < 256 := x1.isLt
  pointwise [k0_pay53]
  exact (hA (⟨(x1 : ℕ), by omega⟩ : Fin 1024) x2).trans (attB_at X K V y0 y1 y2 _ _ (by simp only; omega) (by omega))

theorem slab1 (X : FVec Ideal S1x256x256 .bf16) (K V : FVec Ideal S1x4352x128 .bf16) (a1 a2 : FVec Ideal S1024x128 .f32) (a3 : FVec Ideal S1024x1024 .f32) (a4 a5 : FVec Ideal S1024x128 .f32) (a6 : FVec Ideal S1x1024x128 .bf16)
    (hA : ∀ (r : Fin 1024) (d : Fin 128), k0_pay52 (F := Ideal) a1 a2 a3 a4 a5 a6 (ix2 r d) = att X K V r d)
    (x : S1x256x128.Idx) (y : S1x256x512.Idx) (e1 : (y 1 : ℕ) = x 1) (e2 : (y 2 : ℕ) = 128 + x 2) :
    k0_pay54 (F := Ideal) a1 a2 a3 a4 a5 a6 x = attB X K V y := by
  idx_vars x
  idx_vars y
  have e1' : (y1 : ℕ) = (x1 : ℕ) := e1
  have e2' : (y2 : ℕ) = 128 + (x2 : ℕ) := e2
  have hx : (x2 : ℕ) < 128 := x2.isLt
  have hx1 : (x1 : ℕ) < 256 := x1.isLt
  pointwise [k0_pay54]
  exact (hA (⟨256 + (x1 : ℕ), by omega⟩ : Fin 1024) x2).trans (attB_at X K V y0 y1 y2 _ _ (by simp only; omega) (by omega))

theorem slab2 (X : FVec Ideal S1x256x256 .bf16) (K V : FVec Ideal S1x4352x128 .bf16) (a1 a2 : FVec Ideal S1024x128 .f32) (a3 : FVec Ideal S1024x1024 .f32) (a4 a5 : FVec Ideal S1024x128 .f32) (a6 : FVec Ideal S1x1024x128 .bf16)
    (hA : ∀ (r : Fin 1024) (d : Fin 128), k0_pay52 (F := Ideal) a1 a2 a3 a4 a5 a6 (ix2 r d) = att X K V r d)
    (x : S1x256x128.Idx) (y : S1x256x512.Idx) (e1 : (y 1 : ℕ) = x 1) (e2 : (y 2 : ℕ) = 256 + x 2) :
    k0_pay55 (F := Ideal) a1 a2 a3 a4 a5 a6 x = attB X K V y := by
  idx_vars x
  idx_vars y
  have e1' : (y1 : ℕ) = (x1 : ℕ) := e1
  have e2' : (y2 : ℕ) = 256 + (x2 : ℕ) := e2
  have hx : (x2 : ℕ) < 128 := x2.isLt
  have hx1 : (x1 : ℕ) < 256 := x1.isLt
  pointwise [k0_pay55]
  exact (hA (⟨512 + (x1 : ℕ), by omega⟩ : Fin 1024) x2).trans (attB_at X K V y0 y1 y2 _ _ (by simp only; omega) (by omega))

theorem slab3 (X : FVec Ideal S1x256x256 .bf16) (K V : FVec Ideal S1x4352x128 .bf16) (a1 a2 : FVec Ideal S1024x128 .f32) (a3 : FVec Ideal S1024x1024 .f32) (a4 a5 : FVec Ideal S1024x128 .f32) (a6 : FVec Ideal S1x1024x128 .bf16)
    (hA : ∀ (r : Fin 1024) (d : Fin 128), k0_pay52 (F := Ideal) a1 a2 a3 a4 a5 a6 (ix2 r d) = att X K V r d)
    (x : S1x256x128.Idx) (y : S1x256x512.Idx) (e1 : (y 1 : ℕ) = x 1) (e2 : (y 2 : ℕ) = 384 + x 2) :
    k0_pay4 (F := Ideal) (k0_pay56 (F := Ideal) a1 a2 a3 a4 a5 a6) x = attB X K V y := by
  idx_vars x
  idx_vars y
  have e1' : (y1 : ℕ) = (x1 : ℕ) := e1
  have e2' : (y2 : ℕ) = 384 + (x2 : ℕ) := e2
  have hx : (x2 : ℕ) < 128 := x2.isLt
  have hx1 : (x1 : ℕ) < 256 := x1.isLt
  pointwise [k0_pay56, k0_pay4]
  exact (hA (⟨768 + (x1 : ℕ), by omega⟩ : Fin 1024) x2).trans (attB_at X K V y0 y1 y2 _ _ (by simp only; omega) (by omega))

end Cert.KernelIdeal.Attn

end
-- ==== Proof.Cases.lean ====
/-
  What every grid point leaves: the scores and lane maxima of the tile it prepares for the next point, and its own
  tile's weighted values.
-/
module

public import proofs.«01_k».proof.Proof.Gen.KernelIdeal.Frame
public import proofs.«01_k».proof.Proof.Tile
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Attn

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

theorem scoB1 (c : Dev nD) (t : Fin cfg0.N) (h0 : ¬t.val % 16 = 0) (h1 : ¬t.val % 2 = 0) (h2 : t.val % 2 = 1) :
    (outsAt0 m c t.val t.isLt).2.1 = scoF (iblk m c 1 t) (iblk m c 2 t) := by
  rw [outsAt0_B m c t h0 h1 h2]
  frame_out
  simp only [copy57, copy58, copy59, copy60, copy61, copy62, copy63, copy64, copy65, copy66, copy67, copy68, copy69, copy70, copy71, copy72, copy73, copy74]
  funext y
  canon_tiles x h using View.cover_of_tiledBy _ ![1024, 256] (by sl_kernel_rfl) y
  · exact piece4 _ _ _ (fun n d => by pointwise) x y (by omega) (by omega)
  · exact piece3 _ _ _ (fun n d => by pointwise) x y (by omega) (by omega)
  · exact piece2 _ _ _ (fun n d => by pointwise) x y (by omega) (by omega)
  · exact piece1 _ _ _ (fun n d => by pointwise) x y (by omega) (by omega)
  · exact piece0 _ _ _ (fun n d => by pointwise) x y (by omega) (by omega)

theorem maxB1 (c : Dev nD) (t : Fin cfg0.N) (h0 : ¬t.val % 16 = 0) (h1 : ¬t.val % 2 = 0) (h2 : t.val % 2 = 1) :
    MaxOk (iblk m c 1 t) (iblk m c 2 t) (outsAt0 m c t.val t.isLt).2.2.2.1 := by
  rw [outsAt0_B m c t h0 h1 h2]
  frame_out
  simp only [copy57, copy58, copy59, copy60, copy61, copy62, copy63, copy64, copy65, copy66, copy67, copy68, copy69, copy70, copy71, copy72, copy73, copy74]
  exact maxok _ _ _ _ _ _ _ (fun n d => by pointwise) (fun n d => by pointwise) (fun n d => by pointwise)
    (fun n d => by pointwise) (fun n d => by pointwise)

theorem scoC1 (c : Dev nD) (t : Fin cfg0.N) (h0 : ¬t.val % 16 = 0) (h1 : t.val % 2 = 0) (h2 : ¬t.val % 2 = 1) :
    (outsAt0 m c t.val t.isLt).2.2.1 = scoF (iblk m c 1 t) (iblk m c 2 t) := by
  rw [outsAt0_C m c t h0 h1 h2]
  frame_out
  funext y
  canon_tiles x h using View.cover_of_tiledBy _ ![1024, 256] (by sl_kernel_rfl) y
  · exact piece4 _ _ _ (fun n d => by pointwise) x y (by omega) (by omega)
  · exact piece3 _ _ _ (fun n d => by pointwise) x y (by omega) (by omega)
  · exact piece2 _ _ _ (fun n d => by pointwise) x y (by omega) (by omega)
  · exact piece1 _ _ _ (fun n d => by pointwise) x y (by omega) (by omega)
  · exact piece0 _ _ _ (fun n d => by pointwise) x y (by omega) (by omega)

theorem maxC1 (c : Dev nD) (t : Fin cfg0.N) (h0 : ¬t.val % 16 = 0) (h1 : t.val % 2 = 0) (h2 : ¬t.val % 2 = 1) :
    MaxOk (iblk m c 1 t) (iblk m c 2 t) (outsAt0 m c t.val t.isLt).2.2.2.2 := by
  rw [outsAt0_C m c t h0 h1 h2]
  frame_out
  exact maxok _ _ _ _ _ _ _ (fun n d => by pointwise) (fun n d => by pointwise) (fun n d => by pointwise)
    (fun n d => by pointwise) (fun n d => by pointwise)

theorem scoA1 (c : Dev nD) (t : Fin cfg0.N) (h0 : t.val % 16 = 0) (h1 : t.val % 2 = 0) (h2 : ¬t.val % 2 = 1) :
    (outsAt0 m c t.val t.isLt).2.2.1 = scoF (iblk m c 1 t) (iblk m c 2 t) := by
  rw [outsAt0_A m c t h0 h1 h2]
  frame_out
  funext y
  canon_tiles x h using View.cover_of_tiledBy _ ![1024, 256] (by sl_kernel_rfl) y
  · exact piece4 _ _ _ (fun n d => by pointwise) x y (by omega) (by omega)
  · exact piece3 _ _ _ (fun n d => by pointwise) x y (by omega) (by omega)
  · exact piece2 _ _ _ (fun n d => by pointwise) x y (by omega) (by omega)
  · exact piece1 _ _ _ (fun n d => by pointwise) x y (by omega) (by omega)
  · exact piece0 _ _ _ (fun n d => by pointwise) x y (by omega) (by omega)

theorem maxA1 (c : Dev nD) (t : Fin cfg0.N) (h0 : t.val % 16 = 0) (h1 : t.val % 2 = 0) (h2 : ¬t.val % 2 = 1) :
    MaxOk (iblk m c 1 t) (iblk m c 2 t) (outsAt0 m c t.val t.isLt).2.2.2.2 := by
  rw [outsAt0_A m c t h0 h1 h2]
  frame_out
  exact maxok _ _ _ _ _ _ _ (fun n d => by pointwise) (fun n d => by pointwise) (fun n d => by pointwise)
    (fun n d => by pointwise) (fun n d => by pointwise)

theorem outA (c : Dev nD) (t : Fin cfg0.N) (h0 : t.val % 16 = 0) (h1 : t.val % 2 = 0) (h2 : ¬t.val % 2 = 1) (X : FVec Ideal S1x256x256 .bf16) (K V : FVec Ideal S1x4352x128 .bf16)
    (hX : X = iblk m c 0 t) (hK : K = iblk m c 2 t) (hV : V = iblk m c 3 t) :
    (outsAt0 m c t.val t.isLt).1 = attB X K V := by
  rw [outsAt0_A m c t h0 h1 h2]
  frame_out
  simp only [copy1, copy2, copy3, copy6, copy7, copy8, copy9, copy10, copy11, copy12, copy13, copy14, copy15, copy16, copy17, copy18, copy19, copy20]
  rw [← hV, ← hX, ← hK]
  funext y
  canon_tiles x h
  · refine slab3 X K V _ _ _ _ _ _ (fun r d => ?_) x y (by omega) (by omega)
    refine acc_att X K V (mx X _ _ _ _ _) (maxok X K _ _ _ _ _ (fun n d => ?_) (fun n d => ?_) (fun n d => ?_) (fun n d => ?_) (fun n d => ?_))
      _ _ _ _ _ _ _ _ _ _ r d (fun n => ?_) (fun n => ?_) (fun n => ?_) (fun n => ?_) (fun n => ?_)
      (fun n => by pointwise) (fun n => by pointwise) (fun n => by pointwise) (fun n => by pointwise) (fun n => by pointwise)
    rotate_left 5
    all_goals try (pointwise; done)
    · rw [View.readCov_skip _ _ _ _ _ (by rfl), View.readCov_skip _ _ _ _ _ (by rfl), View.readCov_skip _ _ _ _ _ (by rfl), View.readCov_skip _ _ _ _ _ (by rfl), View.readCov_cons_toLoadRect]
      exact piece0 X K _ (fun n d => by pointwise) (ix2 r n) (ix2 r _) rfl rfl
    · rw [View.readCov_skip _ _ _ _ _ (by rfl), View.readCov_skip _ _ _ _ _ (by rfl), View.readCov_skip _ _ _ _ _ (by rfl), View.readCov_cons_toLoadRect]
      exact piece1 X K _ (fun n d => by pointwise) (ix2 r n) (ix2 r _) rfl rfl
    · rw [View.readCov_skip _ _ _ _ _ (by rfl), View.readCov_skip _ _ _ _ _ (by rfl), View.readCov_cons_toLoadRect]
      exact piece2 X K _ (fun n d => by pointwise) (ix2 r n) (ix2 r _) rfl rfl
    · rw [View.readCov_skip _ _ _ _ _ (by rfl), View.readCov_cons_toLoadRect]
      exact piece3 X K _ (fun n d => by pointwise) (ix2 r n) (ix2 r _) rfl rfl
    · rw [View.readCov_cons_toLoadRect]
      exact piece4 X K _ (fun n d => by pointwise) (ix2 r n) (ix2 r _) rfl rfl
  · refine slab2 X K V _ _ _ _ _ _ (fun r d => ?_) x y (by omega) (by omega)
    refine acc_att X K V (mx X _ _ _ _ _) (maxok X K _ _ _ _ _ (fun n d => ?_) (fun n d => ?_) (fun n d => ?_) (fun n d => ?_) (fun n d => ?_))
      _ _ _ _ _ _ _ _ _ _ r d (fun n => ?_) (fun n => ?_) (fun n => ?_) (fun n => ?_) (fun n => ?_)
      (fun n => by pointwise) (fun n => by pointwise) (fun n => by pointwise) (fun n => by pointwise) (fun n => by pointwise)
    rotate_left 5
    all_goals try (pointwise; done)
    · rw [View.readCov_skip _ _ _ _ _ (by rfl), View.readCov_skip _ _ _ _ _ (by rfl), View.readCov_skip _ _ _ _ _ (by rfl), View.readCov_skip _ _ _ _ _ (by rfl), View.readCov_cons_toLoadRect]
      exact piece0 X K _ (fun n d => by pointwise) (ix2 r n) (ix2 r _) rfl rfl
    · rw [View.readCov_skip _ _ _ _ _ (by rfl), View.readCov_skip _ _ _ _ _ (by rfl), View.readCov_skip _ _ _ _ _ (by rfl), View.readCov_cons_toLoadRect]
      exact piece1 X K _ (fun n d => by pointwise) (ix2 r n) (ix2 r _) rfl rfl
    · rw [View.readCov_skip _ _ _ _ _ (by rfl), View.readCov_skip _ _ _ _ _ (by rfl), View.readCov_cons_toLoadRect]
      exact piece2 X K _ (fun n d => by pointwise) (ix2 r n) (ix2 r _) rfl rfl
    · rw [View.readCov_skip _ _ _ _ _ (by rfl), View.readCov_cons_toLoadRect]
      exact piece3 X K _ (fun n d => by pointwise) (ix2 r n) (ix2 r _) rfl rfl
    · rw [View.readCov_cons_toLoadRect]
      exact piece4 X K _ (fun n d => by pointwise) (ix2 r n) (ix2 r _) rfl rfl
  · refine slab1 X K V _ _ _ _ _ _ (fun r d => ?_) x y (by omega) (by omega)
    refine acc_att X K V (mx X _ _ _ _ _) (maxok X K _ _ _ _ _ (fun n d => ?_) (fun n d => ?_) (fun n d => ?_) (fun n d => ?_) (fun n d => ?_))
      _ _ _ _ _ _ _ _ _ _ r d (fun n => ?_) (fun n => ?_) (fun n => ?_) (fun n => ?_) (fun n => ?_)
      (fun n => by pointwise) (fun n => by pointwise) (fun n => by pointwise) (fun n => by pointwise) (fun n => by pointwise)
    rotate_left 5
    all_goals try (pointwise; done)
    · rw [View.readCov_skip _ _ _ _ _ (by rfl), View.readCov_skip _ _ _ _ _ (by rfl), View.readCov_skip _ _ _ _ _ (by rfl), View.readCov_skip _ _ _ _ _ (by rfl), View.readCov_cons_toLoadRect]
      exact piece0 X K _ (fun n d => by pointwise) (ix2 r n) (ix2 r _) rfl rfl
    · rw [View.readCov_skip _ _ _ _ _ (by rfl), View.readCov_skip _ _ _ _ _ (by rfl), View.readCov_skip _ _ _ _ _ (by rfl), View.readCov_cons_toLoadRect]
      exact piece1 X K _ (fun n d => by pointwise) (ix2 r n) (ix2 r _) rfl rfl
    · rw [View.readCov_skip _ _ _ _ _ (by rfl), View.readCov_skip _ _ _ _ _ (by rfl), View.readCov_cons_toLoadRect]
      exact piece2 X K _ (fun n d => by pointwise) (ix2 r n) (ix2 r _) rfl rfl
    · rw [View.readCov_skip _ _ _ _ _ (by rfl), View.readCov_cons_toLoadRect]
      exact piece3 X K _ (fun n d => by pointwise) (ix2 r n) (ix2 r _) rfl rfl
    · rw [View.readCov_cons_toLoadRect]
      exact piece4 X K _ (fun n d => by pointwise) (ix2 r n) (ix2 r _) rfl rfl
  · refine slab0 X K V _ _ _ _ _ _ (fun r d => ?_) x y (by omega) (by omega)
    refine acc_att X K V (mx X _ _ _ _ _) (maxok X K _ _ _ _ _ (fun n d => ?_) (fun n d => ?_) (fun n d => ?_) (fun n d => ?_) (fun n d => ?_))
      _ _ _ _ _ _ _ _ _ _ r d (fun n => ?_) (fun n => ?_) (fun n => ?_) (fun n => ?_) (fun n => ?_)
      (fun n => by pointwise) (fun n => by pointwise) (fun n => by pointwise) (fun n => by pointwise) (fun n => by pointwise)
    rotate_left 5
    all_goals try (pointwise; done)
    · rw [View.readCov_skip _ _ _ _ _ (by rfl), View.readCov_skip _ _ _ _ _ (by rfl), View.readCov_skip _ _ _ _ _ (by rfl), View.readCov_skip _ _ _ _ _ (by rfl), View.readCov_cons_toLoadRect]
      exact piece0 X K _ (fun n d => by pointwise) (ix2 r n) (ix2 r _) rfl rfl
    · rw [View.readCov_skip _ _ _ _ _ (by rfl), View.readCov_skip _ _ _ _ _ (by rfl), View.readCov_skip _ _ _ _ _ (by rfl), View.readCov_cons_toLoadRect]
      exact piece1 X K _ (fun n d => by pointwise) (ix2 r n) (ix2 r _) rfl rfl
    · rw [View.readCov_skip _ _ _ _ _ (by rfl), View.readCov_skip _ _ _ _ _ (by rfl), View.readCov_cons_toLoadRect]
      exact piece2 X K _ (fun n d => by pointwise) (ix2 r n) (ix2 r _) rfl rfl
    · rw [View.readCov_skip _ _ _ _ _ (by rfl), View.readCov_cons_toLoadRect]
      exact piece3 X K _ (fun n d => by pointwise) (ix2 r n) (ix2 r _) rfl rfl
    · rw [View.readCov_cons_toLoadRect]
      exact piece4 X K _ (fun n d => by pointwise) (ix2 r n) (ix2 r _) rfl rfl

theorem outB (c : Dev nD) (t : Fin cfg0.N) (h0 : ¬t.val % 16 = 0) (h1 : ¬t.val % 2 = 0) (h2 : t.val % 2 = 1) (hp : t.val - 1 < cfg0.N) (X : FVec Ideal S1x256x256 .bf16) (K V : FVec Ideal S1x4352x128 .bf16)
    (hV : V = iblk m c 3 t)
    (hs : (outsAt0 m c (t.val - 1) hp).2.2.1 = scoF X K) (hm : MaxOk X K (outsAt0 m c (t.val - 1) hp).2.2.2.2) :
    (outsAt0 m c t.val t.isLt).1 = attB X K V := by
  rw [outsAt0_B m c t h0 h1 h2]
  frame_out
  simp only [read_unread_whole, hs, copy75, copy76, copy77, copy78, copy79, copy80, copy81, copy82, copy83, copy84, copy85, copy86, copy87, copy88, copy89, copy90, copy91, copy92]
  rw [← hV]
  funext y
  canon_tiles x h
  · refine slab3 X K V _ _ _ _ _ _ (fun r d => ?_) x y (by omega) (by omega)
    exact acc_att X K V _ hm _ _ _ _ _ _ _ _ _ _ r d (fun n => by pointwise [scoF]) (fun n => by pointwise [scoF]) (fun n => by pointwise [scoF]) (fun n => by pointwise [scoF]) (fun n => by pointwise [scoF]) (fun n => by pointwise) (fun n => by pointwise) (fun n => by pointwise) (fun n => by pointwise) (fun n => by pointwise)
  · refine slab2 X K V _ _ _ _ _ _ (fun r d => ?_) x y (by omega) (by omega)
    exact acc_att X K V _ hm _ _ _ _ _ _ _ _ _ _ r d (fun n => by pointwise [scoF]) (fun n => by pointwise [scoF]) (fun n => by pointwise [scoF]) (fun n => by pointwise [scoF]) (fun n => by pointwise [scoF]) (fun n => by pointwise) (fun n => by pointwise) (fun n => by pointwise) (fun n => by pointwise) (fun n => by pointwise)
  · refine slab1 X K V _ _ _ _ _ _ (fun r d => ?_) x y (by omega) (by omega)
    exact acc_att X K V _ hm _ _ _ _ _ _ _ _ _ _ r d (fun n => by pointwise [scoF]) (fun n => by pointwise [scoF]) (fun n => by pointwise [scoF]) (fun n => by pointwise [scoF]) (fun n => by pointwise [scoF]) (fun n => by pointwise) (fun n => by pointwise) (fun n => by pointwise) (fun n => by pointwise) (fun n => by pointwise)
  · refine slab0 X K V _ _ _ _ _ _ (fun r d => ?_) x y (by omega) (by omega)
    exact acc_att X K V _ hm _ _ _ _ _ _ _ _ _ _ r d (fun n => by pointwise [scoF]) (fun n => by pointwise [scoF]) (fun n => by pointwise [scoF]) (fun n => by pointwise [scoF]) (fun n => by pointwise [scoF]) (fun n => by pointwise) (fun n => by pointwise) (fun n => by pointwise) (fun n => by pointwise) (fun n => by pointwise)

theorem outC (c : Dev nD) (t : Fin cfg0.N) (h0 : ¬t.val % 16 = 0) (h1 : t.val % 2 = 0) (h2 : ¬t.val % 2 = 1) (hp : t.val - 1 < cfg0.N) (X : FVec Ideal S1x256x256 .bf16) (K V : FVec Ideal S1x4352x128 .bf16)
    (hV : V = iblk m c 3 t)
    (hs : (outsAt0 m c (t.val - 1) hp).2.1 = scoF X K) (hm : MaxOk X K (outsAt0 m c (t.val - 1) hp).2.2.2.1) :
    (outsAt0 m c t.val t.isLt).1 = attB X K V := by
  rw [outsAt0_C m c t h0 h1 h2]
  frame_out
  simp only [read_unread_whole, hs, copy1]
  rw [← hV]
  funext y
  canon_tiles x h
  · refine slab3 X K V _ _ _ _ _ _ (fun r d => ?_) x y (by omega) (by omega)
    exact acc_att X K V _ hm _ _ _ _ _ _ _ _ _ _ r d (fun n => by pointwise [scoF]) (fun n => by pointwise [scoF]) (fun n => by pointwise [scoF]) (fun n => by pointwise [scoF]) (fun n => by pointwise [scoF]) (fun n => by pointwise) (fun n => by pointwise) (fun n => by pointwise) (fun n => by pointwise) (fun n => by pointwise)
  · refine slab2 X K V _ _ _ _ _ _ (fun r d => ?_) x y (by omega) (by omega)
    exact acc_att X K V _ hm _ _ _ _ _ _ _ _ _ _ r d (fun n => by pointwise [scoF]) (fun n => by pointwise [scoF]) (fun n => by pointwise [scoF]) (fun n => by pointwise [scoF]) (fun n => by pointwise [scoF]) (fun n => by pointwise) (fun n => by pointwise) (fun n => by pointwise) (fun n => by pointwise) (fun n => by pointwise)
  · refine slab1 X K V _ _ _ _ _ _ (fun r d => ?_) x y (by omega) (by omega)
    exact acc_att X K V _ hm _ _ _ _ _ _ _ _ _ _ r d (fun n => by pointwise [scoF]) (fun n => by pointwise [scoF]) (fun n => by pointwise [scoF]) (fun n => by pointwise [scoF]) (fun n => by pointwise [scoF]) (fun n => by pointwise) (fun n => by pointwise) (fun n => by pointwise) (fun n => by pointwise) (fun n => by pointwise)
  · refine slab0 X K V _ _ _ _ _ _ (fun r d => ?_) x y (by omega) (by omega)
    exact acc_att X K V _ hm _ _ _ _ _ _ _ _ _ _ r d (fun n => by pointwise [scoF]) (fun n => by pointwise [scoF]) (fun n => by pointwise [scoF]) (fun n => by pointwise [scoF]) (fun n => by pointwise [scoF]) (fun n => by pointwise) (fun n => by pointwise) (fun n => by pointwise) (fun n => by pointwise) (fun n => by pointwise)

end Cert.KernelIdeal.Attn

end
-- ==== Proof.Arr.lean ====
/-
  The result array of the call: every grid point's block is the weighted values of its own tile, whichever point
  computed the tile's scores.
-/
module

public import proofs.«01_k».proof.Proof.Cases

@[expose] public section

set_option maxRecDepth 16384

noncomputable section

namespace Cert.KernelIdeal.Attn

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The blocks of the windows, at every grid point. -/
theorem idx : ∀ t : Fin cfg0.N, win0_0.index t = ![t.val / 32, t.val % 16 + 1, t.val / 16 % 2]
    ∧ win0_1.index t = ![t.val / 32, min (t.val % 16 + 1) 15 + 1, t.val / 16 % 2]
    ∧ win0_2.index t = ![t.val / 32, 0, t.val / 16 % 2] ∧ win0_3.index t = ![t.val / 32, 0, t.val / 16 % 2]
    ∧ win0_4.index t = ![t.val / 32, t.val % 16, t.val / 16 % 2] ∧ t.val < 256 :=
  (by decide +kernel : ∀ t : Fin grid0.N, _)

/-- Tile `j` of the queries of sequence `b` and group `g`. -/
def qC (Q : FVec Ideal S8x4352x512 .bf16) (b : Fin 8) (g : Fin 2) (j : Fin 16) (y1 y2 : Fin 256) : EReal :=
  Q (ix3 b (⟨(j : ℕ) * 256 + 256 + (y1 : ℕ), by omega⟩ : Fin 4352) (⟨(g : ℕ) * 256 + (y2 : ℕ), by omega⟩ : Fin 512))

def qT (Q : FVec Ideal S8x4352x512 .bf16) (b : Fin 8) (g : Fin 2) (j : Fin 16) : FVec Ideal S1x256x256 .bf16 :=
  fun y => qC Q b g j (y 1) (y 2)

/-- The keys, or the values, of sequence `b` and group `g`. -/
def kC (K : FVec Ideal S8x4352x256 .bf16) (b : Fin 8) (g : Fin 2) (y1 : Fin 4352) (y2 : Fin 128) : EReal :=
  K (ix3 b y1 (⟨(g : ℕ) * 128 + (y2 : ℕ), by omega⟩ : Fin 256))

def kT (K : FVec Ideal S8x4352x256 .bf16) (b : Fin 8) (g : Fin 2) : FVec Ideal S1x4352x128 .bf16 :=
  fun y => kC K b g (y 1) (y 2)

/-- The sequence, group and tile of a grid point. -/
def tb (t : Fin cfg0.N) : Fin 8 := ⟨t.val / 32, by have := (idx t).2.2.2.2.2; omega⟩
def tg (t : Fin cfg0.N) : Fin 2 := ⟨t.val / 16 % 2, by omega⟩
def tj (t : Fin cfg0.N) : Fin 16 := ⟨t.val % 16, by omega⟩

theorem iblk0 (c : Dev nD) (t : Fin cfg0.N) : iblk m c 0 t = qT (V m c main_v8) (tb t) (tg t) (tj t) := by
  funext y
  unfold qT qC tb tg tj
  blk_ext [iblk, idx t]

theorem iblk1 (c : Dev nD) (t t' : Fin cfg0.N) (h : t'.val + 1 = t.val) (h0 : ¬t.val % 16 = 0) :
    iblk m c 1 t' = qT (V m c main_v8) (tb t) (tg t) (tj t) := by
  have e : min (t'.val % 16 + 1) 15 + 1 = t.val % 16 + 1 := by omega
  have e1 : t'.val / 32 = t.val / 32 := by omega
  have e2 : t'.val / 16 % 2 = t.val / 16 % 2 := by omega
  funext y
  unfold qT qC tb tg tj
  blk_ext [iblk, idx t', e, e1, e2]

theorem iblk2 (c : Dev nD) (t : Fin cfg0.N) : iblk m c 2 t = kT (V m c main_v11) (tb t) (tg t) := by
  funext y
  unfold kT kC tb tg
  blk_ext [iblk, idx t]

theorem iblk3 (c : Dev nD) (t : Fin cfg0.N) : iblk m c 3 t = kT (V m c main_v17) (tb t) (tg t) := by
  funext y
  unfold kT kC tb tg
  blk_ext [iblk, idx t]

theorem block (c : Dev nD) (t : Fin cfg0.N) : (outsAt0 m c t.val t.isLt).1
    = attB (qT (V m c main_v8) (tb t) (tg t) (tj t)) (kT (V m c main_v11) (tb t) (tg t)) (kT (V m c main_v17) (tb t) (tg t)) := by
  by_cases h0 : t.val % 16 = 0
  · exact outA m c t h0 (by omega) (by omega) _ _ _ (iblk0 m c t).symm (iblk2 m c t).symm (iblk3 m c t).symm
  · have hp : t.val - 1 < cfg0.N := Nat.lt_of_le_of_lt (Nat.sub_le _ _) t.isLt
    have e1 := iblk1 m c t ⟨t.val - 1, hp⟩ (by simp only; omega) h0
    have eb : tb ⟨t.val - 1, hp⟩ = tb t := Fin.ext (by simp only [tb]; omega)
    have eg : tg ⟨t.val - 1, hp⟩ = tg t := Fin.ext (by simp only [tg]; omega)
    have e2 := iblk2 m c ⟨t.val - 1, hp⟩
    rw [eb, eg] at e2
    by_cases h1 : t.val % 2 = 0
    · have hs := scoB1 m c ⟨t.val - 1, hp⟩
      have hm := maxB1 m c ⟨t.val - 1, hp⟩
      rw [e1, e2] at hs hm
      have a0 : ¬(t.val - 1) % 16 = 0 := by omega
      have a1 : ¬(t.val - 1) % 2 = 0 := by omega
      have a2 : (t.val - 1) % 2 = 1 := by omega
      exact outC m c t h0 h1 (by omega) hp _ _ _ (iblk3 m c t).symm (hs a0 a1 a2) (hm a0 a1 a2)
    · have hs : (outsAt0 m c (t.val - 1) hp).2.2.1 = scoF (iblk m c 1 ⟨t.val - 1, hp⟩) (iblk m c 2 ⟨t.val - 1, hp⟩)
          ∧ MaxOk (iblk m c 1 ⟨t.val - 1, hp⟩) (iblk m c 2 ⟨t.val - 1, hp⟩) (outsAt0 m c (t.val - 1) hp).2.2.2.2 := by
        have a1 : (t.val - 1) % 2 = 0 := by omega
        have a2 : ¬(t.val - 1) % 2 = 1 := by omega
        by_cases a0 : (t.val - 1) % 16 = 0
        · exact ⟨scoA1 m c ⟨t.val - 1, hp⟩ a0 a1 a2, maxA1 m c ⟨t.val - 1, hp⟩ a0 a1 a2⟩
        · exact ⟨scoC1 m c ⟨t.val - 1, hp⟩ a0 a1 a2, maxC1 m c ⟨t.val - 1, hp⟩ a0 a1 a2⟩
      rw [e1, e2] at hs
      exact outB m c t h0 h1 (by omega) hp _ _ _ (iblk3 m c t).symm hs.1 hs.2

/-- The result of the call, over its operands. -/
def OUT (Q : FVec Ideal S8x4352x512 .bf16) (K V : FVec Ideal S8x4352x256 .bf16) (b : Fin 8) (s : Fin 4096) (l : Fin 1024) : EReal :=
  attC (qT Q b (⟨(l : ℕ) / 512, by omega⟩ : Fin 2) (⟨(s : ℕ) / 256, by omega⟩ : Fin 16)) (kT K b (⟨(l : ℕ) / 512, by omega⟩ : Fin 2))
    (kT V b (⟨(l : ℕ) / 512, by omega⟩ : Fin 2)) (⟨(s : ℕ) % 256, by omega⟩ : Fin 256) (⟨(l : ℕ) % 512, by omega⟩ : Fin 512)

def OUTF (Q : FVec Ideal S8x4352x512 .bf16) (K V : FVec Ideal S8x4352x256 .bf16) : FVec Ideal S8x4096x1024 .f32 :=
  fun i => OUT Q K V (i 0) (i 1) (i 2)

theorem OUT_at (Q : FVec Ideal S8x4352x512 .bf16) (K V : FVec Ideal S8x4352x256 .bf16) (b b' : Fin 8) (g : Fin 2) (j : Fin 16) (y1 : Fin 256)
    (y2 : Fin 512) (s : Fin 4096) (l : Fin 1024) (hb : (b' : ℕ) = b) (hs : (s : ℕ) = j * 256 + y1) (hl : (l : ℕ) = g * 512 + y2) :
    attC (qT Q b g j) (kT K b g) (kT V b g) y1 y2 = OUT Q K V b' s l := by
  obtain rfl : b' = b := Fin.ext hb
  have hg : g = (⟨(l : ℕ) / 512, by omega⟩ : Fin 2) := Fin.ext (by simp only; omega)
  have hj : j = (⟨(s : ℕ) / 256, by omega⟩ : Fin 16) := Fin.ext (by simp only; omega)
  have h1 : y1 = (⟨(s : ℕ) % 256, by omega⟩ : Fin 256) := Fin.ext (by simp only; omega)
  have h2 : y2 = (⟨(l : ℕ) % 512, by omega⟩ : Fin 512) := Fin.ext (by simp only; omega)
  unfold OUT
  rw [← hg, ← hj, ← h1, ← h2]

theorem final (c : Dev nD) : (dats m 0 c).arrAt 4 (cfgs 0).N = OUTF (V m c main_v8) (V m c main_v11) (V m c main_v17) := by
  refine (dats m 0 c).arrAt_eq_of_covers 4 _ (by decide +kernel) fun t _ y => ?_
  blk_simp
  rw [after0_4, block]
  unfold attB OUTF
  refine OUT_at _ _ _ _ _ _ _ (y 1) (y 2) _ _ ?_ ?_ ?_
  · blk_simp [idx t, tb]
  · blk_simp [idx t, tj]
  · blk_simp [idx t, tg]

end Cert.KernelIdeal.Attn

end
-- ==== Proof.Host.lean ====
/-
  The operands of the call, as the host prepares them.
-/
module

public import proofs.«01_k».proof.Proof.Tile
public import proofs.«01_k».proof.Proof.Gen.KernelIdeal.Frame
public import Idealize.ShloMosaic.Lib.Claim
public import Idealize.ShloMosaic.Lib.Pointwise

@[expose] public section

set_option maxRecDepth 16384

noncomputable section

namespace Cert.KernelIdeal.Attn

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The queries' scale: an eighth over the natural logarithm of two. -/
def cc : EReal := Ideal.div (Ideal.ofBits .f32 1040187392#32) (Ideal.log (Ideal.ofBits .f32 1073741824#32))

theorem keys_at (c : Dev nD) (b : Fin 8) (n : Fin 4352) (l : Fin 256) :
    V m c main_v11 (ix3 b n l)
      = m ((c : Thread nD τ).loc main_arg1) (ix4 b n (⟨(l : ℕ) / 128, by omega⟩ : Fin 2) (⟨(l : ℕ) % 64, by omega⟩ : Fin 64)) := by
  unfold V V0
  simp only [List.flatten_cons, List.flatten_nil, List.append_nil]
  entry_read
  pointwise
  by_cases h : (l : ℕ) % 128 < 64
  · have e : (⟨(l : ℕ) % 64, by omega⟩ : Fin 64) = ⟨(l : ℕ) % 128, h⟩ := Fin.ext (by simp only; omega)
    rw [dif_pos h, e]
  · have e : (⟨(l : ℕ) % 64, by omega⟩ : Fin 64) = ⟨(l : ℕ) % 128 - 64, by omega⟩ := Fin.ext (by simp only; omega)
    rw [dif_neg h, e]

theorem queries_at (c : Dev nD) (b : Fin 8) (n : Fin 4352) (l : Fin 512) (h : 256 ≤ (n : ℕ)) :
    V m c main_v8 (ix3 b n l)
      = (show EReal from m ((c : Thread nD τ).loc main_arg0) (ix4 b (⟨(n : ℕ) - 256, by omega⟩ : Fin 4096) (⟨(l : ℕ) / 64, by omega⟩ : Fin 8) (⟨(l : ℕ) % 64, by omega⟩ : Fin 64))) * cc := by
  unfold V V0
  simp only [List.flatten_cons, List.flatten_nil, List.append_nil]
  entry_read
  pointwise
  have h' : ¬(n : ℕ) < 256 := by omega
  rw [dif_neg h']
  rfl

set_option maxHeartbeats 1600000 in
theorem values_at (c : Dev nD) (b : Fin 8) (n : Fin 4352) (l : Fin 256) :
    V m c main_v17 (ix3 b n l)
      = (if h : (l : ℕ) % 128 < 64 then
          (show EReal from m ((c : Thread nD τ).loc main_arg2) (ix4 b n (⟨(l : ℕ) / 128, by omega⟩ : Fin 2) (⟨(l : ℕ) % 128, by omega⟩ : Fin 64)))
        else if (l : ℕ) % 128 - 64 < 1 then (1 : EReal) else 0) := by
  unfold V V0
  simp only [List.flatten_cons, List.flatten_nil, List.append_nil]
  entry_read
  pointwise
  rfl

end Cert.KernelIdeal.Attn

end
-- ==== Proof.Kern.lean ====
/-
  The result of the call over the queries, keys and values: sums over the 64 components of a head.
-/
module

public import proofs.«01_k».proof.Proof.Arr
public import proofs.«01_k».proof.Proof.Host

@[expose] public section

set_option maxRecDepth 16384

noncomputable section

namespace Cert.KernelIdeal.Attn

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The score of key `n` for head `h` of query `s`. -/
def S (q : FVec Ideal S8x4096x8x64 .f32) (k : FVec Ideal S8x4352x2x64 .f32) (b : Fin 8) (s : Fin 4096) (h : Fin 8) (n : Fin 4352) : EReal :=
  ∑ d : Fin 64, (q (ix4 b s h d) * cc) * k (ix4 b n (⟨(h : ℕ) / 4, by omega⟩ : Fin 2) d)

/-- The weight of key `n`: the power of two of its score less the largest score. -/
def W (q : FVec Ideal S8x4096x8x64 .f32) (k : FVec Ideal S8x4352x2x64 .f32) (b : Fin 8) (s : Fin 4096) (h : Fin 8) (n : Fin 4352) : EReal :=
  FloatOps.exp2 (F := Ideal) (φ := .f32) (S q k b s h n - ⨆ n, S q k b s h n)

theorem sum_half (f : Fin 128 → EReal) (g : Fin 64 → EReal) (p : ℕ) (hp : p < 2) (h0 : ∀ d : Fin 128, ¬p = (d : ℕ) / 64 → f d = 0)
    (h1 : ∀ (d : Fin 128) (e : Fin 64), (d : ℕ) = p * 64 + e → f d = g e) : ∑ d : Fin 128, f d = ∑ d : Fin 64, g d := by
  rw [Fin.sum_univ_two_halves 64 64 rfl f]
  interval_cases p
  · have a : (∑ k : Fin 64, f ⟨64 + k.val, by have := k.isLt; omega⟩) = 0 :=
      Finset.sum_eq_zero fun k _ => h0 _ (by simp only <;> omega)
    rw [a, add_zero]
    exact Finset.sum_congr rfl fun k _ => h1 _ _ (by simp only <;> omega)
  · have a : (∑ k : Fin 64, f ⟨k.val, by have := k.isLt; omega⟩) = 0 :=
      Finset.sum_eq_zero fun k _ => h0 _ (by simp only <;> omega)
    rw [a, zero_add]
    exact Finset.sum_congr rfl fun k _ => h1 _ _ (by simp only <;> omega)

theorem sco_eq (Q : FVec Ideal S8x4352x512 .bf16) (K : FVec Ideal S8x4352x256 .bf16) (q : FVec Ideal S8x4096x8x64 .f32)
    (k : FVec Ideal S8x4352x2x64 .f32)
    (hQ : ∀ (b : Fin 8) (n : Fin 4352) (l : Fin 512) (h : 256 ≤ (n : ℕ)), Q (ix3 b n l)
      = (q (ix4 b (⟨(n : ℕ) - 256, by omega⟩ : Fin 4096) (⟨(l : ℕ) / 64, by omega⟩ : Fin 8) (⟨(l : ℕ) % 64, by omega⟩ : Fin 64)) : EReal) * cc)
    (hK : ∀ (b : Fin 8) (n : Fin 4352) (l : Fin 256), K (ix3 b n l)
      = k (ix4 b n (⟨(l : ℕ) / 128, by omega⟩ : Fin 2) (⟨(l : ℕ) % 64, by omega⟩ : Fin 64)))
    (b : Fin 8) (g : Fin 2) (j : Fin 16) (r : Fin 1024) (s : Fin 4096) (h : Fin 8) (n : Fin 4352)
    (hs : (s : ℕ) = j * 256 + (r : ℕ) % 256) (hh : (h : ℕ) = g * 4 + (r : ℕ) / 256) :
    sco (qT Q b g j) (kT K b g) r n = S q k b s h n := by
  refine sum_half _ _ ((r : ℕ) / 256 % 2) (by omega) (fun d hd => ?_) (fun d e he => ?_)
  · unfold stk
    rw [if_neg hd, zero_mul]
  · have hd : (r : ℕ) / 256 % 2 = (d : ℕ) / 64 := by omega
    unfold stk
    rw [if_pos hd]
    refine congrArg₂ (fun a c : EReal => a * c) ?_ ?_
    · refine (hQ _ _ _ (by simp only <;> omega)).trans (congrArg (fun a : EReal => a * cc) (congrArg q ?_))
      have e1 : ((⟨(j : ℕ) * 256 + 256 + (r : ℕ) % 256 - 256, by omega⟩ : Fin 4096)) = s := Fin.ext (by simp only <;> omega)
      have e2 : ((⟨((g : ℕ) * 256 + ((r : ℕ) / 512 * 128 + d)) / 64, by omega⟩ : Fin 8)) = h := Fin.ext (by simp only <;> omega)
      have e3 : ((⟨((g : ℕ) * 256 + ((r : ℕ) / 512 * 128 + d)) % 64, by omega⟩ : Fin 64)) = e := Fin.ext (by simp only <;> omega)
      exact congr (congrArg₂ (fun x y z => ix4 b x y z) e1 e2) e3
    · refine (hK _ _ _).trans (congrArg k ?_)
      have e2 : ((⟨((g : ℕ) * 128 + d) / 128, by omega⟩ : Fin 2)) = ⟨(h : ℕ) / 4, by omega⟩ := Fin.ext (by simp only <;> omega)
      have e3 : ((⟨((g : ℕ) * 128 + d) % 64, by omega⟩ : Fin 64)) = e := Fin.ext (by simp only <;> omega)
      exact congrArg₂ (fun y z => ix4 b n y z) e2 e3

theorem out_eq (Q : FVec Ideal S8x4352x512 .bf16) (K V : FVec Ideal S8x4352x256 .bf16) (q : FVec Ideal S8x4096x8x64 .f32)
    (k : FVec Ideal S8x4352x2x64 .f32)
    (hQ : ∀ (b : Fin 8) (n : Fin 4352) (l : Fin 512) (h : 256 ≤ (n : ℕ)), Q (ix3 b n l)
      = (q (ix4 b (⟨(n : ℕ) - 256, by omega⟩ : Fin 4096) (⟨(l : ℕ) / 64, by omega⟩ : Fin 8) (⟨(l : ℕ) % 64, by omega⟩ : Fin 64)) : EReal) * cc)
    (hK : ∀ (b : Fin 8) (n : Fin 4352) (l : Fin 256), K (ix3 b n l)
      = k (ix4 b n (⟨(l : ℕ) / 128, by omega⟩ : Fin 2) (⟨(l : ℕ) % 64, by omega⟩ : Fin 64)))
    (b : Fin 8) (s : Fin 4096) (h : Fin 8) (e : Fin 128) (l : Fin 1024) (l' : Fin 256) (hl : (l : ℕ) = h * 128 + e)
    (hl' : (l' : ℕ) = (h : ℕ) / 4 * 128 + e) :
    OUT Q K V b s l = ∑ n : Fin 4352, W q k b s h n * V (ix3 b n l') := by
  unfold OUT attC att mrow W
  refine Finset.sum_congr rfl fun n _ => congrArg₂ (fun a c : EReal => a * c) ?_ ?_
  · have e0 : ∀ n, sco (qT Q b (⟨(l : ℕ) / 512, by omega⟩ : Fin 2) (⟨(s : ℕ) / 256, by omega⟩ : Fin 16)) (kT K b (⟨(l : ℕ) / 512, by omega⟩ : Fin 2))
        (⟨(l : ℕ) % 512 / 128 * 256 + (s : ℕ) % 256, by omega⟩ : Fin 1024) n = S q k b s h n := fun n =>
      sco_eq Q K q k hQ hK b _ _ _ s h n (by simp only <;> omega) (by simp only <;> omega)
    have e1 := iSup_congr e0
    exact congrArg₂ (fun a c : EReal => FloatOps.exp2 (F := Ideal) (φ := .f32) (a - c)) (e0 n) e1
  · have e1 : (⟨(l : ℕ) / 512 * 128 + (l : ℕ) % 512 % 128, by omega⟩ : Fin 256) = l' := Fin.ext (by simp only <;> omega)
    exact congrArg (fun z => V (ix3 b n z)) e1

/-- The values stand in the first 64 lanes of a group, a one in the next. -/
theorem values_one (c : Dev nD) (b : Fin 8) (n : Fin 4352) (l : Fin 256) (h : (l : ℕ) % 128 = 64) :
    V m c main_v17 (ix3 b n l) = (1 : EReal) := by
  refine (values_at m c b n l).trans ?_
  rw [dif_neg (by omega : ¬(l : ℕ) % 128 < 64), if_pos (by omega : (l : ℕ) % 128 - 64 < 1)]

theorem values_val (c : Dev nD) (b : Fin 8) (n : Fin 4352) (l : Fin 256) (g : Fin 2) (e : Fin 64) (h : (l : ℕ) = g * 128 + e) :
    V m c main_v17 (ix3 b n l) = (show EReal from m ((c : Thread nD τ).loc main_arg2) (ix4 b n g e)) := by
  refine (values_at m c b n l).trans ?_
  rw [dif_pos (by omega : (l : ℕ) % 128 < 64)]
  have e2 : ((⟨(l : ℕ) / 128, by omega⟩ : Fin 2)) = g := Fin.ext (by simp only <;> omega)
  have e3 : ((⟨(l : ℕ) % 128, by omega⟩ : Fin 64)) = e := Fin.ext (by simp only <;> omega)
  exact congrArg₂ (fun y z => (m ((c : Thread nD τ).loc main_arg2) (ix4 b n y z) : EReal)) e2 e3

end Cert.KernelIdeal.Attn

end
-- ==== Proof.Ref.lean ====
/-
  The reference at an index: the softmax-weighted values of a head.
-/
module

public import proofs.«01_k».proof.Proof.Gen.ReferenceIdeal
public import proofs.«01_k».proof.Proof.Scores
public import Idealize.ShloMosaic.Lib.Pointwise

@[expose] public section

set_option maxRecDepth 16384

noncomputable section

namespace Cert.ReferenceIdeal.Attn

open Idealize.ShloMosaic Idealize.ShloMosaic.TcCoe Idealize.SL.Sem
open Cert.ReferenceIdeal Cert.ReferenceIdeal.Gen

/-- The scores. -/
def T (q : FVec Ideal S8x4096x8x64 .f32) (k : FVec Ideal S8x4352x2x64 .f32) : FVec Ideal S8x2x4x4096x4352 .f32 :=
  mulf (transpose S8x2x4x4096x4352 [0, 1, 4, 3, 2] (Host.dotGeneral dot_S8x4352x2x64_S8x4096x2x4x64_S8x2x4352x4096x4_3_4_1_13_02_02 none k
    (shapeCast S8x4096x2x4x64 q shapeCasts_S8x4096x8x64_S8x4096x2x4x64)) transposes_S8x2x4352x4096x4_S8x2x4x4096x4352_0_1_4_3_2)
    (broadcastInDim S8x2x4x4096x4352 ![] bcast_S_S8x2x4x4096x4352 (constant S_ .f32 0x3E000000#32))

theorem T_at (q : FVec Ideal S8x4096x8x64 .f32) (k : FVec Ideal S8x4352x2x64 .f32) (b : Fin 8) (g : Fin 2) (u : Fin 4) (s : Fin 4096) (n : Fin 4352) :
    T q k (ix5 b g u s n) = (∑ d : Fin 64, k (ix4 b n g d) * q (ix4 b s (⟨(g : ℕ) * 4 + u, by omega⟩ : Fin 8) d)) * Ideal.ofBits .f32 0x3E000000#32 := by
  pointwise [T]

theorem red_at {n0 n1 n2 n3 n4 : ℕ} (t : FVec Ideal ⟨5, ![n0, n1, n2, n3, n4]⟩ .f32) (w : BitVec 32)
    (h : (⟨5, ![n0, n1, n2, n3, n4]⟩ : Shape).ReducesTo [4] ⟨4, ![n0, n1, n2, n3]⟩) (hu : 0 < S_.numel)
    (b : Fin n0) (g : Fin n1) (u : Fin n2) (s : Fin n3) :
    Host.reduce FloatOps.maximumf t (constant (F := Ideal) S_ .f32 w) h hu (ix4 b g u s)
      = (Finset.univ : Finset (Fin n4)).fold max (Ideal.ofBits .f32 w) fun x => t (ix5 b g u s x) := by
  pointwise

/-- The largest score of each row, started from minus infinity. -/
def MXR (t : FVec Ideal S8x2x4x4096x4352 .f32) : FVec Ideal S8x2x4x4096 .f32 :=
  maximumf (broadcastInDim S8x2x4x4096 ![] bcast_S_S8x2x4x4096 (constant S_ .f32 0xFF800000#32))
    (Host.reduce FloatOps.maximumf t (constant S_ .f32 0xFF800000#32) reducesTo_S8x2x4x4096x4352_S8x2x4x4096_d4 h_S_)

theorem mf_at (a r : FVec Ideal S8x2x4x4096 .f32) (i : S8x2x4x4096.Idx) : maximumf a r i = max (a i : EReal) (r i) := rfl

theorem bc_at (w : FVec Ideal S_ .f32) (z : EReal) (hw : ∀ i, w i = z) (i : S8x2x4x4096.Idx) :
    broadcastInDim S8x2x4x4096 ![] bcast_S_S8x2x4x4096 w i = z := hw _

theorem MXR_at (t : FVec Ideal S8x2x4x4096x4352 .f32) (b : Fin 8) (g : Fin 2) (u : Fin 4) (s : Fin 4096) :
    MXR t (ix4 b g u s) = (⨆ n : Fin 4352, t (ix5 b g u s n) : EReal) := by
  have hb : Ideal.ofBits .f32 4286578688#32 = (⊥ : EReal) := Cert.KernelIdeal.Attn.negInf
  unfold MXR
  rw [mf_at, bc_at (constant S_ .f32 0xFF800000#32) ⊥ (fun _ => hb), red_at, hb, max_eq_right bot_le]
  exact Finset.sup_univ_eq_iSup (fun n : Fin 4352 => (t (ix5 b g u s n) : EReal))

/-- The exponentials of the scores less their row's largest. -/
def EX (t : FVec Ideal S8x2x4x4096x4352 .f32) (M : FVec Ideal S8x2x4x4096 .f32) : FVec Ideal S8x2x4x4096x4352 .f32 :=
  Host.exp (subf t (broadcastInDim S8x2x4x4096x4352 ![0, 1, 2, 3, 4] bcast_S8x2x4x4096x1_S8x2x4x4096x4352_0_1_2_3_4
    (broadcastInDim S8x2x4x4096x1 ![0, 1, 2, 3] bcast_S8x2x4x4096_S8x2x4x4096x1_0_1_2_3 M)))

theorem EX_at (t : FVec Ideal S8x2x4x4096x4352 .f32) (M : FVec Ideal S8x2x4x4096 .f32) (b : Fin 8) (g : Fin 2) (u : Fin 4) (s : Fin 4096)
    (n : Fin 4352) : EX t M (ix5 b g u s n) = Ideal.exp (t (ix5 b g u s n) - M (ix4 b g u s)) := by
  pointwise [EX]

/-- The values weighted by the normalized exponentials. -/
def AV (v : FVec Ideal S8x4352x2x64 .f32) (e : FVec Ideal S8x2x4x4096x4352 .f32) : FVec Ideal S8x4096x512 .f32 :=
  shapeCast S8x4096x512 (transpose S8x4096x2x4x64 [0, 4, 1, 3, 2] (Host.dotGeneral dot_S8x4352x2x64_S8x2x4x4096x4352_S8x2x64x4x4096_1_4_3_23_02_01 none v
    (Host.divf e (broadcastInDim S8x2x4x4096x4352 ![0, 1, 2, 3, 4] bcast_S8x2x4x4096x1_S8x2x4x4096x4352_0_1_2_3_4
      (broadcastInDim S8x2x4x4096x1 ![0, 1, 2, 3] bcast_S8x2x4x4096_S8x2x4x4096x1_0_1_2_3
        (Host.reduceAdd e (constant S_ .f32 0x00000000#32) reducesTo_S8x2x4x4096x4352_S8x2x4x4096_d4 h_S_)))))
    transposes_S8x2x64x4x4096_S8x4096x2x4x64_0_4_1_3_2) shapeCasts_S8x4096x2x4x64_S8x4096x512

theorem AV_at (v : FVec Ideal S8x4352x2x64 .f32) (e : FVec Ideal S8x2x4x4096x4352 .f32) (b : Fin 8) (s : Fin 4096) (l : Fin 512) :
    AV v e (ix3 b s l) = ∑ n : Fin 4352, v (ix4 b n (⟨(l : ℕ) / 256, by omega⟩ : Fin 2) (⟨(l : ℕ) % 64, by omega⟩ : Fin 64))
      * Ideal.div (e (ix5 b (⟨(l : ℕ) / 256, by omega⟩ : Fin 2) (⟨(l : ℕ) / 64 % 4, by omega⟩ : Fin 4) s n))
          (∑ n : Fin 4352, e (ix5 b (⟨(l : ℕ) / 256, by omega⟩ : Fin 2) (⟨(l : ℕ) / 64 % 4, by omega⟩ : Fin 4) s n)) := by
  pointwise [AV]

end Cert.ReferenceIdeal.Attn

end
-- ==== Proof.Value.lean ====
/-
  The run of the kernel program with its host code, and its equality with the reference.
-/
module

public import proofs.«01_k».proof.Proof.Kern
public import proofs.«01_k».proof.Proof.Ref
public import proofs.«01_k».proof.Proof.Soft

@[expose] public section

set_option maxRecDepth 16384

noncomputable section

namespace Cert.KernelIdeal.Attn

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The host code after the call: the first 64 lanes of a head times the reciprocal of the next. -/
def TAIL (O : FVec Ideal S8x4096x1024 .f32) : FVec Ideal S8x4096x512 .f32 :=
  shapeCast S8x4096x512 (mulf
    (extractStridedSlice S8x4096x8x64 ![0, 0, 0, 0] (shapeCast S8x4096x8x128 O shapeCasts_S8x4096x1024_S8x4096x8x128) slices_S8x4096x8x128_S8x4096x8x64_0_0_0_0)
    (broadcastInDim S8x4096x8x64 ![0, 1, 2, 3] bcast_S8x4096x8x1_S8x4096x8x64_0_1_2_3
      (Host.divf (broadcastInDim S8x4096x8x1 ![] bcast_S_S8x4096x8x1 (constant S_ .f32 0x3F800000#32))
        (extractStridedSlice S8x4096x8x1 ![0, 0, 0, 64] (shapeCast S8x4096x8x128 O shapeCasts_S8x4096x1024_S8x4096x8x128) slices_S8x4096x8x128_S8x4096x8x1_0_0_0_64))))
    shapeCasts_S8x4096x8x64_S8x4096x512

theorem TAIL_at (O : FVec Ideal S8x4096x1024 .f32) (b : Fin 8) (s : Fin 4096) (l : Fin 512) :
    TAIL O (ix3 b s l) = (O (ix3 b s (⟨(l : ℕ) / 64 * 128 + (l : ℕ) % 64, by omega⟩ : Fin 1024)) : EReal)
      * Ideal.div 1 (O (ix3 b s (⟨(l : ℕ) / 64 * 128 + 64, by omega⟩ : Fin 1024))) := by
  pointwise [TAIL]

theorem tail_read (σ : Valuation τ sig (Elt Ideal)) :
    StableHlo.after hostOps1 σ (Proc.devRef .tc main_v26) = TAIL (σ (Proc.devRef .tc main_v18)) := by
  after_results
  rfl

theorem arr4 (c : Dev nD) : Pipeline.withArrays (cfgs 0).spec c (V0 m c) (fun w => (dats m 0 c).arrAt w (cfgs 0).N) (Proc.devRef .tc main_v18)
    = (dats m 0 c).arrAt 4 (cfgs 0).N :=
  Pipeline.withArrays_arr_shared (cfgs 0).spec c (V0 m c) (fun w => (dats m 0 c).arrAt w (cfgs 0).N)
    ((dats m 0 c).arrAt_sharedIn (by decide +kernel) (V0 m c) (fun _ => rfl) _) 4

theorem kernel_run (g : Dev nD → PrngReg) :
  θ_run (Cert.KernelIdeal.defs (F := Ideal)) (onTc (τ := Cert.KernelIdeal.τ) (Cert.KernelIdeal.main (F := Ideal))) ⟨m, fun _ => 0, g⟩ (fun r => ∀ c : Dev nD,
          r.2.mem ((c.tc : Thread nD τ).loc main_v26) = TAIL (OUTF (V m c main_v8) (V m c main_v11) (V m c main_v17))
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)) := by
  run_from Cert.KernelIdeal.Gen.run_main m g
  · unfold Pipeline.afterTail₀
    simp only [List.flatten_cons, List.flatten_nil, List.append_nil]
    rw [tail_read, arr4, final]
  · exact W_main_arg0 m (dats m) c
  · exact W_main_arg1 m (dats m) c
  · exact W_main_arg2 m (dats m) c

/-- Over real queries and keys the kernel's result is the reference's. -/
theorem value_eq (c : Dev nD) (q : FVec Ideal S8x4096x8x64 .f32) (k v : FVec Ideal S8x4352x2x64 .f32)
    (eq : m ((c : Thread nD τ).loc main_arg0) = q) (ek : m ((c : Thread nD τ).loc main_arg1) = k) (ev : m ((c : Thread nD τ).loc main_arg2) = v)
    (hq : ∀ i, ∃ r : ℝ, (q i : EReal) = (r : EReal)) (hk : ∀ i, ∃ r : ℝ, (k i : EReal) = (r : EReal)) :
    TAIL (OUTF (V m c main_v8) (V m c main_v11) (V m c main_v17))
      = Cert.ReferenceIdeal.Attn.AV v (Cert.ReferenceIdeal.Attn.EX (Cert.ReferenceIdeal.Attn.T q k) (Cert.ReferenceIdeal.Attn.MXR (Cert.ReferenceIdeal.Attn.T q k))) := by
  choose qr hq using hq
  choose kr hk using hk
  have hQ : ∀ (b : Fin 8) (n : Fin 4352) (l : Fin 512) (h : 256 ≤ (n : ℕ)), V m c main_v8 (ix3 b n l)
      = (q (ix4 b (⟨(n : ℕ) - 256, by omega⟩ : Fin 4096) (⟨(l : ℕ) / 64, by omega⟩ : Fin 8) (⟨(l : ℕ) % 64, by omega⟩ : Fin 64)) : EReal) * cc := by
    rw [← eq]; exact queries_at m c
  have hK : ∀ (b : Fin 8) (n : Fin 4352) (l : Fin 256), V m c main_v11 (ix3 b n l)
      = k (ix4 b n (⟨(l : ℕ) / 128, by omega⟩ : Fin 2) (⟨(l : ℕ) % 64, by omega⟩ : Fin 64)) := by
    rw [← ek]; exact keys_at m c
  funext i
  idx_vars i
  let h : Fin 8 := ⟨(i2 : ℕ) / 64, by omega⟩
  let e : Fin 64 := ⟨(i2 : ℕ) % 64, by omega⟩
  let g : Fin 2 := ⟨(i2 : ℕ) / 256, by omega⟩
  let u : Fin 4 := ⟨(i2 : ℕ) / 64 % 4, by omega⟩
  let sr : Fin 4352 → ℝ := fun n => (∑ d : Fin 64, kr (ix4 i0 n g d) * qr (ix4 i0 i1 h d)) * (1 / 8)
  have hg : (⟨(h : ℕ) / 4, by omega⟩ : Fin 2) = g := Fin.ext (by simp only [h, g]; omega)
  have hS : ∀ n, S q k i0 i1 h n = ((sr n / Real.log 2 : ℝ) : EReal) := fun n => by
    unfold S
    rw [hg]
    refine Eq.trans (Finset.sum_congr rfl fun d _ => ?_) (Cert.Soft.score_ker (fun d : Fin 64 => qr (ix4 i0 i1 h d)) (fun d => kr (ix4 i0 n g d)))
    rw [hq, hk, show cc = _ from Cert.Soft.scale]
  have hT : ∀ n, Cert.ReferenceIdeal.Attn.T q k (ix5 i0 g u i1 n) = ((sr n : ℝ) : EReal) := fun n => by
    have hh : (⟨(g : ℕ) * 4 + u, by omega⟩ : Fin 8) = h := Fin.ext (by simp only [h, g, u]; omega)
    refine (Cert.ReferenceIdeal.Attn.T_at q k i0 g u i1 n).trans ?_
    rw [hh, Cert.Soft.ofBits_eighth]
    refine Eq.trans ?_ (Cert.Soft.score_ref (fun d : Fin 64 => qr (ix4 i0 i1 h d)) (fun d => kr (ix4 i0 n g d)))
    refine congrArg (fun z : EReal => z * _) (Finset.sum_congr rfl fun d _ => ?_)
    rw [hq, hk]
  obtain ⟨n0, hn⟩ := Cert.Soft.sup_real sr
  have hW : ∀ n, W q k i0 i1 h n = ((Real.exp (sr n - sr n0) : ℝ) : EReal) := fun n => by
    unfold W
    rw [iSup_congr hS, hS]
    exact Cert.Soft.exp2_weight sr n0 hn n
  have hE : ∀ n, Cert.ReferenceIdeal.Attn.EX (Cert.ReferenceIdeal.Attn.T q k) (Cert.ReferenceIdeal.Attn.MXR (Cert.ReferenceIdeal.Attn.T q k)) (ix5 i0 g u i1 n)
      = ((Real.exp (sr n - sr n0) : ℝ) : EReal) := fun n => by
    refine (Cert.ReferenceIdeal.Attn.EX_at _ _ i0 g u i1 n).trans ?_
    rw [Cert.ReferenceIdeal.Attn.MXR_at, iSup_congr hT, hT]
    exact Cert.Soft.exp_weight sr n0 hn n
  have o1 : OUT (V m c main_v8) (V m c main_v11) (V m c main_v17) i0 i1 (⟨(i2 : ℕ) / 64 * 128 + (i2 : ℕ) % 64, by omega⟩ : Fin 1024)
      = ∑ n : Fin 4352, ((Real.exp (sr n - sr n0) : ℝ) : EReal) * v (ix4 i0 n g e) := by
    refine (out_eq _ _ _ q k hQ hK i0 i1 h (⟨(i2 : ℕ) % 64, by omega⟩ : Fin 128) _ (⟨(i2 : ℕ) / 256 * 128 + (i2 : ℕ) % 64, by omega⟩ : Fin 256)
      (by simp only [h]) (by simp only [h]; omega)).trans ?_
    refine Finset.sum_congr rfl fun n _ => ?_
    rw [hW, values_val m c i0 n _ g e (by simp only [g, e]), ev]
  have o2 : OUT (V m c main_v8) (V m c main_v11) (V m c main_v17) i0 i1 (⟨(i2 : ℕ) / 64 * 128 + 64, by omega⟩ : Fin 1024)
      = ∑ n : Fin 4352, ((Real.exp (sr n - sr n0) : ℝ) : EReal) * 1 := by
    refine (out_eq _ _ _ q k hQ hK i0 i1 h (64 : Fin 128) _ (⟨(i2 : ℕ) / 256 * 128 + 64, by omega⟩ : Fin 256)
      (by simp only [h]; rfl) (by simp only [h]; show _ = _ / 64 / 4 * 128 + 64; omega)).trans ?_
    refine Finset.sum_congr rfl fun n _ => ?_
    rw [hW, values_one m c i0 n _ (by simp only; omega)]
  refine (TAIL_at _ i0 i1 i2).trans ?_
  refine (congrArg₂ (fun a b : EReal => a * Ideal.div 1 b) o1 o2).trans ?_
  refine (Cert.Soft.normalized (fun n => Real.exp (sr n - sr n0)) (fun n => Real.exp_pos _) (fun n => v (ix4 i0 n g e))).trans ?_
  refine Eq.trans ?_ (Cert.ReferenceIdeal.Attn.AV_at v _ i0 i1 i2).symm
  refine Finset.sum_congr rfl fun n _ => congrArg₂ (fun a b : EReal => a * b) rfl ?_
  exact congrArg₂ Ideal.div (hE n).symm (Finset.sum_congr rfl fun n _ => (hE n).symm)

end Cert.KernelIdeal.Attn

end
-- ==== Proof.FfnBody.lean ====
/-
  One grid point of the convolutional MLP: the eleven chunks of 256 hidden columns, which the kernel writes out one
  after the other, as eleven uses of the same few functions.
-/
module

public import proofs.«01_k».proof.Proof.Gen.Kernel2Ideal.Frame
public import Idealize.ShloMosaic.Lib.Pointwise

@[expose] public section

set_option maxRecDepth 16384

noncomputable section

namespace Cert.Kernel2Ideal.Ffn

open Idealize.ShloMosaic Idealize.ShloMosaic.TcCoe Idealize.SL.Sem
open Cert.Kernel2Ideal Cert.Kernel2Ideal.Gen

/-- The normalized rows against a chunk of the up projection. -/
def UP (H : FVec Ideal S272x1024 .bf16) (w : Vec Ideal S1024x256 .bf16) : FVec Ideal S272x256 .f32 :=
  matmul dot_S272x1024_S1024x256_S272x256_1_0_0_1_n_n none H
    (show FVec Ideal S1024x256 .bf16 from shapeCast S1024x256 w shapeCasts_S1024x256_S1024x256) (constant S272x256 .f32 0x00000000#32)

/-- The three rows of weights on the row above, the row itself and the row below, and the bias. -/
def CV (u : FVec Ideal S272x256 .f32) (w : Vec Ideal S3x256 .f32) (b : Vec Ideal S1x256 .f32) : FVec Ideal S256x256 .f32 :=
  addf (addf (addf
    (mulf (broadcastTo S256x256 (extractStridedSlice S1x256 ![0, 0] w slices_S3x256_o0_0_S1x256) broadcasts_S1x256_S256x256)
      (extractStridedSlice S256x256 ![8, 0] (dynamicRotate 0 1#32 none u rotates_S272x256_d0) slices_S272x256_o8_0_S256x256))
    (mulf (broadcastTo S256x256 (extractStridedSlice S1x256 ![1, 0] w slices_S3x256_o1_0_S1x256) broadcasts_S1x256_S256x256)
      (extractStridedSlice S256x256 ![8, 0] u slices_S272x256_o8_0_S256x256)))
    (mulf (broadcastTo S256x256 (extractStridedSlice S1x256 ![2, 0] w slices_S3x256_o2_0_S1x256) broadcasts_S1x256_S256x256)
      (extractStridedSlice S256x256 ![8, 0] (dynamicRotate 0 271#32 none u rotates_S272x256_d0) slices_S272x256_o8_0_S256x256)))
    (broadcastTo S256x256 (shapeCast S1x256 b shapeCasts_S1x256_S1x256) broadcasts_S1x256_S256x256)

/-- The values gated by the swish of the gates. -/
def ACT (a g : FVec Ideal S256x256 .f32) : FVec Ideal S256x256 .bf16 :=
  truncf .bf16 (mulf a (mulf g (divf (broadcast S256x256 (Scalar.ofBits (F := Ideal) .f32 0x3F800000#32))
    (addf (broadcast S256x256 (Scalar.ofBits (F := Ideal) .f32 0x3F800000#32))
      (exp (subf (broadcast S256x256 (Scalar.ofBits (F := Ideal) .f32 0x00000000#32)) g)))))) bitsLt_bf16_f32

/-- A chunk's share of the down projection. -/
def DN (a : FVec Ideal S256x256 .bf16) (w : Vec Ideal S256x1024 .bf16) : FVec Ideal S256x1024 .f32 :=
  matmul dot_S256x256_S256x1024_S256x1024_1_0_0_1_n_n none a
    (show FVec Ideal S256x1024 .bf16 from shapeCast S256x1024 w shapeCasts_S256x1024_S256x1024) (constant S256x1024 .f32 0x00000000#32)

/-- A chunk from its weights. -/
def PART (H : FVec Ideal S272x1024 .bf16) (wa wg : Vec Ideal S1024x256 .bf16) (cg ca : Vec Ideal S3x256 .f32) (bg ba : Vec Ideal S1x256 .f32)
    (w : Vec Ideal S256x1024 .bf16) : FVec Ideal S256x1024 .f32 :=
  DN (ACT (CV (UP H wa) ca ba) (CV (UP H wg) cg bg)) w

/-- The residual and the gated sum. -/
def RES (x : FVec Ideal S256x1024 .f32) (g : FVec Ideal S1x1024 .f32) (s : FVec Ideal S256x1024 .f32) : FVec Ideal S256x1024 .f32 :=
  addf x (mulf (broadcastTo S256x1024 g broadcasts_S1x1024_S256x1024) s)

theorem act0 (v6 : BitVec 1) (v8 v10 : FVec Ideal S1x1024 .f32) (v38 : FVec Ideal S8x1024 .f32) (v58 : FVec Ideal S256x1024 .f32) (v74 : FVec Ideal S8x1024 .f32) (v75 : FVec Ideal S1x1024 .f32) (wa wg : Vec Ideal S1024x256 .bf16)
    (cg ca : Vec Ideal S3x256 .f32) (bg ba : Vec Ideal S1x256 .f32) :
    k0_pay18 (k0_pay13 v6 v8 v10 v38 v58 v74 v75 wa) (k0_pay16 v6 v8 v10 v38 v58 v74 v75 wg cg) (k0_pay17 bg) ca ba
      = ACT (CV (UP (k0_pay12 v6 v8 v10 v38 v58 v74 v75) wa) ca ba) (CV (UP (k0_pay12 v6 v8 v10 v38 v58 v74 v75) wg) cg bg) := rfl

theorem act1 (v6 : BitVec 1) (v8 v10 : FVec Ideal S1x1024 .f32) (v38 : FVec Ideal S8x1024 .f32) (v58 : FVec Ideal S256x1024 .f32) (v74 : FVec Ideal S8x1024 .f32) (v75 : FVec Ideal S1x1024 .f32) (wa wg : Vec Ideal S1024x256 .bf16)
    (cg ca : Vec Ideal S3x256 .f32) (bg ba : Vec Ideal S1x256 .f32) :
    k0_pay23 (k0_pay14 v6 v8 v10 v38 v58 v74 v75 wa) (k0_pay15 v6 v8 v10 v38 v58 v74 v75 wg) cg (k0_pay21 cg) (k0_pay22 (k0_pay15 v6 v8 v10 v38 v58 v74 v75 wg)) bg ca ba
      = ACT (CV (UP (k0_pay12 v6 v8 v10 v38 v58 v74 v75) wa) ca ba) (CV (UP (k0_pay12 v6 v8 v10 v38 v58 v74 v75) wg) cg bg) := rfl

theorem act2 (H : FVec Ideal S272x1024 .bf16) (wa wg : Vec Ideal S1024x256 .bf16)
    (cg ca : Vec Ideal S3x256 .f32) (bg ba : Vec Ideal S1x256 .f32) :
    k0_pay30 (k0_pay19 H wa) (k0_pay27 (k0_pay20 H wg) cg bg) (k0_pay28 (k0_pay19 H wa) ca) (k0_pay29 ca) ba
      = ACT (CV (UP H wa) ca ba) (CV (UP H wg) cg bg) := rfl

theorem act3 (H : FVec Ideal S272x1024 .bf16) (wa wg : Vec Ideal S1024x256 .bf16)
    (cg ca : Vec Ideal S3x256 .f32) (bg ba : Vec Ideal S1x256 .f32) :
    k0_pay36 (k0_pay25 H wa) (k0_pay26 H wg) (k0_pay34 (k0_pay26 H wg) cg) (k0_pay35 cg) 271#32 bg ca ba
      = ACT (CV (UP H wa) ca ba) (CV (UP H wg) cg bg) := rfl

theorem act4 (H : FVec Ideal S272x1024 .bf16) (wa wg : Vec Ideal S1024x256 .bf16)
    (cg ca : Vec Ideal S3x256 .f32) (bg ba : Vec Ideal S1x256 .f32) :
    k0_pay42 (k0_pay40 (k0_pay33 H wg) cg bg) (k0_pay41 (k0_pay32 H wa) ca) ba
      = ACT (CV (UP H wa) ca ba) (CV (UP H wg) cg bg) := rfl

theorem act5 (H : FVec Ideal S272x1024 .bf16) (wa wg : Vec Ideal S1024x256 .bf16)
    (cg ca : Vec Ideal S3x256 .f32) (bg ba : Vec Ideal S1x256 .f32) :
    k0_pay47 (k0_pay38 H wa) (k0_pay46 (k0_pay39 H wg) cg) bg ca ba
      = ACT (CV (UP H wa) ca ba) (CV (UP H wg) cg bg) := rfl

theorem act6 (H : FVec Ideal S272x1024 .bf16) (wa wg : Vec Ideal S1024x256 .bf16)
    (cg ca : Vec Ideal S3x256 .f32) (bg ba : Vec Ideal S1x256 .f32) :
    k0_pay55 (k0_pay52 (k0_pay45 H wg) cg bg) (k0_pay53 (k0_pay44 H wa) ca ba) (k0_pay54 (k0_pay45 H wg) cg bg)
      = ACT (CV (UP H wa) ca ba) (CV (UP H wg) cg bg) := rfl

theorem act7 (H : FVec Ideal S272x1024 .bf16) (wa wg : Vec Ideal S1024x256 .bf16)
    (cg ca : Vec Ideal S3x256 .f32) (bg ba : Vec Ideal S1x256 .f32) :
    k0_pay61 (k0_pay49 H wa) (k0_pay59 (k0_pay51 H (k0_pay50 wg)) cg bg) ca (k0_pay60 ca) 1#32 ba
      = ACT (CV (UP H wa) ca ba) (CV (UP H wg) cg bg) := rfl

theorem act8 (H : FVec Ideal S272x1024 .bf16) (wa wg : Vec Ideal S1024x256 .bf16)
    (cg ca : Vec Ideal S3x256 .f32) (bg ba : Vec Ideal S1x256 .f32) :
    k0_pay68 (k0_pay67 (k0_pay57 H wa) (k0_pay58 H wg) cg (k0_pay65 cg) (k0_pay66 (k0_pay58 H wg)) bg ca ba)
      = ACT (CV (UP H wa) ca ba) (CV (UP H wg) cg bg) := rfl

theorem act9 (H : FVec Ideal S272x1024 .bf16) (wa wg : Vec Ideal S1024x256 .bf16)
    (cg ca : Vec Ideal S3x256 .f32) (bg ba : Vec Ideal S1x256 .f32) :
    k0_pay75 (k0_pay63 H wa) (k0_pay72 (k0_pay64 H wg) cg bg) ca (k0_pay73 (k0_pay63 H wa) ca) (k0_pay74 (k0_pay63 H wa) ca) ba
      = ACT (CV (UP H wa) ca ba) (CV (UP H wg) cg bg) := rfl

theorem acc31 (a : FVec Ideal S256x256 .bf16) (s : FVec Ideal S256x1024 .f32) (w : Vec Ideal S256x1024 .bf16) : k0_pay31 a s w = addf s (DN a w) := rfl

theorem acc37 (a : FVec Ideal S256x256 .bf16) (s : FVec Ideal S256x1024 .f32) (w : Vec Ideal S256x1024 .bf16) : k0_pay37 a s w = addf s (DN a w) := rfl

theorem acc43 (a : FVec Ideal S256x256 .bf16) (s : FVec Ideal S256x1024 .f32) (w : Vec Ideal S256x1024 .bf16) : k0_pay43 a s w = addf s (DN a w) := rfl

theorem acc48 (a : FVec Ideal S256x256 .bf16) (s : FVec Ideal S256x1024 .f32) (w : Vec Ideal S256x1024 .bf16) : k0_pay48 a s w = addf s (DN a w) := rfl

theorem acc56 (a : FVec Ideal S256x256 .bf16) (s : FVec Ideal S256x1024 .f32) (w : Vec Ideal S256x1024 .bf16) : k0_pay56 a s w = addf s (DN a w) := rfl

theorem acc62 (a : FVec Ideal S256x256 .bf16) (s : FVec Ideal S256x1024 .f32) (w : Vec Ideal S256x1024 .bf16) : k0_pay62 a s w = addf s (DN a w) := rfl

theorem acc69 (a : FVec Ideal S256x256 .bf16) (s : FVec Ideal S256x1024 .f32) (w : Vec Ideal S256x1024 .bf16) : k0_pay69 a s w = addf s (DN a w) := rfl

theorem acc76 (a : FVec Ideal S256x256 .bf16) (s : FVec Ideal S256x1024 .f32) (w : Vec Ideal S256x1024 .bf16) : k0_pay76 a s w = addf s (DN a w) := rfl

theorem acc24 (a : FVec Ideal S256x256 .bf16) (w : Vec Ideal S256x1024 .bf16) : k0_pay24 a w = DN a w := rfl

theorem last (g : FVec Ideal S1x1024 .f32) (x : FVec Ideal S256x1024 .f32) (H : FVec Ideal S272x1024 .bf16) (wa wg : Vec Ideal S1024x256 .bf16)
    (cg ca : Vec Ideal S3x256 .f32) (bg ba : Vec Ideal S1x256 .f32) (a : FVec Ideal S256x256 .bf16) (s : FVec Ideal S256x1024 .f32)
    (w w' : Vec Ideal S256x1024 .bf16) :
    k0_pay79 g x (k0_pay70 H wa) a s (k0_pay77 (k0_pay71 H wg) cg) (k0_pay78 bg) ca ba w w'
      = RES x g (addf (addf s (DN a w)) (DN (ACT (CV (UP H wa) ca ba) (CV (UP H wg) cg bg)) w')) := rfl

/-- The eleven chunks, added up in the kernel's order. -/
def ACC (H : FVec Ideal S272x1024 .bf16) (x5 : Vec Ideal S1024x5632 .bf16) (x6 : Vec Ideal S3x5632 .f32) (x7 : Vec Ideal S1x5632 .f32) (x8 : Vec Ideal S2816x1024 .bf16) : FVec Ideal S256x1024 .f32 :=
  (addf (addf (addf (addf (addf (addf (addf (addf (addf (addf (PART H (View.ld x5 r0_6) (View.ld x5 r0_7) (View.ld x6 r0_10) (View.ld x6 r0_12) (View.ld x7 r0_11) (View.ld x7 r0_13) (View.ld x8 r0_20))
    (PART H (View.ld x5 r0_8) (View.ld x5 r0_9) (View.ld x6 r0_16) (View.ld x6 r0_18) (View.ld x7 r0_17) (View.ld x7 r0_19) (View.ld x8 r0_27)))
    (PART H (View.ld x5 r0_14) (View.ld x5 r0_15) (View.ld x6 r0_23) (View.ld x6 r0_25) (View.ld x7 r0_24) (View.ld x7 r0_26) (View.ld x8 r0_34)))
    (PART H (View.ld x5 r0_21) (View.ld x5 r0_22) (View.ld x6 r0_30) (View.ld x6 r0_32) (View.ld x7 r0_31) (View.ld x7 r0_33) (View.ld x8 r0_41)))
    (PART H (View.ld x5 r0_28) (View.ld x5 r0_29) (View.ld x6 r0_37) (View.ld x6 r0_39) (View.ld x7 r0_38) (View.ld x7 r0_40) (View.ld x8 r0_48)))
    (PART H (View.ld x5 r0_35) (View.ld x5 r0_36) (View.ld x6 r0_44) (View.ld x6 r0_46) (View.ld x7 r0_45) (View.ld x7 r0_47) (View.ld x8 r0_55)))
    (PART H (View.ld x5 r0_42) (View.ld x5 r0_43) (View.ld x6 r0_51) (View.ld x6 r0_53) (View.ld x7 r0_52) (View.ld x7 r0_54) (View.ld x8 r0_62)))
    (PART H (View.ld x5 r0_49) (View.ld x5 r0_50) (View.ld x6 r0_58) (View.ld x6 r0_60) (View.ld x7 r0_59) (View.ld x7 r0_61) (View.ld x8 r0_69)))
    (PART H (View.ld x5 r0_56) (View.ld x5 r0_57) (View.ld x6 r0_65) (View.ld x6 r0_67) (View.ld x7 r0_66) (View.ld x7 r0_68) (View.ld x8 r0_76)))
    (PART H (View.ld x5 r0_63) (View.ld x5 r0_64) (View.ld x6 r0_72) (View.ld x6 r0_74) (View.ld x7 r0_73) (View.ld x7 r0_75) (View.ld x8 r0_81)))
    (PART H (View.ld x5 r0_70) (View.ld x5 r0_71) (View.ld x6 r0_77) (View.ld x6 r0_79) (View.ld x7 r0_78) (View.ld x7 r0_80) (View.ld x8 r0_82)))

theorem body (i : grid0.Coords) (x0 : Vec Ideal S1x8x1024 .f32) (x1 : Vec Ideal S1x256x1024 .f32) (x2 : Vec Ideal S1x8x1024 .f32)
    (x3 : Vec Ideal S1x6x1024 .f32) (x4 : Vec Ideal S1x1024 .f32) (x5 : Vec Ideal S1024x5632 .bf16) (x6 : Vec Ideal S3x5632 .f32) (x7 : Vec Ideal S1x5632 .f32) (x8 : Vec Ideal S2816x1024 .bf16) :
    out0_9 i x0 x1 x2 x3 x4 x5 x6 x7 x8
      = View.canon [⟨r0_3, k0_pay1 (RES (k0_pay5 (View.ld x1 r0_3)) (k0_pay4 (View.ld x3 r0_2))
          (ACC (k0_pay87 i x0 x1 x2 x3 x4 x5 x6 x7 x8) x5 x6 x7 x8))⟩] := by
  unfold out0_9 k0_pay88 k0_pay89 k0_pay90 k0_pay91 k0_pay92 k0_pay93
  rw [last, acc76, acc69, acc62, acc56, acc48, acc43, acc37, acc31, acc24, act0, act1, act2, act3, act4, act5, act6, act7, act8, act9]
  rfl

end Cert.Kernel2Ideal.Ffn

end
-- ==== Proof.FfnAt.lean ====
/-
  The functions of one grid point of the convolutional MLP at an index.
-/
module

public import proofs.«01_k».proof.Proof.FfnBody
public import Idealize.ShloMosaic.Lib.KernelVsHost

@[expose] public section

set_option maxRecDepth 16384

noncomputable section

namespace Cert.Kernel2Ideal.Ffn

open Idealize.ShloMosaic Idealize.ShloMosaic.TcCoe Idealize.SL.Sem
open Cert.Kernel2Ideal Cert.Kernel2Ideal.Gen

theorem UP_at (H : FVec Ideal S272x1024 .bf16) (w : Vec Ideal S1024x256 .bf16) (r : Fin 272) (c : Fin 256) :
    UP H w (ix2 r c) = (∑ k : Fin 1024, (H (ix2 r k) : EReal) * w (ix2 k c) : EReal) := by
  pointwise [UP]

theorem DN_at (a : FVec Ideal S256x256 .bf16) (w : Vec Ideal S256x1024 .bf16) (p : Fin 256) (n : Fin 1024) :
    DN a w (ix2 p n) = (∑ k : Fin 256, (a (ix2 p k) : EReal) * w (ix2 k n) : EReal) := by
  pointwise [DN]

/-- Swish: a number times its logistic. -/
def swish (y : EReal) : EReal := y * Ideal.div 1 (1 + Ideal.exp (0 - y))

theorem ACT_at (a g : FVec Ideal S256x256 .f32) (p c : Fin 256) :
    ACT a g (ix2 p c) = (a (ix2 p c) : EReal) * swish (g (ix2 p c)) := by
  pointwise [ACT, swish]

theorem RES_at (x : FVec Ideal S256x1024 .f32) (g : FVec Ideal S1x1024 .f32) (s : FVec Ideal S256x1024 .f32) (p : Fin 256) (n : Fin 1024) :
    RES x g s (ix2 p n) = (x (ix2 p n) : EReal) + g (ix2 (0 : Fin 1) n) * s (ix2 p n) := by
  pointwise [RES]

theorem rot1_at (u : FVec Ideal S272x256 .f32) (p c : Fin 256) :
    extractStridedSlice S256x256 ![8, 0] (dynamicRotate 0 1#32 none u rotates_S272x256_d0) slices_S272x256_o8_0_S256x256 (ix2 p c)
      = u (ix2 (⟨7 + (p : ℕ), by omega⟩ : Fin 272) c) := by
  refine (extractStridedSlice_apply ![8, 0] _ slices_S272x256_o8_0_S256x256 (ix2 p c) (ix2 (⟨8 + (p : ℕ), by omega⟩ : Fin 272) c) ?_).trans ?_
  · intro a; fin_cases a <;> simp [ix2] <;> omega
  · refine dynamicRotate_apply 0 1#32 u _ _ _ fun b => ?_
    fin_cases b <;> simp [ix2] <;> omega

theorem rot271_at (u : FVec Ideal S272x256 .f32) (p c : Fin 256) :
    extractStridedSlice S256x256 ![8, 0] (dynamicRotate 0 271#32 none u rotates_S272x256_d0) slices_S272x256_o8_0_S256x256 (ix2 p c)
      = u (ix2 (⟨9 + (p : ℕ), by omega⟩ : Fin 272) c) := by
  refine (extractStridedSlice_apply ![8, 0] _ slices_S272x256_o8_0_S256x256 (ix2 p c) (ix2 (⟨8 + (p : ℕ), by omega⟩ : Fin 272) c) ?_).trans ?_
  · intro a; fin_cases a <;> simp [ix2] <;> omega
  · refine dynamicRotate_apply 0 271#32 u _ _ _ fun b => ?_
    fin_cases b <;> simp [ix2] <;> omega

/-- The convolution with its two rotated operands read apart. -/
theorem CV_of (u : FVec Ideal S272x256 .f32) (w : Vec Ideal S3x256 .f32) (b : Vec Ideal S1x256 .f32) (t0 t2 : FVec Ideal S256x256 .f32)
    (p c : Fin 256) :
    addf (addf (addf
      (mulf (broadcastTo S256x256 (extractStridedSlice S1x256 ![0, 0] w slices_S3x256_o0_0_S1x256) broadcasts_S1x256_S256x256) t0)
      (mulf (broadcastTo S256x256 (extractStridedSlice S1x256 ![1, 0] w slices_S3x256_o1_0_S1x256) broadcasts_S1x256_S256x256)
        (extractStridedSlice S256x256 ![8, 0] u slices_S272x256_o8_0_S256x256)))
      (mulf (broadcastTo S256x256 (extractStridedSlice S1x256 ![2, 0] w slices_S3x256_o2_0_S1x256) broadcasts_S1x256_S256x256) t2))
      (broadcastTo S256x256 (shapeCast S1x256 b shapeCasts_S1x256_S1x256) broadcasts_S1x256_S256x256) (ix2 p c)
    = (w (ix2 (0 : Fin 3) c) : EReal) * t0 (ix2 p c) + w (ix2 (1 : Fin 3) c) * u (ix2 (⟨8 + (p : ℕ), by omega⟩ : Fin 272) c)
      + w (ix2 (2 : Fin 3) c) * t2 (ix2 p c) + b (ix2 (0 : Fin 1) c) := by
  pointwise

theorem CV_at (u : FVec Ideal S272x256 .f32) (w : Vec Ideal S3x256 .f32) (b : Vec Ideal S1x256 .f32) (p c : Fin 256) :
    CV u w b (ix2 p c)
      = (w (ix2 (0 : Fin 3) c) : EReal) * u (ix2 (⟨7 + (p : ℕ), by omega⟩ : Fin 272) c)
        + w (ix2 (1 : Fin 3) c) * u (ix2 (⟨8 + (p : ℕ), by omega⟩ : Fin 272) c)
        + w (ix2 (2 : Fin 3) c) * u (ix2 (⟨9 + (p : ℕ), by omega⟩ : Fin 272) c) + b (ix2 (0 : Fin 1) c) := by
  refine (CV_of u w b _ _ p c).trans ?_
  rw [rot1_at, rot271_at]

/-- A row normalized by the root of its mean square, and modulated. -/
def nrm (x w sc sh : Fin 1024 → EReal) (k : Fin 1024) : EReal :=
  x k * Ideal.rsqrt (Ideal.div (∑ j : Fin 1024, x j * x j) (Ideal.ofBits .f32 0x44800000#32) + Ideal.ofBits .f32 0x358637BD#32) * w k
    * (1 + sc k) + sh k

theorem pay9_at (sh sc : FVec Ideal S1x1024 .f32) (x : FVec Ideal S256x1024 .f32) (w : Vec Ideal S1x1024 .f32) (r : Fin 256) (k : Fin 1024) :
    k0_pay9 sh sc x w (ix2 r k)
      = nrm (fun j => x (ix2 r j)) (fun j => w (ix2 (0 : Fin 1) j)) (fun j => sc (ix2 (0 : Fin 1) j)) (fun j => sh (ix2 (0 : Fin 1) j)) k := by
  pointwise [k0_pay9, nrm]

theorem pay8_at (v : BitVec 1) (sh sc : FVec Ideal S1x1024 .f32) (x : FVec Ideal S1x8x1024 .f32) (w : Vec Ideal S1x1024 .f32) (r : Fin 8) (k : Fin 1024) :
    k0_pay8 v sh sc (k0_pay6 x w) k0_pay7 (ix2 r k)
      = (if v = 1#1 then
          nrm (fun j => x (ix3 (0 : Fin 1) r j)) (fun j => w (ix2 (0 : Fin 1) j)) (fun j => sc (ix2 (0 : Fin 1) j)) (fun j => sh (ix2 (0 : Fin 1) j)) k
        else 0) := by
  pointwise [k0_pay8, k0_pay6, k0_pay7, nrm]
  rfl

theorem pay12_at (v v' : BitVec 1) (sh sc : FVec Ideal S1x1024 .f32) (x0 x2 : FVec Ideal S1x8x1024 .f32) (x1 : FVec Ideal S256x1024 .f32)
    (w : Vec Ideal S1x1024 .f32) (r : Fin 272) (k : Fin 1024) :
    k0_pay12 v' sh sc (k0_pay8 v sh sc (k0_pay6 x0 w) k0_pay7) (k0_pay9 sh sc x1 w) (k0_pay10 x2 w) k0_pay11 (ix2 r k)
      = (if h : (r : ℕ) < 8 then k0_pay8 v sh sc (k0_pay6 x0 w) k0_pay7 (ix2 (⟨(r : ℕ), h⟩ : Fin 8) k)
        else if h : (r : ℕ) - 8 < 256 then k0_pay9 sh sc x1 w (ix2 (⟨(r : ℕ) - 8, h⟩ : Fin 256) k)
        else k0_pay8 v' sh sc (k0_pay6 x2 w) k0_pay7 (ix2 (⟨(r : ℕ) - 8 - 256, by omega⟩ : Fin 8) k)) := by
  have e : k0_pay12 v' sh sc (k0_pay8 v sh sc (k0_pay6 x0 w) k0_pay7) (k0_pay9 sh sc x1 w) (k0_pay10 x2 w) k0_pay11
    = truncf .bf16 (concatenate S272x1024 0 [⟨S8x1024, k0_pay8 v sh sc (k0_pay6 x0 w) k0_pay7⟩, ⟨S256x1024, k0_pay9 sh sc x1 w⟩,
        ⟨S8x1024, k0_pay8 v' sh sc (k0_pay6 x2 w) k0_pay7⟩] concatenates_S8x1024_S256x1024_S8x1024_S272x1024_d0) bitsLt_bf16_f32 := rfl
  rw [e]
  generalize k0_pay8 v sh sc (k0_pay6 x0 w) k0_pay7 = a
  generalize k0_pay8 v' sh sc (k0_pay6 x2 w) k0_pay7 = b
  generalize k0_pay9 sh sc x1 w = d
  pointwise

end Cert.Kernel2Ideal.Ffn

end
-- ==== Proof.FfnSum.lean ====
/-
  The convolutional MLP over its arrays, and one grid point's chunks added up.
-/
module

public import proofs.«01_k».proof.Proof.FfnAt
public import Idealize.ShloMosaic.Lib.Pipeline.ValueKit

@[expose] public section

set_option maxRecDepth 16384

noncomputable section

namespace Cert.Kernel2Ideal.Ffn

open Idealize.ShloMosaic Idealize.ShloMosaic.TcCoe Idealize.SL.Sem
open Cert.Kernel2Ideal Cert.Kernel2Ideal.Gen

section
variable (h : ℕ → Fin 1024 → EReal) (wu : FVec Ideal S1024x5632 .f32) (cw : FVec Ideal S3x5632 .f32) (cb : FVec Ideal S5632 .f32)

/-- The up projection of rows. -/
def UG (i : ℕ) (c : Fin 5632) : EReal := ∑ k : Fin 1024, h i k * wu (ix2 k c)

/-- The depthwise convolution over three rows. -/
def CG (l : ℕ) (c : Fin 5632) : EReal :=
  cw (ix2 (0 : Fin 3) c) * UG h wu l c + cw (ix2 (1 : Fin 3) c) * UG h wu (l + 1) c + cw (ix2 (2 : Fin 3) c) * UG h wu (l + 2) c + cb (ix1 c)

/-- The gated hidden columns. -/
def AG (l : ℕ) (f : Fin 2816) : EReal :=
  CG h wu cw cb l (⟨(f : ℕ), by omega⟩ : Fin 5632) * swish (CG h wu cw cb l (⟨2816 + (f : ℕ), by omega⟩ : Fin 5632))

/-- Rows counted from a later one. -/
theorem AG_shift (o l : ℕ) (f : Fin 2816) : AG (fun i => h (o + i)) wu cw cb l f = AG h wu cw cb (o + l) f := rfl

end

section
variable (X : FVec Ideal S8x4096x1024 .f32) (M : FVec Ideal S8x6144 .f32) (nw : FVec Ideal S1024 .f32) (wu : FVec Ideal S1024x5632 .f32)
  (cw : FVec Ideal S3x5632 .f32) (cb : FVec Ideal S5632 .f32) (wd : FVec Ideal S2816x1024 .f32)

/-- Token `l` of sequence `b`, normalized and modulated. -/
def HN (b : Fin 8) (l : Fin 4096) (k : Fin 1024) : EReal :=
  nrm (fun j => X (ix3 b l j)) (fun j => nw (ix1 j)) (fun j => M (ix2 b (⟨4096 + (j : ℕ), by omega⟩ : Fin 6144)))
    (fun j => M (ix2 b (⟨3072 + (j : ℕ), by omega⟩ : Fin 6144))) k

/-- The same with a row of zeros before the first token and one after the last. -/
def HX (b : Fin 8) (i : ℕ) (k : Fin 1024) : EReal :=
  if h : 1 ≤ i ∧ i - 1 < 4096 then HN X M nw b ⟨i - 1, h.2⟩ k else 0

/-- The result. -/
def OX (b : Fin 8) (l : Fin 4096) (n : Fin 1024) : EReal :=
  X (ix3 b l n) + M (ix2 b (⟨5120 + (n : ℕ), by omega⟩ : Fin 6144)) * ∑ f : Fin 2816, AG (HX X M nw b) wu cw cb l f * wd (ix2 f n)

end

theorem ld5 (x : Vec Ideal S1024x5632 .bf16) (o : ℕ) (h : ∀ a, (![0, o] : Fin 2 → ℕ) a + S1024x256.size a ≤ S1024x5632.size a) (k : Fin 1024)
    (c : Fin 256) (c' : Fin 5632) (hc : (c' : ℕ) = o + c) :
    (View.ld x (Rect.unit (s := S1024x5632) ![0, o] S1024x256.size h) : Vec Ideal S1024x256 .bf16) (ix2 k c) = x (ix2 k c') := by
  refine View.ld_unit_apply_of x _ _ h _ _ fun a => ?_
  fin_cases a <;> simp [ix2, hc]

theorem ld6 (x : Vec Ideal S3x5632 .f32) (o : ℕ) (h : ∀ a, (![0, o] : Fin 2 → ℕ) a + S3x256.size a ≤ S3x5632.size a) (k : Fin 3)
    (c : Fin 256) (c' : Fin 5632) (hc : (c' : ℕ) = o + c) :
    (View.ld x (Rect.unit (s := S3x5632) ![0, o] S3x256.size h) : Vec Ideal S3x256 .f32) (ix2 k c) = x (ix2 k c') := by
  refine View.ld_unit_apply_of x _ _ h _ _ fun a => ?_
  fin_cases a <;> simp [ix2, hc]

theorem ld7 (x : Vec Ideal S1x5632 .f32) (o : ℕ) (h : ∀ a, (![0, o] : Fin 2 → ℕ) a + S1x256.size a ≤ S1x5632.size a) (k : Fin 1)
    (c : Fin 256) (c' : Fin 5632) (hc : (c' : ℕ) = o + c) :
    (View.ld x (Rect.unit (s := S1x5632) ![0, o] S1x256.size h) : Vec Ideal S1x256 .f32) (ix2 k c) = x (ix2 k c') := by
  refine View.ld_unit_apply_of x _ _ h _ _ fun a => ?_
  fin_cases a <;> simp [ix2, hc]

theorem ld8 (x : Vec Ideal S2816x1024 .bf16) (o : ℕ) (h : ∀ a, (![o, 0] : Fin 2 → ℕ) a + S256x1024.size a ≤ S2816x1024.size a) (k : Fin 256)
    (c : Fin 1024) (k' : Fin 2816) (hc : (k' : ℕ) = o + k) :
    (View.ld x (Rect.unit (s := S2816x1024) ![o, 0] S256x1024.size h) : Vec Ideal S256x1024 .bf16) (ix2 k c) = x (ix2 k' c) := by
  refine View.ld_unit_apply_of x _ _ h _ _ fun a => ?_
  fin_cases a <;> simp [ix2, hc]

section
variable (h : ℕ → Fin 1024 → EReal) (wu : FVec Ideal S1024x5632 .f32)
  (cw : FVec Ideal S3x5632 .f32) (cb : FVec Ideal S5632 .f32) (wd : FVec Ideal S2816x1024 .f32)
  (H : FVec Ideal S272x1024 .bf16) (x5 : Vec Ideal S1024x5632 .bf16) (x6 : Vec Ideal S3x5632 .f32) (x7 : Vec Ideal S1x5632 .f32)
  (x8 : Vec Ideal S2816x1024 .bf16)
  (hH : ∀ (q : Fin 258) (r : Fin 272) (k : Fin 1024), (r : ℕ) = 7 + q → H (ix2 r k) = h q k)
  (h5 : ∀ (k : Fin 1024) (c : Fin 5632), x5 (ix2 k c) = (wu (ix2 k c) : EReal))
  (h6 : ∀ (k : Fin 3) (c : Fin 5632), x6 (ix2 k c) = (cw (ix2 k c) : EReal))
  (h7 : ∀ c : Fin 5632, x7 (ix2 (0 : Fin 1) c) = (cb (ix1 c) : EReal))
  (h8 : ∀ (f : Fin 2816) (n : Fin 1024), x8 (ix2 f n) = (wd (ix2 f n) : EReal))

include hH h5 h6 h7 h8

theorem conv_chunk (o : ℕ) (a5 : ∀ a, (![0, o] : Fin 2 → ℕ) a + S1024x256.size a ≤ S1024x5632.size a)
    (a6 : ∀ a, (![0, o] : Fin 2 → ℕ) a + S3x256.size a ≤ S3x5632.size a) (a7 : ∀ a, (![0, o] : Fin 2 → ℕ) a + S1x256.size a ≤ S1x5632.size a)
    (p c : Fin 256) (c' : Fin 5632) (hc : (c' : ℕ) = o + c) :
    CV (UP H (View.ld x5 (Rect.unit (s := S1024x5632) ![0, o] S1024x256.size a5)))
        (View.ld x6 (Rect.unit (s := S3x5632) ![0, o] S3x256.size a6)) (View.ld x7 (Rect.unit (s := S1x5632) ![0, o] S1x256.size a7)) (ix2 p c)
      = CG h wu cw cb p c' := by
  have hu : ∀ (q : Fin 258) (r : Fin 272), (r : ℕ) = 7 + q →
      UP H (View.ld x5 (Rect.unit (s := S1024x5632) ![0, o] S1024x256.size a5)) (ix2 r c) = UG h wu q c' := by
    intro q r hr
    refine (UP_at H _ _ c).trans (Finset.sum_congr rfl fun k _ => congrArg₂ (fun a d : EReal => a * d) (hH q r k hr) ?_)
    exact (ld5 x5 o a5 k c c' hc).trans (h5 k c')
  refine (CV_at _ _ _ p c).trans ?_
  unfold CG
  refine congrArg₂ (fun a d : EReal => a + d) (congrArg₂ (fun a d : EReal => a + d) (congrArg₂ (fun a d : EReal => a + d) ?_ ?_) ?_) ?_
  · exact congrArg₂ (fun a d : EReal => a * d) ((ld6 x6 o a6 0 c c' hc).trans (h6 0 c')) (hu ⟨p, by omega⟩ _ (by simp only))
  · exact congrArg₂ (fun a d : EReal => a * d) ((ld6 x6 o a6 1 c c' hc).trans (h6 1 c')) (hu ⟨(p : ℕ) + 1, by omega⟩ _ (by simp only <;> omega))
  · exact congrArg₂ (fun a d : EReal => a * d) ((ld6 x6 o a6 2 c c' hc).trans (h6 2 c')) (hu ⟨(p : ℕ) + 2, by omega⟩ _ (by simp only <;> omega))
  · exact (ld7 x7 o a7 0 c c' hc).trans (h7 c')

theorem part_chunk (o o' : ℕ) (ho : o + 256 ≤ 2816) (ho' : o' = 2816 + o)
    (a5 : ∀ a, (![0, o] : Fin 2 → ℕ) a + S1024x256.size a ≤ S1024x5632.size a)
    (a6 : ∀ a, (![0, o] : Fin 2 → ℕ) a + S3x256.size a ≤ S3x5632.size a) (a7 : ∀ a, (![0, o] : Fin 2 → ℕ) a + S1x256.size a ≤ S1x5632.size a)
    (g5 : ∀ a, (![0, o'] : Fin 2 → ℕ) a + S1024x256.size a ≤ S1024x5632.size a)
    (g6 : ∀ a, (![0, o'] : Fin 2 → ℕ) a + S3x256.size a ≤ S3x5632.size a) (g7 : ∀ a, (![0, o'] : Fin 2 → ℕ) a + S1x256.size a ≤ S1x5632.size a)
    (a8 : ∀ a, (![o, 0] : Fin 2 → ℕ) a + S256x1024.size a ≤ S2816x1024.size a)
    (p : Fin 256) (n : Fin 1024) :
    PART H (View.ld x5 (Rect.unit (s := S1024x5632) ![0, o] S1024x256.size a5)) (View.ld x5 (Rect.unit (s := S1024x5632) ![0, o'] S1024x256.size g5))
        (View.ld x6 (Rect.unit (s := S3x5632) ![0, o'] S3x256.size g6)) (View.ld x6 (Rect.unit (s := S3x5632) ![0, o] S3x256.size a6))
        (View.ld x7 (Rect.unit (s := S1x5632) ![0, o'] S1x256.size g7)) (View.ld x7 (Rect.unit (s := S1x5632) ![0, o] S1x256.size a7))
        (View.ld x8 (Rect.unit (s := S2816x1024) ![o, 0] S256x1024.size a8)) (ix2 p n)
      = ∑ c : Fin 256, AG h wu cw cb p (⟨o + (c : ℕ), by omega⟩ : Fin 2816)
          * (wd (ix2 (⟨o + (c : ℕ), by omega⟩ : Fin 2816) n) : EReal) := by
  subst ho'
  unfold PART
  refine (DN_at _ _ p n).trans (Finset.sum_congr rfl fun c _ => congrArg₂ (fun a d : EReal => a * d) ?_ ?_)
  · refine (ACT_at _ _ p c).trans ?_
    unfold AG
    refine congrArg₂ (fun a d : EReal => a * d) ?_ (congrArg swish ?_)
    · exact conv_chunk h wu cw cb wd H x5 x6 x7 x8 hH h5 h6 h7 h8 o a5 a6 a7 p c _ rfl
    · exact conv_chunk h wu cw cb wd H x5 x6 x7 x8 hH h5 h6 h7 h8 (2816 + o) g5 g6 g7 p c _ (by simp only <;> omega)
  · exact (ld8 x8 o a8 c n _ rfl).trans (h8 _ n)

end

/-- A sum over all hidden columns, chunk by chunk. -/
theorem sum_eleven (f : Fin 2816 → EReal) :
    (∑ c : Fin 256, f ⟨0 + (c : ℕ), by omega⟩) + (∑ c : Fin 256, f ⟨256 + (c : ℕ), by omega⟩) + (∑ c : Fin 256, f ⟨512 + (c : ℕ), by omega⟩)
      + (∑ c : Fin 256, f ⟨768 + (c : ℕ), by omega⟩) + (∑ c : Fin 256, f ⟨1024 + (c : ℕ), by omega⟩)
      + (∑ c : Fin 256, f ⟨1280 + (c : ℕ), by omega⟩) + (∑ c : Fin 256, f ⟨1536 + (c : ℕ), by omega⟩)
      + (∑ c : Fin 256, f ⟨1792 + (c : ℕ), by omega⟩) + (∑ c : Fin 256, f ⟨2048 + (c : ℕ), by omega⟩)
      + (∑ c : Fin 256, f ⟨2304 + (c : ℕ), by omega⟩) + (∑ c : Fin 256, f ⟨2560 + (c : ℕ), by omega⟩) = ∑ i, f i := by
  rw [Fin.sum_univ_two_halves 2560 256 rfl f,
    Fin.sum_univ_two_halves 2304 256 rfl (fun k : Fin 2560 => f ⟨(k : ℕ), by omega⟩),
    Fin.sum_univ_two_halves 2048 256 rfl (fun k : Fin 2304 => f ⟨(k : ℕ), by omega⟩),
    Fin.sum_univ_two_halves 1792 256 rfl (fun k : Fin 2048 => f ⟨(k : ℕ), by omega⟩),
    Fin.sum_univ_two_halves 1536 256 rfl (fun k : Fin 1792 => f ⟨(k : ℕ), by omega⟩),
    Fin.sum_univ_two_halves 1280 256 rfl (fun k : Fin 1536 => f ⟨(k : ℕ), by omega⟩),
    Fin.sum_univ_two_halves 1024 256 rfl (fun k : Fin 1280 => f ⟨(k : ℕ), by omega⟩),
    Fin.sum_univ_two_halves 768 256 rfl (fun k : Fin 1024 => f ⟨(k : ℕ), by omega⟩),
    Fin.sum_univ_two_halves 512 256 rfl (fun k : Fin 768 => f ⟨(k : ℕ), by omega⟩),
    Fin.sum_univ_two_halves 256 256 rfl (fun k : Fin 512 => f ⟨(k : ℕ), by omega⟩)]
  simp only [Nat.zero_add]

theorem add_at (a d : FVec Ideal S256x1024 .f32) (i : S256x1024.Idx) : addf a d i = (a i : EReal) + d i := rfl

section
variable (h : ℕ → Fin 1024 → EReal) (wu : FVec Ideal S1024x5632 .f32)
  (cw : FVec Ideal S3x5632 .f32) (cb : FVec Ideal S5632 .f32) (wd : FVec Ideal S2816x1024 .f32)
  (H : FVec Ideal S272x1024 .bf16) (x5 : Vec Ideal S1024x5632 .bf16) (x6 : Vec Ideal S3x5632 .f32) (x7 : Vec Ideal S1x5632 .f32)
  (x8 : Vec Ideal S2816x1024 .bf16)
  (hH : ∀ (q : Fin 258) (r : Fin 272) (k : Fin 1024), (r : ℕ) = 7 + q → H (ix2 r k) = h q k)
  (h5 : ∀ (k : Fin 1024) (c : Fin 5632), x5 (ix2 k c) = (wu (ix2 k c) : EReal))
  (h6 : ∀ (k : Fin 3) (c : Fin 5632), x6 (ix2 k c) = (cw (ix2 k c) : EReal))
  (h7 : ∀ c : Fin 5632, x7 (ix2 (0 : Fin 1) c) = (cb (ix1 c) : EReal))
  (h8 : ∀ (f : Fin 2816) (n : Fin 1024), x8 (ix2 f n) = (wd (ix2 f n) : EReal))

include hH h5 h6 h7 h8

theorem ACC_at (p : Fin 256) (n : Fin 1024) :
    ACC H x5 x6 x7 x8 (ix2 p n)
      = ∑ f : Fin 2816, AG h wu cw cb p f * (wd (ix2 f n) : EReal) := by
  rw [← sum_eleven]
  unfold ACC
  simp only [add_at]
  refine congrArg₂ (fun a d : EReal => a + d) (congrArg₂ (fun a d : EReal => a + d) (congrArg₂ (fun a d : EReal => a + d)
    (congrArg₂ (fun a d : EReal => a + d) (congrArg₂ (fun a d : EReal => a + d) (congrArg₂ (fun a d : EReal => a + d)
    (congrArg₂ (fun a d : EReal => a + d) (congrArg₂ (fun a d : EReal => a + d) (congrArg₂ (fun a d : EReal => a + d)
    (congrArg₂ (fun a d : EReal => a + d) ?_ ?_) ?_) ?_) ?_) ?_) ?_) ?_) ?_) ?_) ?_
  all_goals
    exact part_chunk h wu cw cb wd H x5 x6 x7 x8 hH h5 h6 h7 h8 _ _ (by norm_num) (by norm_num) _ _ _ _ _ _ _ p n

end

end Cert.Kernel2Ideal.Ffn

end
-- ==== Proof.FfnHost.lean ====
/-
  The operands of the convolutional MLP's call, as the host prepares them, and its blocks at a grid point.
-/
module

public import proofs.«01_k».proof.Proof.FfnSum
public import Idealize.ShloMosaic.Lib.Claim

@[expose] public section

set_option maxRecDepth 16384

noncomputable section

namespace Cert.Kernel2Ideal.Ffn

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ)

theorem mod_at (c : Dev nD) (b : Fin 8) (r : Fin 6) (k : Fin 1024) :
    V m c main_v5 (ix3 (⟨(b : ℕ) * 2 + 1, by omega⟩ : Fin 16) r k)
      = (show EReal from m ((c : Thread nD τ).loc main_arg1) (ix2 b (⟨(r : ℕ) * 1024 + k, by omega⟩ : Fin 6144))) := by
  unfold V
  entry_read
  pointwise
  have h : ¬((b : ℕ) * 2 + 1) % 2 < 1 := by omega
  rw [dif_neg h]

theorem up_at (c : Dev nD) (k : Fin 1024) (j : Fin 5632) :
    V m c main_v6 (ix2 k j) = (show EReal from m ((c : Thread nD τ).loc main_arg3) (ix2 k j)) := by
  unfold V
  entry_read
  pointwise

theorem bias_at (c : Dev nD) (j : Fin 5632) :
    V m c main_v7 (ix2 (0 : Fin 1) j) = (show EReal from m ((c : Thread nD τ).loc main_arg5) (ix1 j)) := by
  unfold V
  entry_read
  pointwise

theorem down_at (c : Dev nD) (f : Fin 2816) (n : Fin 1024) :
    V m c main_v8 (ix2 f n) = (show EReal from m ((c : Thread nD τ).loc main_arg6) (ix2 f n)) := by
  unfold V
  entry_read
  pointwise

theorem norm_at (c : Dev nD) (k : Fin 1024) :
    V m c main_v9 (ix2 (0 : Fin 1) k) = (show EReal from m ((c : Thread nD τ).loc main_arg2) (ix1 k)) := by
  unfold V
  entry_read
  pointwise

/-- The blocks of the windows, at every grid point. -/
theorem idx : ∀ t : Fin cfg0.N, win0_0.index t = ![t.val / 16, t.val % 16 * 32 - 1, 0]
    ∧ win0_1.index t = ![t.val / 16, t.val % 16, 0] ∧ win0_2.index t = ![t.val / 16, min (t.val % 16 * 32 + 32) 511, 0]
    ∧ win0_3.index t = ![t.val / 16 * 2 + 1, 0, 0] ∧ win0_4.index t = ![0, 0] ∧ win0_5.index t = ![0, 0] ∧ win0_6.index t = ![0, 0]
    ∧ win0_7.index t = ![0, 0] ∧ win0_8.index t = ![0, 0] ∧ win0_9.index t = ![t.val / 16, t.val % 16, 0] ∧ t.val < 128 :=
  (by decide +kernel : ∀ t : Fin grid0.N, _)

/-- The sequence and tile of a grid point. -/
def tb (t : Fin cfg0.N) : Fin 8 := ⟨t.val / 16, by have := (idx t).2.2.2.2.2.2.2.2.2.2; omega⟩
def tj (t : Fin cfg0.N) : Fin 16 := ⟨t.val % 16, by omega⟩

theorem coord : ∀ t : Fin cfg0.N, ((grid0.coords t) 1).val = t.val % 16 :=
  (by decide +kernel : ∀ t : Fin grid0.N, _)

theorem iblk0 (c : Dev nD) (t : Fin cfg0.N) (h : ¬t.val % 16 = 0) (k : Fin 1024) : iblk m c 0 t (ix3 (0 : Fin 1) (7 : Fin 8) k)
    = m ((c : Thread nD τ).loc main_arg0) (ix3 (tb t) (⟨t.val % 16 * 256 - 1, by omega⟩ : Fin 4096) k) := by
  unfold tb
  blk_ext [iblk, V, idx t]

theorem iblk1 (c : Dev nD) (t : Fin cfg0.N) (p : Fin 256) (k : Fin 1024) : iblk m c 1 t (ix3 (0 : Fin 1) p k)
    = m ((c : Thread nD τ).loc main_arg0) (ix3 (tb t) (⟨t.val % 16 * 256 + (p : ℕ), by omega⟩ : Fin 4096) k) := by
  unfold tb
  blk_ext [iblk, V, idx t]

theorem iblk2 (c : Dev nD) (t : Fin cfg0.N) (h : ¬t.val % 16 = 15) (k : Fin 1024) : iblk m c 2 t (ix3 (0 : Fin 1) (0 : Fin 8) k)
    = m ((c : Thread nD τ).loc main_arg0) (ix3 (tb t) (⟨t.val % 16 * 256 + 256, by omega⟩ : Fin 4096) k) := by
  unfold tb
  blk_ext [iblk, V, idx t]

theorem iblk3 (c : Dev nD) (t : Fin cfg0.N) (r : Fin 6) (k : Fin 1024) : iblk m c 3 t (ix3 (0 : Fin 1) r k)
    = (show EReal from m ((c : Thread nD τ).loc main_arg1) (ix2 (tb t) (⟨(r : ℕ) * 1024 + k, by omega⟩ : Fin 6144))) := by
  refine Eq.trans ?_ (mod_at m c (tb t) r k)
  unfold tb
  blk_ext [iblk, idx t]

theorem iblk4 (c : Dev nD) (t : Fin cfg0.N) (k : Fin 1024) : iblk m c 4 t (ix2 (0 : Fin 1) k)
    = (show EReal from m ((c : Thread nD τ).loc main_arg2) (ix1 k)) := by
  refine Eq.trans ?_ (norm_at m c k)
  blk_ext [iblk, idx t]

theorem iblk5 (c : Dev nD) (t : Fin cfg0.N) (k : Fin 1024) (j : Fin 5632) : iblk m c 5 t (ix2 k j)
    = (show EReal from m ((c : Thread nD τ).loc main_arg3) (ix2 k j)) := by
  refine Eq.trans ?_ (up_at m c k j)
  blk_ext [iblk, idx t]

theorem iblk6 (c : Dev nD) (t : Fin cfg0.N) (k : Fin 3) (j : Fin 5632) : iblk m c 6 t (ix2 k j)
    = (show EReal from m ((c : Thread nD τ).loc main_arg4) (ix2 k j)) := by
  blk_ext [iblk, V, idx t]

theorem iblk7 (c : Dev nD) (t : Fin cfg0.N) (j : Fin 5632) : iblk m c 7 t (ix2 (0 : Fin 1) j)
    = (show EReal from m ((c : Thread nD τ).loc main_arg5) (ix1 j)) := by
  refine Eq.trans ?_ (bias_at m c j)
  blk_ext [iblk, idx t]

theorem iblk8 (c : Dev nD) (t : Fin cfg0.N) (f : Fin 2816) (n : Fin 1024) : iblk m c 8 t (ix2 f n)
    = (show EReal from m ((c : Thread nD τ).loc main_arg6) (ix2 f n)) := by
  refine Eq.trans ?_ (down_at m c f n)
  blk_ext [iblk, idx t]

end Cert.Kernel2Ideal.Ffn

end
-- ==== Proof.FfnArr.lean ====
/-
  The result array of the convolutional MLP's call, over the arrays it is given.
-/
module

public import proofs.«01_k».proof.Proof.FfnHost

@[expose] public section

set_option maxRecDepth 16384

noncomputable section

namespace Cert.Kernel2Ideal.Ffn

open Idealize.ShloMosaic Idealize.ShloMosaic.TcCoe Idealize.SL.Sem
open Idealize.ShloMosaic.Pipeline (Dat)
open Cert.Kernel2Ideal Cert.Kernel2Ideal.Gen

/-- The tile above is read except at the first tile, the tile below except at the last. -/
theorem has_prev : ∀ j : Fin 16, Scalar.andi (Scalar.cmpi .ne (Scalar.addi (BitVec.ofNat 32 j.val) 1#32) 0#32)
    (Scalar.cmpi .ne (Scalar.addi (BitVec.ofNat 32 j.val) 1#32) 1#32) = 1#1 ↔ ¬j.val = 0 := by decide +kernel

theorem has_next : ∀ j : Fin 16, Scalar.andi (Scalar.cmpi .ne (Scalar.addi (BitVec.ofNat 32 j.val) 1#32) 0#32)
    (Scalar.cmpi .ne (Scalar.addi (BitVec.ofNat 32 j.val) 1#32) 16#32) = 1#1 ↔ ¬j.val = 15 := by decide +kernel

/-- A row of modulation vectors. -/
theorem row_at (x3 : Vec Ideal S1x6x1024 .f32) (k : Fin 1024) :
    k0_pay2 (View.ld x3 r0_0) (ix2 (0 : Fin 1) k) = x3 (ix3 (0 : Fin 1) (3 : Fin 6) k)
    ∧ k0_pay3 (View.ld x3 r0_1) (ix2 (0 : Fin 1) k) = x3 (ix3 (0 : Fin 1) (4 : Fin 6) k)
    ∧ k0_pay4 (View.ld x3 r0_2) (ix2 (0 : Fin 1) k) = x3 (ix3 (0 : Fin 1) (5 : Fin 6) k) := by
  refine ⟨?_, ?_, ?_⟩
  · pointwise [k0_pay2]
  · pointwise [k0_pay3]
  · pointwise [k0_pay4]

theorem tile_at (x1 : Vec Ideal S1x256x1024 .f32) (p : Fin 256) (k : Fin 1024) :
    k0_pay5 (View.ld x1 r0_3) (ix2 p k) = x1 (ix3 (0 : Fin 1) p k) := by
  pointwise [k0_pay5]

theorem halo_at (x : Vec Ideal S1x8x1024 .f32) (p : Fin 8) (k : Fin 1024) :
    (View.ld x r0_4 : Vec Ideal S1x8x1024 .f32) (ix3 (0 : Fin 1) p k) = x (ix3 (0 : Fin 1) p k) := by
  refine View.ld_unit_apply_of x _ _ _ _ _ fun a => ?_
  fin_cases a <;> simp [ix3]

theorem weight_at (x : Vec Ideal S1x1024 .f32) (k : Fin 1024) :
    (View.ld x r0_5 : Vec Ideal S1x1024 .f32) (ix2 (0 : Fin 1) k) = x (ix2 (0 : Fin 1) k) := by
  refine View.ld_unit_apply_of x _ _ _ _ _ fun a => ?_
  fin_cases a <;> simp [ix2]

theorem nrm_congr {x x' w w' sc sc' sh sh' : Fin 1024 → EReal} (hx : ∀ k, x k = x' k) (hw : ∀ k, w k = w' k) (hc : ∀ k, sc k = sc' k)
    (hs : ∀ k, sh k = sh' k) (k : Fin 1024) : nrm x w sc sh k = nrm x' w' sc' sh' k := by
  rw [funext hx, funext hw, funext hc, funext hs]

section
variable (X : FVec Ideal S8x4096x1024 .f32) (M : FVec Ideal S8x6144 .f32) (nw : FVec Ideal S1024 .f32)
  (i : grid0.Coords) (x0 : Vec Ideal S1x8x1024 .f32) (x1 : Vec Ideal S1x256x1024 .f32) (x2 : Vec Ideal S1x8x1024 .f32)
  (x3 : Vec Ideal S1x6x1024 .f32) (x4 : Vec Ideal S1x1024 .f32) (x5 : Vec Ideal S1024x5632 .bf16) (x6 : Vec Ideal S3x5632 .f32)
  (x7 : Vec Ideal S1x5632 .f32) (x8 : Vec Ideal S2816x1024 .bf16) (b : Fin 8) (j : Fin 16) (hj : (i 1).val = j.val)
  (h0 : ∀ (h : ¬(j : ℕ) = 0) (k : Fin 1024), x0 (ix3 (0 : Fin 1) (7 : Fin 8) k) = (X (ix3 b (⟨(j : ℕ) * 256 - 1, by omega⟩ : Fin 4096) k) : EReal))
  (h1 : ∀ (p : Fin 256) (k : Fin 1024), x1 (ix3 (0 : Fin 1) p k) = (X (ix3 b (⟨(j : ℕ) * 256 + (p : ℕ), by omega⟩ : Fin 4096) k) : EReal))
  (h2 : ∀ (h : ¬(j : ℕ) = 15) (k : Fin 1024), x2 (ix3 (0 : Fin 1) (0 : Fin 8) k) = (X (ix3 b (⟨(j : ℕ) * 256 + 256, by omega⟩ : Fin 4096) k) : EReal))
  (h3 : ∀ (r : Fin 6) (k : Fin 1024), x3 (ix3 (0 : Fin 1) r k) = (M (ix2 b (⟨(r : ℕ) * 1024 + k, by omega⟩ : Fin 6144)) : EReal))
  (h4 : ∀ k : Fin 1024, x4 (ix2 (0 : Fin 1) k) = (nw (ix1 k) : EReal))

include hj h0 h1 h2 h3 h4

/-- The rows a tile is computed from: its tokens, the token before and the token after. -/
theorem rows_at (q : Fin 258) (r : Fin 272) (k : Fin 1024) (hr : (r : ℕ) = 7 + q) :
    k0_pay87 i x0 x1 x2 x3 x4 x5 x6 x7 x8 (ix2 r k) = HX X M nw b ((j : ℕ) * 256 + q) k := by
  have er : r = (⟨7 + (q : ℕ), by omega⟩ : Fin 272) := Fin.ext hr
  rw [er]
  unfold k0_pay87 k0_pay80 k0_pay81 k0_pay83 k0_pay84 k0_pay85 k0_pay86 k0_pay82 k0_pay80 k0_pay81
  rw [hj]
  have hw : ∀ k, (View.ld x4 r0_5 : Vec Ideal S1x1024 .f32) (ix2 (0 : Fin 1) k) = (nw (ix1 k) : EReal) := fun k => (weight_at x4 k).trans (h4 k)
  have hsc : ∀ k : Fin 1024, k0_pay3 (View.ld x3 r0_1) (ix2 (0 : Fin 1) k) = (M (ix2 b (⟨4096 + (k : ℕ), by omega⟩ : Fin 6144)) : EReal) := fun k =>
    (row_at x3 k).2.1.trans (h3 4 k)
  have hsh : ∀ k : Fin 1024, k0_pay2 (View.ld x3 r0_0) (ix2 (0 : Fin 1) k) = (M (ix2 b (⟨3072 + (k : ℕ), by omega⟩ : Fin 6144)) : EReal) := fun k =>
    (row_at x3 k).1.trans (h3 3 k)
  refine (pay12_at _ _ _ _ _ _ _ _ _ k).trans ?_
  have hX : ∀ (l l' : Fin 4096), (l : ℕ) = l' → ∀ k, X (ix3 b l k) = X (ix3 b l' k) := by
    intro l l' h k; rw [Fin.ext h]
  unfold HX HN
  by_cases a : (q : ℕ) = 0
  · have e8 : 7 + (q : ℕ) < 8 := by omega
    rw [dif_pos e8]
    refine (pay8_at _ _ _ _ _ _ k).trans ?_
    by_cases z : (j : ℕ) = 0
    · have n1 : ¬(1 ≤ (j : ℕ) * 256 + q ∧ (j : ℕ) * 256 + q - 1 < 4096) := by omega
      rw [dif_neg n1, if_neg (fun h => (has_prev j).mp h z)]
    · have n1 : 1 ≤ (j : ℕ) * 256 + q ∧ (j : ℕ) * 256 + q - 1 < 4096 := by omega
      rw [dif_pos n1, if_pos ((has_prev j).mpr z)]
      refine nrm_congr (fun k => ?_) hw hsc hsh k
      have e : (⟨7 + (q : ℕ), e8⟩ : Fin 8) = 7 := Fin.ext (by simp only <;> omega)
      refine ((halo_at x0 _ k).trans (congrArg (fun r : Fin 8 => x0 (ix3 (0 : Fin 1) r k)) e)).trans ((h0 z k).trans (hX _ _ ?_ k))
      simp only <;> omega
  · have e8 : ¬7 + (q : ℕ) < 8 := by omega
    have n1 : 1 ≤ (j : ℕ) * 256 + q := by omega
    rw [dif_neg e8]
    by_cases d : (q : ℕ) = 257
    · have e9 : ¬7 + (q : ℕ) - 8 < 256 := by omega
      rw [dif_neg e9]
      refine (pay8_at _ _ _ _ _ _ k).trans ?_
      by_cases z : (j : ℕ) = 15
      · have n2 : ¬(1 ≤ (j : ℕ) * 256 + q ∧ (j : ℕ) * 256 + q - 1 < 4096) := by omega
        rw [dif_neg n2, if_neg (fun h => (has_next j).mp h z)]
      · have n2 : 1 ≤ (j : ℕ) * 256 + q ∧ (j : ℕ) * 256 + q - 1 < 4096 := by omega
        rw [dif_pos n2, if_pos ((has_next j).mpr z)]
        refine nrm_congr (fun k => ?_) hw hsc hsh k
        have e : (⟨7 + (q : ℕ) - 8 - 256, by omega⟩ : Fin 8) = 0 := Fin.ext (by simp only [Fin.val_zero] <;> omega)
        refine ((halo_at x2 _ k).trans (congrArg (fun r : Fin 8 => x2 (ix3 (0 : Fin 1) r k)) e)).trans ((h2 z k).trans (hX _ _ ?_ k))
        simp only <;> omega
    · have e9 : 7 + (q : ℕ) - 8 < 256 := by omega
      have n2 : 1 ≤ (j : ℕ) * 256 + q ∧ (j : ℕ) * 256 + q - 1 < 4096 := by omega
      rw [dif_pos e9, dif_pos n2]
      refine (pay9_at _ _ _ _ _ k).trans ?_
      refine nrm_congr (fun k => ?_) hw hsc hsh k
      refine (tile_at x1 _ k).trans ((h1 _ k).trans (hX _ _ ?_ k))
      simp only <;> omega

end

variable (m : (ℓ : Loc nD τ sig) → Buf (Elt Ideal) ℓ)

/-- The result over the arrays. -/
def OXF (X : FVec Ideal S8x4096x1024 .f32) (M : FVec Ideal S8x6144 .f32) (nw : FVec Ideal S1024 .f32) (wu : FVec Ideal S1024x5632 .f32)
    (cw : FVec Ideal S3x5632 .f32) (cb : FVec Ideal S5632 .f32) (wd : FVec Ideal S2816x1024 .f32) : FVec Ideal S8x4096x1024 .f32 :=
  fun i => OX X M nw wu cw cb wd (i 0) (i 1) (i 2)

theorem pay1_at (v : FVec Ideal S256x1024 .f32) (y : S1x256x1024.Idx) : k0_pay1 v y = v (ix2 (y 1) (y 2)) := by
  idx_vars y
  pointwise [k0_pay1]

theorem block (c : Dev nD) (t : Fin cfg0.N) (X : FVec Ideal S8x4096x1024 .f32) (M : FVec Ideal S8x6144 .f32) (nw : FVec Ideal S1024 .f32)
    (wu : FVec Ideal S1024x5632 .f32) (cw : FVec Ideal S3x5632 .f32) (cb : FVec Ideal S5632 .f32) (wd : FVec Ideal S2816x1024 .f32)
    (eX : m ((c : Thread nD τ).loc main_arg0) = X) (eM : m ((c : Thread nD τ).loc main_arg1) = M) (en : m ((c : Thread nD τ).loc main_arg2) = nw)
    (eu : m ((c : Thread nD τ).loc main_arg3) = wu) (ew : m ((c : Thread nD τ).loc main_arg4) = cw) (eb : m ((c : Thread nD τ).loc main_arg5) = cb)
    (ed : m ((c : Thread nD τ).loc main_arg6) = wd) (p : Fin 256) (n : Fin 1024) (l : Fin 4096) (hl : (l : ℕ) = t.val % 16 * 256 + p) :
    RES (k0_pay5 (View.ld (iblk m c 1 t) r0_3)) (k0_pay4 (View.ld (iblk m c 3 t) r0_2))
        (ACC (k0_pay87 (grid0.coords t) (iblk m c 0 t) (iblk m c 1 t) (iblk m c 2 t) (iblk m c 3 t) (iblk m c 4 t) (iblk m c 5 t) (iblk m c 6 t) (iblk m c 7 t) (iblk m c 8 t))
          (iblk m c 5 t) (iblk m c 6 t) (iblk m c 7 t) (iblk m c 8 t)) (ix2 p n)
      = OX X M nw wu cw cb wd (tb t) l n := by
  subst eX eM en eu ew eb ed
  refine (RES_at _ _ _ p n).trans ?_
  unfold OX
  have e : l = (⟨t.val % 16 * 256 + (p : ℕ), by omega⟩ : Fin 4096) := Fin.ext hl
  refine congrArg₂ (fun a d : EReal => a + d) ?_ (congrArg₂ (fun a d : EReal => a * d) ?_ ?_)
  · rw [e]
    exact (tile_at (iblk m c 1 t) p n).trans (iblk1 m c t p n)
  · exact (row_at (iblk m c 3 t) n).2.2.trans (iblk3 m c t 5 n)
  · rw [hl]
    exact ACC_at (fun i => HX _ _ _ (tb t) ((tj t : ℕ) * 256 + i)) _ _ _ _ _ (iblk m c 5 t) (iblk m c 6 t) (iblk m c 7 t) (iblk m c 8 t)
      (rows_at _ _ _ (grid0.coords t) _ _ _ _ _ _ _ _ _ (tb t) (tj t) (coord t) (iblk0 m c t) (iblk1 m c t) (iblk2 m c t) (iblk3 m c t) (iblk4 m c t))
      (iblk5 m c t) (iblk6 m c t) (iblk7 m c t) (iblk8 m c t) p n

theorem final (c : Dev nD) (X : FVec Ideal S8x4096x1024 .f32) (M : FVec Ideal S8x6144 .f32) (nw : FVec Ideal S1024 .f32)
    (wu : FVec Ideal S1024x5632 .f32) (cw : FVec Ideal S3x5632 .f32) (cb : FVec Ideal S5632 .f32) (wd : FVec Ideal S2816x1024 .f32)
    (eX : m ((c : Thread nD τ).loc main_arg0) = X) (eM : m ((c : Thread nD τ).loc main_arg1) = M) (en : m ((c : Thread nD τ).loc main_arg2) = nw)
    (eu : m ((c : Thread nD τ).loc main_arg3) = wu) (ew : m ((c : Thread nD τ).loc main_arg4) = cw) (eb : m ((c : Thread nD τ).loc main_arg5) = cb)
    (ed : m ((c : Thread nD τ).loc main_arg6) = wd) : (dats m 0 c).arrAt 9 (cfgs 0).N = OXF X M nw wu cw cb wd := by
  refine (dats m 0 c).arrAt_eq_of_covers 9 _ (by decide +kernel) fun t _ y => ?_
  blk_simp
  rw [after0_9, body, View.canon_unit_zero (by funext a; fin_cases a <;> rfl), pay1_at]
  unfold OXF
  refine (block m c t X M nw wu cw cb wd eX eM en eu ew eb ed (y 1) (y 2)
    (⟨t.val % 16 * 256 + (y 1 : ℕ), by have h : (y 1 : ℕ) < 256 := (y 1).isLt; omega⟩ : Fin 4096) rfl).trans ?_
  refine congr (congrArg₂ (OX X M nw wu cw cb wd) ?_ ?_) ?_
  · apply Fin.ext
    blk_simp [idx t, tb]
  · apply Fin.ext
    blk_simp [idx t]
  · apply Fin.ext
    blk_simp [idx t]

end Cert.Kernel2Ideal.Ffn

end
-- ==== Proof.FfnRef.lean ====
/-
  The reference of the convolutional MLP at an index.
-/
module

public import proofs.«01_k».proof.Proof.Gen.Reference2Ideal
public import Idealize.ShloMosaic.Lib.KernelVsHost
public import Idealize.ShloMosaic.Lib.Pointwise

@[expose] public section

set_option maxRecDepth 16384

noncomputable section

namespace Cert.Reference2Ideal.Ffn

open Idealize.ShloMosaic Idealize.ShloMosaic.TcCoe Idealize.SL.Sem
open Cert.Reference2Ideal Cert.Reference2Ideal.Gen

/-- The root mean square's reciprocal. -/
def RS (x : FVec Ideal S8x4096x1024 .f32) : FVec Ideal S8x4096x1 .f32 :=
  Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))

theorem RS_at (x : FVec Ideal S8x4096x1024 .f32) (b : Fin 8) (l : Fin 4096) :
    RS x (ix3 b l (0 : Fin 1))
      = Ideal.rsqrt (Ideal.div (∑ j : Fin 1024, (x (ix3 b l j) : EReal) * x (ix3 b l j)) (Ideal.ofBits .f32 0x44800000#32) + Ideal.ofBits .f32 0x358637BD#32) := by
  pointwise [RS]

/-- The normalized and modulated tokens. -/
def HR (x : FVec Ideal S8x4096x1024 .f32) (M : FVec Ideal S8x6144 .f32) (nw : FVec Ideal S1024 .f32) : FVec Ideal S8x4096x1024 .f32 :=
  addf (mulf (mulf (mulf x (broadcastInDim S8x4096x1024 ![0, 1, 2] bcast_S8x4096x1_S8x4096x1024_0_1_2 (RS x)))
      (broadcastInDim S8x4096x1024 ![0, 1, 2] bcast_S1x1x1024_S8x4096x1024_0_1_2 (broadcastInDim S1x1x1024 ![2] bcast_S1024_S1x1x1024_2 nw)))
      (broadcastInDim S8x4096x1024 ![0, 1, 2] bcast_S8x1x1024_S8x4096x1024_0_1_2 (addf (broadcastInDim S8x1x1024 ![] bcast_S_S8x1x1024 (constant S_ .f32 0x3F800000#32)) (extractStridedSlice S8x1x1024 ![0, 0, 4096] (broadcastInDim S8x1x6144 ![0, 2] bcast_S8x6144_S8x1x6144_0_2 M) slices_S8x1x6144_S8x1x1024_0_0_4096))))
    (broadcastInDim S8x4096x1024 ![0, 1, 2] bcast_S8x1x1024_S8x4096x1024_0_1_2 (extractStridedSlice S8x1x1024 ![0, 0, 3072] (broadcastInDim S8x1x6144 ![0, 2] bcast_S8x6144_S8x1x6144_0_2 M) slices_S8x1x6144_S8x1x1024_0_0_3072))

theorem HR_at (x : FVec Ideal S8x4096x1024 .f32) (M : FVec Ideal S8x6144 .f32) (nw : FVec Ideal S1024 .f32) (b : Fin 8) (l : Fin 4096) (k : Fin 1024) :
    HR x M nw (ix3 b l k)
      = (x (ix3 b l k) : EReal) * RS x (ix3 b l (0 : Fin 1)) * nw (ix1 k) * (1 + M (ix2 b (⟨4096 + (k : ℕ), by omega⟩ : Fin 6144)))
        + M (ix2 b (⟨3072 + (k : ℕ), by omega⟩ : Fin 6144)) := by
  unfold HR
  generalize RS x = r
  pointwise

/-- The up projection. -/
def UR (h : FVec Ideal S8x4096x1024 .f32) (wu : FVec Ideal S1024x5632 .f32) : FVec Ideal S8x4096x5632 .f32 :=
  Host.dotGeneral dot_S8x4096x1024_S1024x5632_S8x4096x5632_2_0_01_1_n_n none h wu

theorem UR_at (h : FVec Ideal S8x4096x1024 .f32) (wu : FVec Ideal S1024x5632 .f32) (b : Fin 8) (l : Fin 4096) (c : Fin 5632) :
    UR h wu (ix3 b l c) = ∑ k : Fin 1024, (h (ix3 b l k) : EReal) * wu (ix2 k c) := by
  pointwise [UR]

/-- A token of zeros before the first and after the last. -/
def PR (u : FVec Ideal S8x4096x5632 .f32) : FVec Ideal S8x4098x5632 .f32 :=
  pad S8x4098x5632 ![0, 1, 0] ![0, 1, 0] ![0, 0, 0] u (sitofp .f32 (constantI S_ 32 0#32)) pads_S8x4096x5632_S8x4098x5632_000_110_000 h_S_

theorem PR_at (u : FVec Ideal S8x4096x5632 .f32) (b : Fin 8) (l : Fin 4098) (c : Fin 5632) :
    PR u (ix3 b l c) = if h : 1 ≤ (l : ℕ) ∧ (l : ℕ) - 1 < 4096 then (u (ix3 b (⟨(l : ℕ) - 1, h.2⟩ : Fin 4096) c) : EReal) else 0 := by
  have z : (FloatOps.sitofp (F := Ideal) FTy.f32 0#32 : EReal) = 0 := by
    show ((((0#32 : BitVec 32).toInt : ℤ) : ℝ) : EReal) = 0
    simp
  pointwise [PR]
  rw [z]

/-- The depthwise convolution. -/
def CR (p : FVec Ideal S8x4098x5632 .f32) (cw : FVec Ideal S3x5632 .f32) (cb : FVec Ideal S5632 .f32) : FVec Ideal S8x4096x5632 .f32 :=
  addf (addf (addf
    (mulf (broadcastInDim S8x4096x5632 ![0, 1, 2] bcast_S1x1x5632_S8x4096x5632_0_1_2 (broadcastInDim S1x1x5632 ![2] bcast_S5632_S1x1x5632_2 (shapeCast S5632 (extractStridedSlice S1x5632 ![0, 0] cw slices_S3x5632_S1x5632_0_0) shapeCasts_S1x5632_S5632)))
      (extractStridedSlice S8x4096x5632 ![0, 0, 0] p slices_S8x4098x5632_S8x4096x5632_0_0_0))
    (mulf (broadcastInDim S8x4096x5632 ![0, 1, 2] bcast_S1x1x5632_S8x4096x5632_0_1_2 (broadcastInDim S1x1x5632 ![2] bcast_S5632_S1x1x5632_2 (shapeCast S5632 (extractStridedSlice S1x5632 ![1, 0] cw slices_S3x5632_S1x5632_1_0) shapeCasts_S1x5632_S5632)))
      (extractStridedSlice S8x4096x5632 ![0, 1, 0] p slices_S8x4098x5632_S8x4096x5632_0_1_0)))
    (mulf (broadcastInDim S8x4096x5632 ![0, 1, 2] bcast_S1x1x5632_S8x4096x5632_0_1_2 (broadcastInDim S1x1x5632 ![2] bcast_S5632_S1x1x5632_2 (shapeCast S5632 (extractStridedSlice S1x5632 ![2, 0] cw slices_S3x5632_S1x5632_2_0) shapeCasts_S1x5632_S5632)))
      (extractStridedSlice S8x4096x5632 ![0, 2, 0] p slices_S8x4098x5632_S8x4096x5632_0_2_0)))
    (broadcastInDim S8x4096x5632 ![0, 1, 2] bcast_S1x1x5632_S8x4096x5632_0_1_2 (broadcastInDim S1x1x5632 ![2] bcast_S5632_S1x1x5632_2 cb))

theorem CR_at (p : FVec Ideal S8x4098x5632 .f32) (cw : FVec Ideal S3x5632 .f32) (cb : FVec Ideal S5632 .f32) (b : Fin 8) (l : Fin 4096) (c : Fin 5632) :
    CR p cw cb (ix3 b l c)
      = (cw (ix2 (0 : Fin 3) c) : EReal) * p (ix3 b (⟨(l : ℕ), by omega⟩ : Fin 4098) c)
        + cw (ix2 (1 : Fin 3) c) * p (ix3 b (⟨1 + (l : ℕ), by omega⟩ : Fin 4098) c)
        + cw (ix2 (2 : Fin 3) c) * p (ix3 b (⟨2 + (l : ℕ), by omega⟩ : Fin 4098) c) + cb (ix1 c) := by
  pointwise [CR]

/-- The swish of the gates. -/
def SR (g : FVec Ideal S8x4096x2816 .f32) : FVec Ideal S8x4096x2816 .f32 := mulf g (Host.divf (broadcastInDim S8x4096x2816 ![] bcast_S_S8x4096x2816 (constant S_ .f32 0x3F800000#32)) (addf (broadcastInDim S8x4096x2816 ![] bcast_S_S8x4096x2816 (constant S_ .f32 0x3F800000#32)) (Host.exp (Host.negf g))))

theorem SR_at (g : FVec Ideal S8x4096x2816 .f32) (b : Fin 8) (l : Fin 4096) (f : Fin 2816) :
    SR g (ix3 b l f) = (g (ix3 b l f) : EReal) * Ideal.div 1 (1 + Ideal.exp (-(g (ix3 b l f) : EReal))) := by
  pointwise [SR]

/-- The gated hidden columns. -/
def AR (u : FVec Ideal S8x4096x5632 .f32) : FVec Ideal S8x4096x2816 .f32 :=
  mulf (extractStridedSlice S8x4096x2816 ![0, 0, 0] u slices_S8x4096x5632_S8x4096x2816_0_0_0)
    (SR (extractStridedSlice S8x4096x2816 ![0, 0, 2816] u slices_S8x4096x5632_S8x4096x2816_0_0_2816))

theorem AR_at (u : FVec Ideal S8x4096x5632 .f32) (b : Fin 8) (l : Fin 4096) (f : Fin 2816) :
    AR u (ix3 b l f) = (u (ix3 b l (⟨(f : ℕ), by omega⟩ : Fin 5632)) : EReal)
      * ((u (ix3 b l (⟨2816 + (f : ℕ), by omega⟩ : Fin 5632)) : EReal)
        * Ideal.div 1 (1 + Ideal.exp (-(u (ix3 b l (⟨2816 + (f : ℕ), by omega⟩ : Fin 5632)) : EReal)))) := by
  pointwise [AR, SR]

/-- The residual and the gated down projection. -/
def OR (x : FVec Ideal S8x4096x1024 .f32) (M : FVec Ideal S8x6144 .f32) (a : FVec Ideal S8x4096x2816 .f32) (wd : FVec Ideal S2816x1024 .f32) :
    FVec Ideal S8x4096x1024 .f32 :=
  addf x (mulf (broadcastInDim S8x4096x1024 ![0, 1, 2] bcast_S8x1x1024_S8x4096x1024_0_1_2 (extractStridedSlice S8x1x1024 ![0, 0, 5120] (broadcastInDim S8x1x6144 ![0, 2] bcast_S8x6144_S8x1x6144_0_2 M) slices_S8x1x6144_S8x1x1024_0_0_5120))
    (Host.dotGeneral dot_S8x4096x2816_S2816x1024_S8x4096x1024_2_0_01_1_n_n none a wd))

theorem OR_at (x : FVec Ideal S8x4096x1024 .f32) (M : FVec Ideal S8x6144 .f32) (a : FVec Ideal S8x4096x2816 .f32) (wd : FVec Ideal S2816x1024 .f32)
    (b : Fin 8) (l : Fin 4096) (n : Fin 1024) :
    OR x M a wd (ix3 b l n) = (x (ix3 b l n) : EReal)
      + M (ix2 b (⟨5120 + (n : ℕ), by omega⟩ : Fin 6144)) * ∑ f : Fin 2816, (a (ix3 b l f) : EReal) * wd (ix2 f n) := by
  pointwise [OR]

end Cert.Reference2Ideal.Ffn

end
-- ==== Proof.FfnValue.lean ====
/-
  The run of the convolutional MLP's program, and its equality with the reference.
-/
module

public import proofs.«01_k».proof.Proof.FfnArr
public import proofs.«01_k».proof.Proof.FfnRef

@[expose] public section

set_option maxRecDepth 16384

noncomputable section

namespace Cert.Kernel2Ideal.Ffn

open Idealize.ShloMosaic Idealize.ShloMosaic.TcCoe Idealize.SL.Sem
open Idealize.ShloMosaic.Pipeline (Dat)
open Cert.Kernel2Ideal Cert.Kernel2Ideal.Gen

section
variable (X : FVec Ideal S8x4096x1024 .f32) (M : FVec Ideal S8x6144 .f32) (nw : FVec Ideal S1024 .f32) (wu : FVec Ideal S1024x5632 .f32)
  (cw : FVec Ideal S3x5632 .f32) (cb : FVec Ideal S5632 .f32) (wd : FVec Ideal S2816x1024 .f32)

theorem norm_eq (b : Fin 8) (l : Fin 4096) (k : Fin 1024) :
    Cert.Reference2Ideal.Ffn.HR X M nw (ix3 b l k) = HN X M nw b l k := by
  refine (Cert.Reference2Ideal.Ffn.HR_at X M nw b l k).trans ?_
  rw [Cert.Reference2Ideal.Ffn.RS_at X b l]
  rfl

/-- The padded up projection is the up projection of the padded tokens: a row of zeros projects to zero. -/
theorem up_eq (b : Fin 8) (i : Fin 4098) (i' : ℕ) (hi : (i : ℕ) = i') (c : Fin 5632) :
    Cert.Reference2Ideal.Ffn.PR (Cert.Reference2Ideal.Ffn.UR (Cert.Reference2Ideal.Ffn.HR X M nw) wu) (ix3 b i c) = UG (HX X M nw b) wu i' c := by
  subst hi
  refine (Cert.Reference2Ideal.Ffn.PR_at _ b i c).trans ?_
  unfold UG HX
  by_cases h : 1 ≤ (i : ℕ) ∧ (i : ℕ) - 1 < 4096
  · rw [dif_pos h]
    refine (Cert.Reference2Ideal.Ffn.UR_at _ wu b _ c).trans (Finset.sum_congr rfl fun k _ => ?_)
    rw [dif_pos h]
    exact congrArg (fun a : EReal => a * wu (ix2 k c)) (norm_eq X M nw b _ k)
  · rw [dif_neg h]
    refine (Finset.sum_eq_zero fun k _ => ?_).symm
    rw [dif_neg h]
    exact zero_mul _

theorem conv_eq (b : Fin 8) (l : Fin 4096) (c : Fin 5632) :
    Cert.Reference2Ideal.Ffn.CR (Cert.Reference2Ideal.Ffn.PR (Cert.Reference2Ideal.Ffn.UR (Cert.Reference2Ideal.Ffn.HR X M nw) wu)) cw cb (ix3 b l c)
      = CG (HX X M nw b) wu cw cb l c := by
  refine (Cert.Reference2Ideal.Ffn.CR_at _ cw cb b l c).trans ?_
  unfold CG
  refine congrArg (fun a : EReal => a + cb (ix1 c)) (congrArg₂ (fun a d : EReal => a + d) (congrArg₂ (fun a d : EReal => a + d) ?_ ?_) ?_)
  · exact congrArg (fun a : EReal => cw (ix2 (0 : Fin 3) c) * a) (up_eq X M nw wu b _ _ rfl c)
  · exact congrArg (fun a : EReal => cw (ix2 (1 : Fin 3) c) * a) (up_eq X M nw wu b _ _ (Nat.add_comm 1 _) c)
  · exact congrArg (fun a : EReal => cw (ix2 (2 : Fin 3) c) * a) (up_eq X M nw wu b _ _ (Nat.add_comm 2 _) c)

theorem value_eq : OXF X M nw wu cw cb wd
    = Cert.Reference2Ideal.Ffn.OR X M (Cert.Reference2Ideal.Ffn.AR (Cert.Reference2Ideal.Ffn.CR (Cert.Reference2Ideal.Ffn.PR
        (Cert.Reference2Ideal.Ffn.UR (Cert.Reference2Ideal.Ffn.HR X M nw) wu)) cw cb)) wd := by
  funext i
  idx_vars i
  refine Eq.trans ?_ (Cert.Reference2Ideal.Ffn.OR_at X M _ wd i0 i1 i2).symm
  show OX X M nw wu cw cb wd i0 i1 i2 = _
  unfold OX
  refine congrArg (fun a : EReal => X (ix3 i0 i1 i2) + M (ix2 i0 (⟨5120 + (i2 : ℕ), by omega⟩ : Fin 6144)) * a) (Finset.sum_congr rfl fun f _ => ?_)
  refine congrArg (fun a : EReal => a * wd (ix2 f i2)) ?_
  refine Eq.trans ?_ (Cert.Reference2Ideal.Ffn.AR_at _ i0 i1 f).symm
  rw [conv_eq X M nw wu cw cb, conv_eq X M nw wu cw cb]
  unfold AG swish
  rw [zero_sub]

end

variable (m : (ℓ : Loc nD τ sig) → Buf (Elt Ideal) ℓ)

/-- The kernel program's run: the result over the arguments, and the arguments unchanged. -/
theorem kernel_run (g : Dev nD → PrngReg) :
    θ_run (Cert.Kernel2Ideal.defs (F := Ideal)) (onTc (τ := Cert.Kernel2Ideal.τ) (Cert.Kernel2Ideal.main (F := Ideal))) ⟨m, fun _ => 0, g⟩ (fun r => ∀ c : Dev nD,
          r.2.mem ((c.tc : Thread nD τ).loc main_v10) = OXF (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6))
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4)
          ∧ r.2.mem ((c.tc : Thread nD τ).loc main_arg5) = m ((c.tc : Thread nD τ).loc main_arg5)
          ∧ r.2.mem ((c.tc : Thread nD τ).loc main_arg6) = m ((c.tc : Thread nD τ).loc main_arg6)) := by
  run_from Cert.Kernel2Ideal.Gen.run_main m g
  · exact final m c _ _ _ _ _ _ _ rfl rfl rfl rfl rfl rfl rfl

end Cert.Kernel2Ideal.Ffn

end
-- ==== Proof.FfnRun.lean ====
/-
  The run of the convolutional MLP's reference, and the claim that the kernel program's result is the reference's.
-/
module

public import proofs.«01_k».proof.Defs
public import proofs.«01_k».proof.Proof.FfnValue
public import proofs.«01_k».proof.Proof.Gen.Reference2Ideal.Run

@[expose] public section

set_option maxRecDepth 16384

noncomputable section

namespace Cert.Reference2Ideal.Ffn

open Idealize.ShloMosaic Idealize.ShloMosaic.TcCoe Idealize.SL.Sem
open Cert.Reference2Ideal Cert.Reference2Ideal.Gen

/-- The result over the arrays. -/
def MLP (X : FVec Ideal S8x4096x1024 .f32) (M : FVec Ideal S8x6144 .f32) (nw : FVec Ideal S1024 .f32) (wu : FVec Ideal S1024x5632 .f32)
    (cw : FVec Ideal S3x5632 .f32) (cb : FVec Ideal S5632 .f32) (wd : FVec Ideal S2816x1024 .f32) : FVec Ideal S8x4096x1024 .f32 :=
  OR X M (AR (CR (PR (UR (HR X M nw) wu)) cw cb)) wd

theorem reference_run (m' : (ℓ : Loc nD τ sig) → Buf (Elt Ideal) ℓ) (g' : Dev nD → PrngReg)
    (X : Dev nD → FVec Ideal S8x4096x1024 .f32) (M : Dev nD → FVec Ideal S8x6144 .f32) (nw : Dev nD → FVec Ideal S1024 .f32)
    (wu : Dev nD → FVec Ideal S1024x5632 .f32) (cw : Dev nD → FVec Ideal S3x5632 .f32) (cb : Dev nD → FVec Ideal S5632 .f32)
    (wd : Dev nD → FVec Ideal S2816x1024 .f32)
    (h0 : ∀ c : Dev nD, m' ((c.tc : Thread nD τ).loc main_arg0) = X c) (h1 : ∀ c : Dev nD, m' ((c.tc : Thread nD τ).loc main_arg1) = M c)
    (h2 : ∀ c : Dev nD, m' ((c.tc : Thread nD τ).loc main_arg2) = nw c) (h3 : ∀ c : Dev nD, m' ((c.tc : Thread nD τ).loc main_arg3) = wu c)
    (h4 : ∀ c : Dev nD, m' ((c.tc : Thread nD τ).loc main_arg4) = cw c) (h5 : ∀ c : Dev nD, m' ((c.tc : Thread nD τ).loc main_arg5) = cb c)
    (h6 : ∀ c : Dev nD, m' ((c.tc : Thread nD τ).loc main_arg6) = wd c) :
    θ_run (defs (F := Ideal)) (onTc (τ := τ) (main (F := Ideal))) ⟨m', fun _ => 0, g'⟩ (fun r => ∀ c : Dev nD,
      r.2.mem ((c.tc : Thread nD τ).loc main_v58) = MLP (X c) (M c) (nw c) (wu c) (cw c) (cb c) (wd c)
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)) := by
  refine (θ_run defs _ _).mono (fun r h c => ⟨(h c).1.trans ?_, (h c).2⟩) (Cert.Reference2Ideal.Value.run (F := Ideal) m' g')
  unfold Cert.Reference2Ideal.Value.res_main_v58
  rw [h0, h1, h2, h3, h4, h5, h6]
  unfold MLP OR AR SR CR PR UR HR RS
  rfl

end Cert.Reference2Ideal.Ffn

namespace Cert.Proof

open Idealize.ShloMosaic Idealize.ShloMosaic.TcCoe Idealize.SL.Sem

/-- The convolutional MLP's program and its reference end with equal results. -/
theorem conv_mlp : Cert.algebraic_Kernel2Ideal_Reference2Ideal (hKernel2Ideal := Cert.Kernel2Ideal.Gen.facts)
    (hReference2Ideal := Cert.Reference2Ideal.Gen.facts) := by
  intro m g m' g' _ hagree
  refine ⟨_, Cert.Kernel2Ideal.Ffn.kernel_run m g, ?_⟩
  refine (θ_run Cert.Reference2Ideal.defs _ _).mono (fun r h c => ⟨(h c).1.trans ?_, (h c).2⟩)
    (Cert.Reference2Ideal.Ffn.reference_run m' g' _ _ _ _ _ _ _ (fun c => (hagree c).1) (fun c => (hagree c).2.1) (fun c => (hagree c).2.2.1)
      (fun c => (hagree c).2.2.2.1) (fun c => (hagree c).2.2.2.2.1) (fun c => (hagree c).2.2.2.2.2.1) (fun c => (hagree c).2.2.2.2.2.2))
  exact (Cert.Kernel2Ideal.Ffn.value_eq _ _ _ _ _ _ _).symm

end Cert.Proof

end
-- ==== Proof.Ffn3Body.lean ====
/-
  One grid point of the first layer's convolutional MLP: the same functions as in the last layer, of rows that also
  stop where the context tokens end and the latent tokens begin.
-/
module

public import proofs.«01_k».proof.Proof.Gen.Kernel3Ideal.Frame
public import proofs.«01_k».proof.Proof.FfnArr
public import Idealize.ShloMosaic.Lib.Pointwise

@[expose] public section

set_option maxRecDepth 16384

noncomputable section

namespace Cert.Kernel3Ideal.Ffn

open Idealize.ShloMosaic Idealize.ShloMosaic.TcCoe Idealize.SL.Sem
open Cert.Kernel3Ideal Cert.Kernel3Ideal.Gen
open Cert.Kernel2Ideal.Ffn (UP CV ACT DN PART RES ACC)

/-- The rows a tile is computed from, by whether the tile above and the tile below belong to the same tokens. -/
def ROWS (v v' : BitVec 1) (x0 : Vec Ideal S1x8x1024 .f32) (x1 : Vec Ideal S1x256x1024 .f32) (x2 : Vec Ideal S1x8x1024 .f32)
    (x3 : Vec Ideal S1x6x1024 .f32) (x4 : Vec Ideal S1x1024 .f32) : FVec Ideal S272x1024 .bf16 :=
  Cert.Kernel2Ideal.Gen.k0_pay12 v' (Cert.Kernel2Ideal.Gen.k0_pay2 (View.ld x3 Cert.Kernel2Ideal.Gen.r0_0)) (Cert.Kernel2Ideal.Gen.k0_pay3 (View.ld x3 Cert.Kernel2Ideal.Gen.r0_1))
    (Cert.Kernel2Ideal.Gen.k0_pay8 v (Cert.Kernel2Ideal.Gen.k0_pay2 (View.ld x3 Cert.Kernel2Ideal.Gen.r0_0)) (Cert.Kernel2Ideal.Gen.k0_pay3 (View.ld x3 Cert.Kernel2Ideal.Gen.r0_1)) (Cert.Kernel2Ideal.Gen.k0_pay6 (View.ld x0 Cert.Kernel2Ideal.Gen.r0_4) (View.ld x4 Cert.Kernel2Ideal.Gen.r0_5)) Cert.Kernel2Ideal.Gen.k0_pay7)
    (Cert.Kernel2Ideal.Gen.k0_pay9 (Cert.Kernel2Ideal.Gen.k0_pay2 (View.ld x3 Cert.Kernel2Ideal.Gen.r0_0)) (Cert.Kernel2Ideal.Gen.k0_pay3 (View.ld x3 Cert.Kernel2Ideal.Gen.r0_1)) (Cert.Kernel2Ideal.Gen.k0_pay5 (View.ld x1 Cert.Kernel2Ideal.Gen.r0_3)) (View.ld x4 Cert.Kernel2Ideal.Gen.r0_5))
    (Cert.Kernel2Ideal.Gen.k0_pay10 (View.ld x2 Cert.Kernel2Ideal.Gen.r0_4) (View.ld x4 Cert.Kernel2Ideal.Gen.r0_5)) Cert.Kernel2Ideal.Gen.k0_pay11

/-- Whether the tile above, and the tile below, belong to the same tokens as tile `j`. -/
def UPV (j : ℕ) : BitVec 1 := Scalar.andi (Scalar.cmpi .ne (Scalar.addi (BitVec.ofNat 32 j) 0#32) 0#32)
  (Scalar.cmpi .ne (Scalar.addi (BitVec.ofNat 32 j) 0#32) 1#32)
def DNV (j : ℕ) : BitVec 1 := Scalar.andi (Scalar.cmpi .ne (Scalar.addi (BitVec.ofNat 32 j) 0#32) 0#32)
  (Scalar.cmpi .ne (Scalar.addi (BitVec.ofNat 32 j) 0#32) 16#32)

theorem act0 (v6 : BitVec 1) (v8 v10 : FVec Ideal S1x1024 .f32) (v38 : FVec Ideal S8x1024 .f32) (v58 : FVec Ideal S256x1024 .f32) (v74 : FVec Ideal S8x1024 .f32) (v75 : FVec Ideal S1x1024 .f32) (wa wg : Vec Ideal S1024x256 .bf16)
    (cg ca : Vec Ideal S3x256 .f32) (bg ba : Vec Ideal S1x256 .f32) :
    k0_pay18 (k0_pay13 v6 v8 v10 v38 v58 v74 v75 wa) (k0_pay16 v6 v8 v10 v38 v58 v74 v75 wg cg) (k0_pay17 bg) ca ba
      = ACT (CV (UP (k0_pay12 v6 v8 v10 v38 v58 v74 v75) wa) ca ba) (CV (UP (k0_pay12 v6 v8 v10 v38 v58 v74 v75) wg) cg bg) := rfl

theorem act1 (v6 : BitVec 1) (v8 v10 : FVec Ideal S1x1024 .f32) (v38 : FVec Ideal S8x1024 .f32) (v58 : FVec Ideal S256x1024 .f32) (v74 : FVec Ideal S8x1024 .f32) (v75 : FVec Ideal S1x1024 .f32) (wa wg : Vec Ideal S1024x256 .bf16)
    (cg ca : Vec Ideal S3x256 .f32) (bg ba : Vec Ideal S1x256 .f32) :
    k0_pay23 (k0_pay14 v6 v8 v10 v38 v58 v74 v75 wa) (k0_pay15 v6 v8 v10 v38 v58 v74 v75 wg) cg (k0_pay21 cg) (k0_pay22 (k0_pay15 v6 v8 v10 v38 v58 v74 v75 wg)) bg ca ba
      = ACT (CV (UP (k0_pay12 v6 v8 v10 v38 v58 v74 v75) wa) ca ba) (CV (UP (k0_pay12 v6 v8 v10 v38 v58 v74 v75) wg) cg bg) := rfl

theorem act2 (H : FVec Ideal S272x1024 .bf16) (wa wg : Vec Ideal S1024x256 .bf16)
    (cg ca : Vec Ideal S3x256 .f32) (bg ba : Vec Ideal S1x256 .f32) :
    k0_pay30 (k0_pay19 H wa) (k0_pay27 (k0_pay20 H wg) cg bg) (k0_pay28 (k0_pay19 H wa) ca) (k0_pay29 ca) ba
      = ACT (CV (UP H wa) ca ba) (CV (UP H wg) cg bg) := rfl

theorem act3 (H : FVec Ideal S272x1024 .bf16) (wa wg : Vec Ideal S1024x256 .bf16)
    (cg ca : Vec Ideal S3x256 .f32) (bg ba : Vec Ideal S1x256 .f32) :
    k0_pay36 (k0_pay25 H wa) (k0_pay26 H wg) (k0_pay34 (k0_pay26 H wg) cg) (k0_pay35 cg) 271#32 bg ca ba
      = ACT (CV (UP H wa) ca ba) (CV (UP H wg) cg bg) := rfl

theorem act4 (H : FVec Ideal S272x1024 .bf16) (wa wg : Vec Ideal S1024x256 .bf16)
    (cg ca : Vec Ideal S3x256 .f32) (bg ba : Vec Ideal S1x256 .f32) :
    k0_pay42 (k0_pay40 (k0_pay33 H wg) cg bg) (k0_pay41 (k0_pay32 H wa) ca) ba
      = ACT (CV (UP H wa) ca ba) (CV (UP H wg) cg bg) := rfl

theorem act5 (H : FVec Ideal S272x1024 .bf16) (wa wg : Vec Ideal S1024x256 .bf16)
    (cg ca : Vec Ideal S3x256 .f32) (bg ba : Vec Ideal S1x256 .f32) :
    k0_pay47 (k0_pay38 H wa) (k0_pay46 (k0_pay39 H wg) cg) bg ca ba
      = ACT (CV (UP H wa) ca ba) (CV (UP H wg) cg bg) := rfl

theorem act6 (H : FVec Ideal S272x1024 .bf16) (wa wg : Vec Ideal S1024x256 .bf16)
    (cg ca : Vec Ideal S3x256 .f32) (bg ba : Vec Ideal S1x256 .f32) :
    k0_pay55 (k0_pay52 (k0_pay45 H wg) cg bg) (k0_pay53 (k0_pay44 H wa) ca ba) (k0_pay54 (k0_pay45 H wg) cg bg)
      = ACT (CV (UP H wa) ca ba) (CV (UP H wg) cg bg) := rfl

theorem act7 (H : FVec Ideal S272x1024 .bf16) (wa wg : Vec Ideal S1024x256 .bf16)
    (cg ca : Vec Ideal S3x256 .f32) (bg ba : Vec Ideal S1x256 .f32) :
    k0_pay61 (k0_pay49 H wa) (k0_pay59 (k0_pay51 H (k0_pay50 wg)) cg bg) ca (k0_pay60 ca) 1#32 ba
      = ACT (CV (UP H wa) ca ba) (CV (UP H wg) cg bg) := rfl

theorem act8 (H : FVec Ideal S272x1024 .bf16) (wa wg : Vec Ideal S1024x256 .bf16)
    (cg ca : Vec Ideal S3x256 .f32) (bg ba : Vec Ideal S1x256 .f32) :
    k0_pay68 (k0_pay67 (k0_pay57 H wa) (k0_pay58 H wg) cg (k0_pay65 cg) (k0_pay66 (k0_pay58 H wg)) bg ca ba)
      = ACT (CV (UP H wa) ca ba) (CV (UP H wg) cg bg) := rfl

theorem act9 (H : FVec Ideal S272x1024 .bf16) (wa wg : Vec Ideal S1024x256 .bf16)
    (cg ca : Vec Ideal S3x256 .f32) (bg ba : Vec Ideal S1x256 .f32) :
    k0_pay75 (k0_pay63 H wa) (k0_pay72 (k0_pay64 H wg) cg bg) ca (k0_pay73 (k0_pay63 H wa) ca) (k0_pay74 (k0_pay63 H wa) ca) ba
      = ACT (CV (UP H wa) ca ba) (CV (UP H wg) cg bg) := rfl

theorem acc31 (a : FVec Ideal S256x256 .bf16) (s : FVec Ideal S256x1024 .f32) (w : Vec Ideal S256x1024 .bf16) : k0_pay31 a s w = addf s (DN a w) := rfl

theorem acc37 (a : FVec Ideal S256x256 .bf16) (s : FVec Ideal S256x1024 .f32) (w : Vec Ideal S256x1024 .bf16) : k0_pay37 a s w = addf s (DN a w) := rfl

theorem acc43 (a : FVec Ideal S256x256 .bf16) (s : FVec Ideal S256x1024 .f32) (w : Vec Ideal S256x1024 .bf16) : k0_pay43 a s w = addf s (DN a w) := rfl

theorem acc48 (a : FVec Ideal S256x256 .bf16) (s : FVec Ideal S256x1024 .f32) (w : Vec Ideal S256x1024 .bf16) : k0_pay48 a s w = addf s (DN a w) := rfl

theorem acc56 (a : FVec Ideal S256x256 .bf16) (s : FVec Ideal S256x1024 .f32) (w : Vec Ideal S256x1024 .bf16) : k0_pay56 a s w = addf s (DN a w) := rfl

theorem acc62 (a : FVec Ideal S256x256 .bf16) (s : FVec Ideal S256x1024 .f32) (w : Vec Ideal S256x1024 .bf16) : k0_pay62 a s w = addf s (DN a w) := rfl

theorem acc69 (a : FVec Ideal S256x256 .bf16) (s : FVec Ideal S256x1024 .f32) (w : Vec Ideal S256x1024 .bf16) : k0_pay69 a s w = addf s (DN a w) := rfl

theorem acc76 (a : FVec Ideal S256x256 .bf16) (s : FVec Ideal S256x1024 .f32) (w : Vec Ideal S256x1024 .bf16) : k0_pay76 a s w = addf s (DN a w) := rfl

theorem acc24 (a : FVec Ideal S256x256 .bf16) (w : Vec Ideal S256x1024 .bf16) : k0_pay24 a w = DN a w := rfl

theorem last (g : FVec Ideal S1x1024 .f32) (x : FVec Ideal S256x1024 .f32) (H : FVec Ideal S272x1024 .bf16) (wa wg : Vec Ideal S1024x256 .bf16)
    (cg ca : Vec Ideal S3x256 .f32) (bg ba : Vec Ideal S1x256 .f32) (a : FVec Ideal S256x256 .bf16) (s : FVec Ideal S256x1024 .f32)
    (w w' : Vec Ideal S256x1024 .bf16) :
    k0_pay79 g x (k0_pay70 H wa) a s (k0_pay77 (k0_pay71 H wg) cg) (k0_pay78 bg) ca ba w w'
      = RES x g (addf (addf s (DN a w)) (DN (ACT (CV (UP H wa) ca ba) (CV (UP H wg) cg bg)) w')) := rfl

theorem body (i : grid0.Coords) (x0 : Vec Ideal S1x8x1024 .f32) (x1 : Vec Ideal S1x256x1024 .f32) (x2 : Vec Ideal S1x8x1024 .f32)
    (x3 : Vec Ideal S1x6x1024 .f32) (x4 : Vec Ideal S1x1024 .f32) (x5 : Vec Ideal S1024x5632 .bf16) (x6 : Vec Ideal S3x5632 .f32) (x7 : Vec Ideal S1x5632 .f32) (x8 : Vec Ideal S2816x1024 .bf16) :
    out0_9 i x0 x1 x2 x3 x4 x5 x6 x7 x8
      = View.canon [⟨r0_3, Cert.Kernel2Ideal.Gen.k0_pay1 (RES (Cert.Kernel2Ideal.Gen.k0_pay5 (View.ld x1 Cert.Kernel2Ideal.Gen.r0_3)) (Cert.Kernel2Ideal.Gen.k0_pay4 (View.ld x3 Cert.Kernel2Ideal.Gen.r0_2))
          (ACC (ROWS (UPV (i 1).val) (DNV (i 1).val) x0 x1 x2 x3 x4) x5 x6 x7 x8))⟩] := by
  unfold out0_9 k0_pay88 k0_pay89 k0_pay90 k0_pay91 k0_pay92 k0_pay93
  rw [last, acc76, acc69, acc62, acc56, acc48, acc43, acc37, acc31, acc24, act0, act1, act2, act3, act4, act5, act6, act7, act8, act9]
  rfl

end Cert.Kernel3Ideal.Ffn

end
-- ==== Proof.Ffn3Host.lean ====
/-
  The operands of the first layer's call of the convolutional MLP, as the host prepares them, and its blocks at a grid
  point: seventeen tiles of tokens, the first of them the context.
-/
module

public import proofs.«01_k».proof.Proof.Ffn3Body
public import Idealize.ShloMosaic.Lib.Claim

@[expose] public section

set_option maxRecDepth 16384

noncomputable section

namespace Cert.Kernel3Ideal.Ffn

open Idealize.ShloMosaic Idealize.ShloMosaic.TcCoe Idealize.SL.Sem
open Idealize.ShloMosaic.Pipeline (Dat)
open Cert.Kernel3Ideal Cert.Kernel3Ideal.Gen

variable (m : (ℓ : Loc nD τ sig) → Buf (Elt Ideal) ℓ)

theorem mod_at (c : Dev nD) (b : Fin 8) (r : Fin 6) (k : Fin 1024) :
    V m c main_v9 (ix3 (⟨(b : ℕ) * 2 + 1, by omega⟩ : Fin 16) r k)
      = (show EReal from m ((c : Thread nD τ).loc main_arg1) (ix2 b (⟨(r : ℕ) * 1024 + k, by omega⟩ : Fin 6144))) := by
  unfold V
  entry_read
  pointwise
  have h : ¬((b : ℕ) * 2 + 1) % 2 < 1 := by omega
  rw [dif_neg h]

theorem ctx_at (c : Dev nD) (b : Fin 8) (r : Fin 6) (k : Fin 1024) :
    V m c main_v9 (ix3 (⟨(b : ℕ) * 2, by omega⟩ : Fin 16) r k)
      = (show EReal from m ((c : Thread nD τ).loc main_arg2) (ix1 (⟨(r : ℕ) * 1024 + k, by omega⟩ : Fin 6144))) := by
  unfold V
  entry_read
  pointwise
  have h : (b : ℕ) * 2 % 2 < 1 := by omega
  rw [dif_pos h]

theorem up_at (c : Dev nD) (k : Fin 1024) (j : Fin 5632) :
    V m c main_v6 (ix2 k j) = (show EReal from m ((c : Thread nD τ).loc main_arg4) (ix2 k j)) := by
  unfold V
  entry_read
  pointwise

theorem bias_at (c : Dev nD) (j : Fin 5632) :
    V m c main_v7 (ix2 (0 : Fin 1) j) = (show EReal from m ((c : Thread nD τ).loc main_arg6) (ix1 j)) := by
  unfold V
  entry_read
  pointwise

theorem down_at (c : Dev nD) (f : Fin 2816) (n : Fin 1024) :
    V m c main_v8 (ix2 f n) = (show EReal from m ((c : Thread nD τ).loc main_arg7) (ix2 f n)) := by
  unfold V
  entry_read
  pointwise

theorem norm_at (c : Dev nD) (k : Fin 1024) :
    V m c main_v10 (ix2 (0 : Fin 1) k) = (show EReal from m ((c : Thread nD τ).loc main_arg3) (ix1 k)) := by
  unfold V
  entry_read
  pointwise

/-- The blocks of the windows, at every grid point. -/
theorem idx : ∀ t : Fin cfg0.N, win0_0.index t = ![t.val / 17, t.val % 17 * 32 - 1, 0]
    ∧ win0_1.index t = ![t.val / 17, t.val % 17, 0] ∧ win0_2.index t = ![t.val / 17, min (t.val % 17 * 32 + 32) 543, 0]
    ∧ win0_3.index t = ![t.val / 17 * 2 + min 1 (t.val % 17), 0, 0] ∧ win0_4.index t = ![0, 0] ∧ win0_5.index t = ![0, 0] ∧ win0_6.index t = ![0, 0]
    ∧ win0_7.index t = ![0, 0] ∧ win0_8.index t = ![0, 0] ∧ win0_9.index t = ![t.val / 17, t.val % 17, 0] ∧ t.val < 136 :=
  (by decide +kernel : ∀ t : Fin grid0.N, _)

/-- The sequence and tile of a grid point. -/
def tb (t : Fin cfg0.N) : Fin 8 := ⟨t.val / 17, by have := (idx t).2.2.2.2.2.2.2.2.2.2; omega⟩
def tj (t : Fin cfg0.N) : Fin 17 := ⟨t.val % 17, by omega⟩

theorem coord : ∀ t : Fin cfg0.N, ((grid0.coords t) 1).val = t.val % 17 :=
  (by decide +kernel : ∀ t : Fin grid0.N, _)

theorem iblk0 (c : Dev nD) (t : Fin cfg0.N) (h : ¬t.val % 17 = 0) (k : Fin 1024) : iblk m c 0 t (ix3 (0 : Fin 1) (7 : Fin 8) k)
    = m ((c : Thread nD τ).loc main_arg0) (ix3 (tb t) (⟨t.val % 17 * 256 - 1, by omega⟩ : Fin 4352) k) := by
  unfold tb
  blk_ext [iblk, V, idx t]

theorem iblk1 (c : Dev nD) (t : Fin cfg0.N) (p : Fin 256) (k : Fin 1024) : iblk m c 1 t (ix3 (0 : Fin 1) p k)
    = m ((c : Thread nD τ).loc main_arg0) (ix3 (tb t) (⟨t.val % 17 * 256 + (p : ℕ), by omega⟩ : Fin 4352) k) := by
  unfold tb
  blk_ext [iblk, V, idx t]

theorem iblk2 (c : Dev nD) (t : Fin cfg0.N) (h : ¬t.val % 17 = 16) (k : Fin 1024) : iblk m c 2 t (ix3 (0 : Fin 1) (0 : Fin 8) k)
    = m ((c : Thread nD τ).loc main_arg0) (ix3 (tb t) (⟨t.val % 17 * 256 + 256, by omega⟩ : Fin 4352) k) := by
  unfold tb
  blk_ext [iblk, V, idx t]

theorem iblk3 (c : Dev nD) (t : Fin cfg0.N) (h : ¬t.val % 17 = 0) (r : Fin 6) (k : Fin 1024) : iblk m c 3 t (ix3 (0 : Fin 1) r k)
    = (show EReal from m ((c : Thread nD τ).loc main_arg1) (ix2 (tb t) (⟨(r : ℕ) * 1024 + k, by omega⟩ : Fin 6144))) := by
  have e : min 1 (t.val % 17) = 1 := by omega
  refine Eq.trans ?_ (mod_at m c (tb t) r k)
  unfold tb
  blk_ext [iblk, idx t, e]

theorem iblk3c (c : Dev nD) (t : Fin cfg0.N) (h : t.val % 17 = 0) (r : Fin 6) (k : Fin 1024) : iblk m c 3 t (ix3 (0 : Fin 1) r k)
    = (show EReal from m ((c : Thread nD τ).loc main_arg2) (ix1 (⟨(r : ℕ) * 1024 + k, by omega⟩ : Fin 6144))) := by
  have e : min 1 (t.val % 17) = 0 := by omega
  refine Eq.trans ?_ (ctx_at m c (tb t) r k)
  unfold tb
  blk_ext [iblk, idx t, e]

theorem iblk4 (c : Dev nD) (t : Fin cfg0.N) (k : Fin 1024) : iblk m c 4 t (ix2 (0 : Fin 1) k)
    = (show EReal from m ((c : Thread nD τ).loc main_arg3) (ix1 k)) := by
  refine Eq.trans ?_ (norm_at m c k)
  blk_ext [iblk, idx t]

theorem iblk5 (c : Dev nD) (t : Fin cfg0.N) (k : Fin 1024) (j : Fin 5632) : iblk m c 5 t (ix2 k j)
    = (show EReal from m ((c : Thread nD τ).loc main_arg4) (ix2 k j)) := by
  refine Eq.trans ?_ (up_at m c k j)
  blk_ext [iblk, idx t]

theorem iblk6 (c : Dev nD) (t : Fin cfg0.N) (k : Fin 3) (j : Fin 5632) : iblk m c 6 t (ix2 k j)
    = (show EReal from m ((c : Thread nD τ).loc main_arg5) (ix2 k j)) := by
  blk_ext [iblk, V, idx t]

theorem iblk7 (c : Dev nD) (t : Fin cfg0.N) (j : Fin 5632) : iblk m c 7 t (ix2 (0 : Fin 1) j)
    = (show EReal from m ((c : Thread nD τ).loc main_arg6) (ix1 j)) := by
  refine Eq.trans ?_ (bias_at m c j)
  blk_ext [iblk, idx t]

theorem iblk8 (c : Dev nD) (t : Fin cfg0.N) (f : Fin 2816) (n : Fin 1024) : iblk m c 8 t (ix2 f n)
    = (show EReal from m ((c : Thread nD τ).loc main_arg7) (ix2 f n)) := by
  refine Eq.trans ?_ (down_at m c f n)
  blk_ext [iblk, idx t]

end Cert.Kernel3Ideal.Ffn

end
-- ==== Proof.Ffn3Arr.lean ====
/-
  The result array of the first layer's call of the convolutional MLP, over the arrays it is given.
-/
module

public import proofs.«01_k».proof.Proof.Ffn3Host

@[expose] public section

set_option maxRecDepth 16384

noncomputable section

namespace Cert.Kernel3Ideal.Ffn

open Idealize.ShloMosaic Idealize.ShloMosaic.TcCoe Idealize.SL.Sem
open Idealize.ShloMosaic.Pipeline (Dat)
open Cert.Kernel3Ideal Cert.Kernel3Ideal.Gen
open Cert.Kernel2Ideal (S8x4096x1024)
open Cert.Kernel2Ideal.Ffn (UP CV ACT DN PART RES ACC nrm nrm_congr row_at tile_at halo_at weight_at pay12_at pay8_at pay9_at pay1_at RES_at ACC_at AG AG_shift HX HN OX)

/-- The tile above holds tokens of the same kind except at the context and at the first latent tile; the tile below except at
    the context and at the last tile. -/
theorem has_prev : ∀ j : Fin 17, UPV j.val = 1#1 ↔ ¬(j.val = 0 ∨ j.val = 1) := by decide +kernel

theorem has_next : ∀ j : Fin 17, DNV j.val = 1#1 ↔ ¬(j.val = 0 ∨ j.val = 16) := by decide +kernel

section
variable (v v' : BitVec 1) (x0 : Vec Ideal S1x8x1024 .f32) (x1 : Vec Ideal S1x256x1024 .f32) (x2 : Vec Ideal S1x8x1024 .f32)
  (x3 : Vec Ideal S1x6x1024 .f32) (x4 : Vec Ideal S1x1024 .f32)

/-- A row normalized and modulated by the blocks of weights. -/
def NR (x : Fin 1024 → EReal) (k : Fin 1024) : EReal :=
  nrm x (fun j => x4 (ix2 (0 : Fin 1) j)) (fun j => x3 (ix3 (0 : Fin 1) (4 : Fin 6) j)) (fun j => x3 (ix3 (0 : Fin 1) (3 : Fin 6) j)) k

/-- The rows a tile is computed from: its tokens, the token before and the token after. -/
theorem rows_at (h : ℕ → Fin 1024 → EReal)
    (hp : v = 1#1 → ∀ k, h 0 k = NR x3 x4 (fun j => x0 (ix3 (0 : Fin 1) (7 : Fin 8) j)) k) (hp' : ¬v = 1#1 → ∀ k, h 0 k = 0)
    (hm : ∀ (p : Fin 256) (k : Fin 1024), h ((p : ℕ) + 1) k = NR x3 x4 (fun j => x1 (ix3 (0 : Fin 1) p j)) k)
    (hn : v' = 1#1 → ∀ k, h 257 k = NR x3 x4 (fun j => x2 (ix3 (0 : Fin 1) (0 : Fin 8) j)) k) (hn' : ¬v' = 1#1 → ∀ k, h 257 k = 0)
    (q : Fin 258) (r : Fin 272) (k : Fin 1024) (hr : (r : ℕ) = 7 + q) :
    ROWS v v' x0 x1 x2 x3 x4 (ix2 r k) = h q k := by
  have er : r = (⟨7 + (q : ℕ), by omega⟩ : Fin 272) := Fin.ext hr
  rw [er]
  unfold ROWS
  refine (pay12_at _ _ _ _ _ _ _ _ _ k).trans ?_
  have hw := weight_at x4
  have hsc := fun k => (row_at x3 k).2.1
  have hsh := fun k => (row_at x3 k).1
  by_cases a : (q : ℕ) = 0
  · have e8 : 7 + (q : ℕ) < 8 := by omega
    rw [dif_pos e8]
    refine Eq.trans ?_ (congrArg (fun i => h i k) a.symm)
    refine (pay8_at _ _ _ _ _ _ k).trans ?_
    by_cases z : v = 1#1
    · rw [if_pos z]
      refine Eq.trans ?_ (hp z k).symm
      refine nrm_congr (fun k => ?_) hw hsc hsh k
      have e : (⟨7 + (q : ℕ), e8⟩ : Fin 8) = 7 := Fin.ext (by simp only <;> omega)
      exact (halo_at x0 _ k).trans (congrArg (fun r : Fin 8 => x0 (ix3 (0 : Fin 1) r k)) e)
    · rw [if_neg z]
      exact (hp' z k).symm
  · have e8 : ¬7 + (q : ℕ) < 8 := by omega
    rw [dif_neg e8]
    by_cases d : (q : ℕ) = 257
    · have e9 : ¬7 + (q : ℕ) - 8 < 256 := by omega
      rw [dif_neg e9]
      refine Eq.trans ?_ (congrArg (fun i => h i k) d.symm)
      refine (pay8_at _ _ _ _ _ _ k).trans ?_
      by_cases z : v' = 1#1
      · rw [if_pos z]
        refine Eq.trans ?_ (hn z k).symm
        refine nrm_congr (fun k => ?_) hw hsc hsh k
        have e : (⟨7 + (q : ℕ) - 8 - 256, by omega⟩ : Fin 8) = 0 := Fin.ext (by simp only [Fin.val_zero] <;> omega)
        exact (halo_at x2 _ k).trans (congrArg (fun r : Fin 8 => x2 (ix3 (0 : Fin 1) r k)) e)
      · rw [if_neg z]
        exact (hn' z k).symm
    · have e9 : 7 + (q : ℕ) - 8 < 256 := by omega
      rw [dif_pos e9]
      have eq : (q : ℕ) = ((⟨7 + (q : ℕ) - 8, e9⟩ : Fin 256) : ℕ) + 1 := by simp only <;> omega
      refine ((pay9_at _ _ _ _ _ k).trans ?_).trans (congrArg (fun i => h i k) eq.symm)
      rw [hm]
      exact nrm_congr (fun k => tile_at x1 _ k) hw hsc hsh k

end

section
variable (X : FVec Ideal S8x4352x1024 .f32) (M : FVec Ideal S8x6144 .f32) (C : FVec Ideal S6144 .f32) (nw : FVec Ideal S1024 .f32)
  (wu : FVec Ideal S1024x5632 .f32) (cw : FVec Ideal S3x5632 .f32) (cb : FVec Ideal S5632 .f32) (wd : FVec Ideal S2816x1024 .f32)

/-- The latent tokens. -/
def LAT : FVec Ideal S8x4096x1024 .f32 := fun i => X (ix3 (i 0) (⟨256 + (i 1 : ℕ), by have h : (i 1 : ℕ) < 4096 := (i 1).isLt; omega⟩ : Fin 4352) (i 2))

/-- The context tokens, normalized and modulated, with a row of zeros before the first and one after the last. -/
def HC (b : Fin 8) (i : ℕ) (k : Fin 1024) : EReal :=
  if h : 1 ≤ i ∧ i - 1 < 256 then
    nrm (fun j => X (ix3 b (⟨i - 1, by omega⟩ : Fin 4352) j)) (fun j => nw (ix1 j)) (fun j => C (ix1 (⟨4096 + (j : ℕ), by omega⟩ : Fin 6144)))
      (fun j => C (ix1 (⟨3072 + (j : ℕ), by omega⟩ : Fin 6144))) k
  else 0

/-- The result at a context token. -/
def OC (b : Fin 8) (l : Fin 256) (n : Fin 1024) : EReal :=
  X (ix3 b (⟨(l : ℕ), by omega⟩ : Fin 4352) n) + C (ix1 (⟨5120 + (n : ℕ), by omega⟩ : Fin 6144)) * ∑ f : Fin 2816, AG (HC X C nw b) wu cw cb l f * wd (ix2 f n)

/-- The result: the context tokens, then the latent tokens. -/
def OA (b : Fin 8) (l : Fin 4352) (n : Fin 1024) : EReal :=
  if h : (l : ℕ) < 256 then OC X C nw wu cw cb wd b ⟨l, h⟩ n
  else OX (LAT X) M nw wu cw cb wd b (⟨(l : ℕ) - 256, by omega⟩ : Fin 4096) n

def OAF : FVec Ideal S8x4352x1024 .f32 := fun i => OA X M C nw wu cw cb wd (i 0) (i 1) (i 2)

end

variable (m : (ℓ : Loc nD τ sig) → Buf (Elt Ideal) ℓ)

section
variable (c : Dev nD) (t : Fin cfg0.N) (X : FVec Ideal S8x4352x1024 .f32) (M : FVec Ideal S8x6144 .f32) (C : FVec Ideal S6144 .f32)
  (nw : FVec Ideal S1024 .f32) (wu : FVec Ideal S1024x5632 .f32) (cw : FVec Ideal S3x5632 .f32) (cb : FVec Ideal S5632 .f32)
  (wd : FVec Ideal S2816x1024 .f32)
  (eX : m ((c : Thread nD τ).loc main_arg0) = X) (eM : m ((c : Thread nD τ).loc main_arg1) = M) (eC : m ((c : Thread nD τ).loc main_arg2) = C)
  (en : m ((c : Thread nD τ).loc main_arg3) = nw)
  (eu : m ((c : Thread nD τ).loc main_arg4) = wu) (ew : m ((c : Thread nD τ).loc main_arg5) = cw) (eb : m ((c : Thread nD τ).loc main_arg6) = cb)
  (ed : m ((c : Thread nD τ).loc main_arg7) = wd)

include eX eM eC en

theorem rows_ctx (hj : t.val % 17 = 0) (q : Fin 258) (r : Fin 272) (k : Fin 1024) (hr : (r : ℕ) = 7 + q) :
    ROWS (UPV (t.val % 17)) (DNV (t.val % 17)) (iblk m c 0 t) (iblk m c 1 t) (iblk m c 2 t) (iblk m c 3 t) (iblk m c 4 t) (ix2 r k)
      = HC X C nw (tb t) q k := by
  subst eX eM eC en
  refine rows_at _ _ _ _ _ _ _ (HC _ _ _ (tb t)) (fun z => ?_) (fun _ k => ?_) (fun p k => ?_) (fun z => ?_) (fun _ k => ?_) q r k hr
  · exact absurd (Or.inl hj) ((has_prev (tj t)).mp z)
  · unfold HC
    rw [dif_neg (by omega)]
  · have n1 : 1 ≤ (p : ℕ) + 1 ∧ (p : ℕ) + 1 - 1 < 256 := by omega
    unfold HC NR
    rw [dif_pos n1]
    refine nrm_congr (fun k => ?_) (fun k => (iblk4 m c t k).symm) (fun k => (iblk3c m c t hj 4 k).symm) (fun k => (iblk3c m c t hj 3 k).symm) k
    refine Eq.trans ?_ (iblk1 m c t p k).symm
    refine congrArg (fun l : Fin 4352 => m ((c : Thread nD τ).loc main_arg0) (ix3 (tb t) l k)) (Fin.ext ?_)
    simp only <;> omega
  · exact absurd (Or.inl hj) ((has_next (tj t)).mp z)
  · unfold HC
    rw [dif_neg (by omega)]

theorem rows_lat (hj : ¬t.val % 17 = 0) (q : Fin 258) (r : Fin 272) (k : Fin 1024) (hr : (r : ℕ) = 7 + q) :
    ROWS (UPV (t.val % 17)) (DNV (t.val % 17)) (iblk m c 0 t) (iblk m c 1 t) (iblk m c 2 t) (iblk m c 3 t) (iblk m c 4 t) (ix2 r k)
      = HX (LAT X) M nw (tb t) ((t.val % 17 - 1) * 256 + q) k := by
  subst eX eM eC en
  refine rows_at _ _ _ _ _ _ _ (fun i => HX (LAT _) _ _ (tb t) ((t.val % 17 - 1) * 256 + i)) (fun z k => ?_) (fun z k => ?_) (fun p k => ?_)
    (fun z k => ?_) (fun z k => ?_) q r k hr
  · have y := (has_prev (tj t)).mp z
    unfold tj at y
    simp only at y
    have n1 : 1 ≤ (t.val % 17 - 1) * 256 + 0 ∧ (t.val % 17 - 1) * 256 + 0 - 1 < 4096 := by omega
    unfold HX HN NR LAT
    simp only
    rw [dif_pos n1]
    refine nrm_congr (fun k => ?_) (fun k => (iblk4 m c t k).symm) (fun k => (iblk3 m c t hj 4 k).symm) (fun k => (iblk3 m c t hj 3 k).symm) k
    refine Eq.trans ?_ (iblk0 m c t hj k).symm
    refine congrArg (fun l : Fin 4352 => m ((c : Thread nD τ).loc main_arg0) (ix3 (tb t) l k)) (Fin.ext ?_)
    simp only [ix3]
    show 256 + ((t.val % 17 - 1) * 256 + 0 - 1) = _
    omega
  · have y : t.val % 17 = 0 ∨ t.val % 17 = 1 := by
      by_contra g
      exact z ((has_prev (tj t)).mpr g)
    unfold HX
    rw [dif_neg (by omega)]
  · have n1 : 1 ≤ (t.val % 17 - 1) * 256 + ((p : ℕ) + 1) ∧ (t.val % 17 - 1) * 256 + ((p : ℕ) + 1) - 1 < 4096 := by omega
    unfold HX HN NR LAT
    simp only
    rw [dif_pos n1]
    refine nrm_congr (fun k => ?_) (fun k => (iblk4 m c t k).symm) (fun k => (iblk3 m c t hj 4 k).symm) (fun k => (iblk3 m c t hj 3 k).symm) k
    refine Eq.trans ?_ (iblk1 m c t p k).symm
    refine congrArg (fun l : Fin 4352 => m ((c : Thread nD τ).loc main_arg0) (ix3 (tb t) l k)) (Fin.ext ?_)
    show 256 + ((t.val % 17 - 1) * 256 + ((p : ℕ) + 1) - 1) = _
    simp only
    omega
  · have y := (has_next (tj t)).mp z
    unfold tj at y
    simp only at y
    have n1 : 1 ≤ (t.val % 17 - 1) * 256 + 257 ∧ (t.val % 17 - 1) * 256 + 257 - 1 < 4096 := by omega
    unfold HX HN NR LAT
    simp only
    rw [dif_pos n1]
    refine nrm_congr (fun k => ?_) (fun k => (iblk4 m c t k).symm) (fun k => (iblk3 m c t hj 4 k).symm) (fun k => (iblk3 m c t hj 3 k).symm) k
    refine Eq.trans ?_ (iblk2 m c t (by omega) k).symm
    refine congrArg (fun l : Fin 4352 => m ((c : Thread nD τ).loc main_arg0) (ix3 (tb t) l k)) (Fin.ext ?_)
    show 256 + ((t.val % 17 - 1) * 256 + 257 - 1) = _
    simp only
    omega
  · have y : t.val % 17 = 0 ∨ t.val % 17 = 16 := by
      by_contra g
      exact z ((has_next (tj t)).mpr g)
    unfold HX
    rw [dif_neg (by omega)]

include eu ew eb ed

theorem block (p : Fin 256) (n : Fin 1024) (l : Fin 4352) (hl : (l : ℕ) = t.val % 17 * 256 + p) :
    RES (Cert.Kernel2Ideal.Gen.k0_pay5 (View.ld (iblk m c 1 t) Cert.Kernel2Ideal.Gen.r0_3))
        (Cert.Kernel2Ideal.Gen.k0_pay4 (View.ld (iblk m c 3 t) Cert.Kernel2Ideal.Gen.r0_2))
        (ACC (ROWS (UPV (t.val % 17)) (DNV (t.val % 17)) (iblk m c 0 t) (iblk m c 1 t) (iblk m c 2 t) (iblk m c 3 t) (iblk m c 4 t))
          (iblk m c 5 t) (iblk m c 6 t) (iblk m c 7 t) (iblk m c 8 t)) (ix2 p n)
      = OA X M C nw wu cw cb wd (tb t) l n := by
  refine (RES_at _ _ _ p n).trans ?_
  have e : l = (⟨t.val % 17 * 256 + (p : ℕ), by omega⟩ : Fin 4352) := Fin.ext hl
  have e1 : Cert.Kernel2Ideal.Gen.k0_pay5 (View.ld (iblk m c 1 t) Cert.Kernel2Ideal.Gen.r0_3) (ix2 p n) = X (ix3 (tb t) l n) := by
    rw [e, ← eX]
    exact (tile_at (iblk m c 1 t) p n).trans (iblk1 m c t p n)
  unfold OA
  by_cases hj : t.val % 17 = 0
  · have hl' : (l : ℕ) < 256 := by omega
    rw [dif_pos hl']
    unfold OC
    refine congrArg₂ (fun a d : EReal => a + d) e1 (congrArg₂ (fun a d : EReal => a * d) ?_ ?_)
    · rw [← eC]
      exact (row_at (iblk m c 3 t) n).2.2.trans (iblk3c m c t hj 5 n)
    · have ep : (⟨(l : ℕ), hl'⟩ : Fin 256) = p := Fin.ext (by simp only; omega)
      rw [ep]
      exact ACC_at (HC X C nw (tb t)) wu cw cb wd _ (iblk m c 5 t) (iblk m c 6 t) (iblk m c 7 t) (iblk m c 8 t)
        (rows_ctx m c t X M C nw eX eM eC en hj)
        (eu ▸ iblk5 m c t) (ew ▸ iblk6 m c t) (eb ▸ iblk7 m c t) (ed ▸ iblk8 m c t) p n
  · have hl' : ¬(l : ℕ) < 256 := by omega
    rw [dif_neg hl']
    unfold OX
    refine congrArg₂ (fun a d : EReal => a + d) (e1.trans ?_) (congrArg₂ (fun a d : EReal => a * d) ?_ ?_)
    · refine congrArg (fun l : Fin 4352 => X (ix3 (tb t) l n)) (Fin.ext ?_)
      show (l : ℕ) = 256 + ((l : ℕ) - 256)
      omega
    · rw [← eM]
      exact (row_at (iblk m c 3 t) n).2.2.trans (iblk3 m c t hj 5 n)
    · have ep : (l : ℕ) - 256 = (t.val % 17 - 1) * 256 + p := by omega
      simp only
      rw [ep]
      exact ACC_at (fun i => HX (LAT X) M nw (tb t) ((t.val % 17 - 1) * 256 + i)) wu cw cb wd _ (iblk m c 5 t) (iblk m c 6 t) (iblk m c 7 t) (iblk m c 8 t)
        (rows_lat m c t X M C nw eX eM eC en hj)
        (eu ▸ iblk5 m c t) (ew ▸ iblk6 m c t) (eb ▸ iblk7 m c t) (ed ▸ iblk8 m c t) p n

end

theorem final (c : Dev nD) (X : FVec Ideal S8x4352x1024 .f32) (M : FVec Ideal S8x6144 .f32) (C : FVec Ideal S6144 .f32)
    (nw : FVec Ideal S1024 .f32) (wu : FVec Ideal S1024x5632 .f32) (cw : FVec Ideal S3x5632 .f32) (cb : FVec Ideal S5632 .f32)
    (wd : FVec Ideal S2816x1024 .f32)
    (eX : m ((c : Thread nD τ).loc main_arg0) = X) (eM : m ((c : Thread nD τ).loc main_arg1) = M) (eC : m ((c : Thread nD τ).loc main_arg2) = C)
    (en : m ((c : Thread nD τ).loc main_arg3) = nw)
    (eu : m ((c : Thread nD τ).loc main_arg4) = wu) (ew : m ((c : Thread nD τ).loc main_arg5) = cw) (eb : m ((c : Thread nD τ).loc main_arg6) = cb)
    (ed : m ((c : Thread nD τ).loc main_arg7) = wd) : (dats m 0 c).arrAt 9 (cfgs 0).N = OAF X M C nw wu cw cb wd := by
  refine (dats m 0 c).arrAt_eq_of_covers 9 _ (by decide +kernel) fun t _ y => ?_
  blk_simp
  rw [after0_9, body, View.canon_unit_zero (by funext a; fin_cases a <;> rfl), pay1_at, coord t]
  unfold OAF
  refine (block m c t X M C nw wu cw cb wd eX eM eC en eu ew eb ed (y 1) (y 2)
    (⟨t.val % 17 * 256 + (y 1 : ℕ), by have h : (y 1 : ℕ) < 256 := (y 1).isLt; omega⟩ : Fin 4352) rfl).trans ?_
  refine congr (congrArg₂ (OA X M C nw wu cw cb wd) ?_ ?_) ?_
  · apply Fin.ext
    blk_simp [idx t, tb]
  · apply Fin.ext
    blk_simp [idx t]
  · apply Fin.ext
    blk_simp [idx t]

end Cert.Kernel3Ideal.Ffn

end
-- ==== Proof.Ffn3Ref.lean ====
/-
  The reference of the first layer's convolutional MLP at an index: the context tokens' half.
-/
module

public import proofs.«01_k».proof.Proof.Gen.Reference3Ideal
public import Idealize.ShloMosaic.Lib.KernelVsHost
public import Idealize.ShloMosaic.Lib.Pointwise

@[expose] public section

set_option maxRecDepth 16384

noncomputable section

namespace Cert.Reference3Ideal.Ffn

open Idealize.ShloMosaic Idealize.ShloMosaic.TcCoe Idealize.SL.Sem
open Cert.Reference3Ideal Cert.Reference3Ideal.Gen

/-- The root mean square's reciprocal. -/
def RS (x : FVec Ideal S8x256x1024 .f32) : FVec Ideal S8x256x1 .f32 :=
  Host.rsqrt (addf (Host.divf (broadcastInDim S8x256x1 ![0, 1] bcast_S8x256_S8x256x1_0_1 (Host.reduceAdd (mulf x x) (constant S_ .f32 0x00000000#32) reducesTo_S8x256x1024_S8x256_d2 h_S_)) (broadcastInDim S8x256x1 ![] bcast_S_S8x256x1 (constant S_ .f32 0x44800000#32))) (broadcastInDim S8x256x1 ![] bcast_S_S8x256x1 (constant S_ .f32 0x358637BD#32)))

theorem RS_at (x : FVec Ideal S8x256x1024 .f32) (b : Fin 8) (l : Fin 256) :
    RS x (ix3 b l (0 : Fin 1))
      = Ideal.rsqrt (Ideal.div (∑ j : Fin 1024, (x (ix3 b l j) : EReal) * x (ix3 b l j)) (Ideal.ofBits .f32 0x44800000#32) + Ideal.ofBits .f32 0x358637BD#32) := by
  pointwise [RS]

/-- The normalized and modulated tokens. -/
def HR (x : FVec Ideal S8x256x1024 .f32) (C : FVec Ideal S6144 .f32) (nw : FVec Ideal S1024 .f32) : FVec Ideal S8x256x1024 .f32 :=
  addf (mulf (mulf (mulf x (broadcastInDim S8x256x1024 ![0, 1, 2] bcast_S8x256x1_S8x256x1024_0_1_2 (RS x)))
      (broadcastInDim S8x256x1024 ![0, 1, 2] bcast_S1x1x1024_S8x256x1024_0_1_2 (broadcastInDim S1x1x1024 ![2] bcast_S1024_S1x1x1024_2 nw)))
      (broadcastInDim S8x256x1024 ![0, 1, 2] bcast_S1x1x1024_S8x256x1024_0_1_2 (broadcastInDim S1x1x1024 ![2] bcast_S1024_S1x1x1024_2 (addf (broadcastInDim S1024 ![] bcast_S_S1024 (constant S_ .f32 0x3F800000#32)) (extractStridedSlice S1024 ![4096] C slices_S6144_S1024_4096)))))
    (broadcastInDim S8x256x1024 ![0, 1, 2] bcast_S1x1x1024_S8x256x1024_0_1_2 (broadcastInDim S1x1x1024 ![2] bcast_S1024_S1x1x1024_2 (extractStridedSlice S1024 ![3072] C slices_S6144_S1024_3072)))

theorem HR_at (x : FVec Ideal S8x256x1024 .f32) (C : FVec Ideal S6144 .f32) (nw : FVec Ideal S1024 .f32) (b : Fin 8) (l : Fin 256) (k : Fin 1024) :
    HR x C nw (ix3 b l k)
      = (x (ix3 b l k) : EReal) * RS x (ix3 b l (0 : Fin 1)) * nw (ix1 k) * (1 + C (ix1 (⟨4096 + (k : ℕ), by omega⟩ : Fin 6144)))
        + C (ix1 (⟨3072 + (k : ℕ), by omega⟩ : Fin 6144)) := by
  unfold HR
  generalize RS x = r
  pointwise

/-- The up projection. -/
def UR (h : FVec Ideal S8x256x1024 .f32) (wu : FVec Ideal S1024x5632 .f32) : FVec Ideal S8x256x5632 .f32 :=
  Host.dotGeneral dot_S8x256x1024_S1024x5632_S8x256x5632_2_0_01_1_n_n none h wu

theorem UR_at (h : FVec Ideal S8x256x1024 .f32) (wu : FVec Ideal S1024x5632 .f32) (b : Fin 8) (l : Fin 256) (c : Fin 5632) :
    UR h wu (ix3 b l c) = ∑ k : Fin 1024, (h (ix3 b l k) : EReal) * wu (ix2 k c) := by
  pointwise [UR]

/-- A token of zeros before the first and after the last. -/
def PR (u : FVec Ideal S8x256x5632 .f32) : FVec Ideal S8x258x5632 .f32 :=
  pad S8x258x5632 ![0, 1, 0] ![0, 1, 0] ![0, 0, 0] u (sitofp .f32 (constantI S_ 32 0#32)) pads_S8x256x5632_S8x258x5632_000_110_000 h_S_

theorem PR_at (u : FVec Ideal S8x256x5632 .f32) (b : Fin 8) (l : Fin 258) (c : Fin 5632) :
    PR u (ix3 b l c) = if h : 1 ≤ (l : ℕ) ∧ (l : ℕ) - 1 < 256 then (u (ix3 b (⟨(l : ℕ) - 1, h.2⟩ : Fin 256) c) : EReal) else 0 := by
  have z : (FloatOps.sitofp (F := Ideal) FTy.f32 0#32 : EReal) = 0 := by
    show ((((0#32 : BitVec 32).toInt : ℤ) : ℝ) : EReal) = 0
    simp
  pointwise [PR]
  rw [z]

/-- The depthwise convolution. -/
def CR (p : FVec Ideal S8x258x5632 .f32) (cw : FVec Ideal S3x5632 .f32) (cb : FVec Ideal S5632 .f32) : FVec Ideal S8x256x5632 .f32 :=
  addf (addf (addf
    (mulf (broadcastInDim S8x256x5632 ![0, 1, 2] bcast_S1x1x5632_S8x256x5632_0_1_2 (broadcastInDim S1x1x5632 ![2] bcast_S5632_S1x1x5632_2 (shapeCast S5632 (extractStridedSlice S1x5632 ![0, 0] cw slices_S3x5632_S1x5632_0_0) shapeCasts_S1x5632_S5632)))
      (extractStridedSlice S8x256x5632 ![0, 0, 0] p slices_S8x258x5632_S8x256x5632_0_0_0))
    (mulf (broadcastInDim S8x256x5632 ![0, 1, 2] bcast_S1x1x5632_S8x256x5632_0_1_2 (broadcastInDim S1x1x5632 ![2] bcast_S5632_S1x1x5632_2 (shapeCast S5632 (extractStridedSlice S1x5632 ![1, 0] cw slices_S3x5632_S1x5632_1_0) shapeCasts_S1x5632_S5632)))
      (extractStridedSlice S8x256x5632 ![0, 1, 0] p slices_S8x258x5632_S8x256x5632_0_1_0)))
    (mulf (broadcastInDim S8x256x5632 ![0, 1, 2] bcast_S1x1x5632_S8x256x5632_0_1_2 (broadcastInDim S1x1x5632 ![2] bcast_S5632_S1x1x5632_2 (shapeCast S5632 (extractStridedSlice S1x5632 ![2, 0] cw slices_S3x5632_S1x5632_2_0) shapeCasts_S1x5632_S5632)))
      (extractStridedSlice S8x256x5632 ![0, 2, 0] p slices_S8x258x5632_S8x256x5632_0_2_0)))
    (broadcastInDim S8x256x5632 ![0, 1, 2] bcast_S1x1x5632_S8x256x5632_0_1_2 (broadcastInDim S1x1x5632 ![2] bcast_S5632_S1x1x5632_2 cb))

theorem CR_at (p : FVec Ideal S8x258x5632 .f32) (cw : FVec Ideal S3x5632 .f32) (cb : FVec Ideal S5632 .f32) (b : Fin 8) (l : Fin 256) (c : Fin 5632) :
    CR p cw cb (ix3 b l c)
      = (cw (ix2 (0 : Fin 3) c) : EReal) * p (ix3 b (⟨(l : ℕ), by omega⟩ : Fin 258) c)
        + cw (ix2 (1 : Fin 3) c) * p (ix3 b (⟨1 + (l : ℕ), by omega⟩ : Fin 258) c)
        + cw (ix2 (2 : Fin 3) c) * p (ix3 b (⟨2 + (l : ℕ), by omega⟩ : Fin 258) c) + cb (ix1 c) := by
  pointwise [CR]

/-- The swish of the gates. -/
def SR (g : FVec Ideal S8x256x2816 .f32) : FVec Ideal S8x256x2816 .f32 := mulf g (Host.divf (broadcastInDim S8x256x2816 ![] bcast_S_S8x256x2816 (constant S_ .f32 0x3F800000#32)) (addf (broadcastInDim S8x256x2816 ![] bcast_S_S8x256x2816 (constant S_ .f32 0x3F800000#32)) (Host.exp (Host.negf g))))

theorem SR_at (g : FVec Ideal S8x256x2816 .f32) (b : Fin 8) (l : Fin 256) (f : Fin 2816) :
    SR g (ix3 b l f) = (g (ix3 b l f) : EReal) * Ideal.div 1 (1 + Ideal.exp (-(g (ix3 b l f) : EReal))) := by
  pointwise [SR]

/-- The gated hidden columns. -/
def AR (u : FVec Ideal S8x256x5632 .f32) : FVec Ideal S8x256x2816 .f32 :=
  mulf (extractStridedSlice S8x256x2816 ![0, 0, 0] u slices_S8x256x5632_S8x256x2816_0_0_0)
    (SR (extractStridedSlice S8x256x2816 ![0, 0, 2816] u slices_S8x256x5632_S8x256x2816_0_0_2816))

theorem AR_at (u : FVec Ideal S8x256x5632 .f32) (b : Fin 8) (l : Fin 256) (f : Fin 2816) :
    AR u (ix3 b l f) = (u (ix3 b l (⟨(f : ℕ), by omega⟩ : Fin 5632)) : EReal)
      * ((u (ix3 b l (⟨2816 + (f : ℕ), by omega⟩ : Fin 5632)) : EReal)
        * Ideal.div 1 (1 + Ideal.exp (-(u (ix3 b l (⟨2816 + (f : ℕ), by omega⟩ : Fin 5632)) : EReal)))) := by
  pointwise [AR, SR]

/-- The residual and the gated down projection. -/
def OR (x : FVec Ideal S8x256x1024 .f32) (C : FVec Ideal S6144 .f32) (a : FVec Ideal S8x256x2816 .f32) (wd : FVec Ideal S2816x1024 .f32) :
    FVec Ideal S8x256x1024 .f32 :=
  addf x (mulf (broadcastInDim S8x256x1024 ![0, 1, 2] bcast_S1x1x1024_S8x256x1024_0_1_2 (broadcastInDim S1x1x1024 ![2] bcast_S1024_S1x1x1024_2 (extractStridedSlice S1024 ![5120] C slices_S6144_S1024_5120)))
    (Host.dotGeneral dot_S8x256x2816_S2816x1024_S8x256x1024_2_0_01_1_n_n none a wd))

theorem OR_at (x : FVec Ideal S8x256x1024 .f32) (C : FVec Ideal S6144 .f32) (a : FVec Ideal S8x256x2816 .f32) (wd : FVec Ideal S2816x1024 .f32)
    (b : Fin 8) (l : Fin 256) (n : Fin 1024) :
    OR x C a wd (ix3 b l n) = (x (ix3 b l n) : EReal)
      + C (ix1 (⟨5120 + (n : ℕ), by omega⟩ : Fin 6144)) * ∑ f : Fin 2816, (a (ix3 b l f) : EReal) * wd (ix2 f n) := by
  pointwise [OR]

/-- The context tokens. -/
def CT (X : FVec Ideal S8x4352x1024 .f32) : FVec Ideal S8x256x1024 .f32 := extractStridedSlice S8x256x1024 ![0, 0, 0] X slices_S8x4352x1024_S8x256x1024_0_0_0

/-- The latent tokens. -/
def LT (X : FVec Ideal S8x4352x1024 .f32) : FVec Ideal S8x4096x1024 .f32 := extractStridedSlice S8x4096x1024 ![0, 256, 0] X slices_S8x4352x1024_S8x4096x1024_0_256_0

theorem CT_at (X : FVec Ideal S8x4352x1024 .f32) (b : Fin 8) (l : Fin 256) (k : Fin 1024) :
    CT X (ix3 b l k) = X (ix3 b (⟨(l : ℕ), by omega⟩ : Fin 4352) k) := by
  pointwise [CT]

theorem LT_at (X : FVec Ideal S8x4352x1024 .f32) (b : Fin 8) (l : Fin 4096) (k : Fin 1024) :
    LT X (ix3 b l k) = X (ix3 b (⟨256 + (l : ℕ), by omega⟩ : Fin 4352) k) := by
  pointwise [LT]

/-- The context tokens, then the latent tokens. -/
def CC (u : FVec Ideal S8x256x1024 .f32) (w : FVec Ideal S8x4096x1024 .f32) : FVec Ideal S8x4352x1024 .f32 :=
  concatenate S8x4352x1024 1 [⟨S8x256x1024, u⟩, ⟨S8x4096x1024, w⟩] concatenates_S8x256x1024_S8x4096x1024_S8x4352x1024_d1

theorem CC_at (u : FVec Ideal S8x256x1024 .f32) (w : FVec Ideal S8x4096x1024 .f32) (b : Fin 8) (l : Fin 4352) (k : Fin 1024) :
    CC u w (ix3 b l k) = if h : (l : ℕ) < 256 then u (ix3 b (⟨l, h⟩ : Fin 256) k) else w (ix3 b (⟨(l : ℕ) - 256, by omega⟩ : Fin 4096) k) := by
  pointwise [CC]

end Cert.Reference3Ideal.Ffn

end
-- ==== Proof.Ffn3Value.lean ====
/-
  The run of the first layer's convolutional MLP, and its equality with the reference.
-/
module

public import proofs.«01_k».proof.Proof.Ffn3Arr
public import proofs.«01_k».proof.Proof.Ffn3Ref
public import proofs.«01_k».proof.Proof.FfnValue

@[expose] public section

set_option maxRecDepth 16384

noncomputable section

namespace Cert.Kernel3Ideal.Ffn

open Idealize.ShloMosaic Idealize.ShloMosaic.TcCoe Idealize.SL.Sem
open Idealize.ShloMosaic.Pipeline (Dat)
open Cert.Kernel3Ideal Cert.Kernel3Ideal.Gen
open Cert.Kernel2Ideal.Ffn (nrm AG UG CG swish OX OXF)

section
variable (X : FVec Ideal S8x4352x1024 .f32) (M : FVec Ideal S8x6144 .f32) (C : FVec Ideal S6144 .f32) (nw : FVec Ideal S1024 .f32)
  (wu : FVec Ideal S1024x5632 .f32) (cw : FVec Ideal S3x5632 .f32) (cb : FVec Ideal S5632 .f32) (wd : FVec Ideal S2816x1024 .f32)

theorem ctx_norm_eq (b : Fin 8) (i : ℕ) (h : 1 ≤ i ∧ i - 1 < 256) (k : Fin 1024) :
    Cert.Reference3Ideal.Ffn.HR (Cert.Reference3Ideal.Ffn.CT X) C nw (ix3 b (⟨i - 1, h.2⟩ : Fin 256) k) = HC X C nw b i k := by
  refine (Cert.Reference3Ideal.Ffn.HR_at _ C nw b _ k).trans ?_
  rw [Cert.Reference3Ideal.Ffn.RS_at _ b _]
  unfold HC
  rw [dif_pos h]
  simp only [Cert.Reference3Ideal.Ffn.CT_at]
  rfl

/-- The padded up projection is the up projection of the padded tokens: a row of zeros projects to zero. -/
theorem ctx_up_eq (b : Fin 8) (i : Fin 258) (i' : ℕ) (hi : (i : ℕ) = i') (c : Fin 5632) :
    Cert.Reference3Ideal.Ffn.PR (Cert.Reference3Ideal.Ffn.UR (Cert.Reference3Ideal.Ffn.HR (Cert.Reference3Ideal.Ffn.CT X) C nw) wu) (ix3 b i c) = UG (HC X C nw b) wu i' c := by
  subst hi
  refine (Cert.Reference3Ideal.Ffn.PR_at _ b i c).trans ?_
  unfold UG
  by_cases h : 1 ≤ (i : ℕ) ∧ (i : ℕ) - 1 < 256
  · rw [dif_pos h]
    refine (Cert.Reference3Ideal.Ffn.UR_at _ wu b _ c).trans (Finset.sum_congr rfl fun k _ => ?_)
    exact congrArg (fun a : EReal => a * wu (ix2 k c)) (ctx_norm_eq X C nw b i h k)
  · rw [dif_neg h]
    refine (Finset.sum_eq_zero fun k _ => ?_).symm
    unfold HC
    rw [dif_neg h]
    exact zero_mul _

theorem ctx_conv_eq (b : Fin 8) (l : Fin 256) (c : Fin 5632) :
    Cert.Reference3Ideal.Ffn.CR (Cert.Reference3Ideal.Ffn.PR (Cert.Reference3Ideal.Ffn.UR (Cert.Reference3Ideal.Ffn.HR (Cert.Reference3Ideal.Ffn.CT X) C nw) wu)) cw cb (ix3 b l c) = CG (HC X C nw b) wu cw cb l c := by
  refine (Cert.Reference3Ideal.Ffn.CR_at _ cw cb b l c).trans ?_
  unfold CG
  refine congrArg (fun a : EReal => a + cb (ix1 c)) (congrArg₂ (fun a d : EReal => a + d) (congrArg₂ (fun a d : EReal => a + d) ?_ ?_) ?_)
  · exact congrArg (fun a : EReal => cw (ix2 (0 : Fin 3) c) * a) (ctx_up_eq X C nw wu b _ _ rfl c)
  · exact congrArg (fun a : EReal => cw (ix2 (1 : Fin 3) c) * a) (ctx_up_eq X C nw wu b _ _ (Nat.add_comm 1 _) c)
  · exact congrArg (fun a : EReal => cw (ix2 (2 : Fin 3) c) * a) (ctx_up_eq X C nw wu b _ _ (Nat.add_comm 2 _) c)

theorem ctx_eq (b : Fin 8) (l : Fin 256) (n : Fin 1024) : OC X C nw wu cw cb wd b l n
    = Cert.Reference3Ideal.Ffn.OR (Cert.Reference3Ideal.Ffn.CT X) C (Cert.Reference3Ideal.Ffn.AR (Cert.Reference3Ideal.Ffn.CR (Cert.Reference3Ideal.Ffn.PR (Cert.Reference3Ideal.Ffn.UR (Cert.Reference3Ideal.Ffn.HR (Cert.Reference3Ideal.Ffn.CT X) C nw) wu)) cw cb)) wd (ix3 b l n) := by
  refine Eq.trans ?_ (Cert.Reference3Ideal.Ffn.OR_at _ C _ wd b l n).symm
  unfold OC
  refine congrArg₂ (fun a d : EReal => a + C (ix1 (⟨5120 + (n : ℕ), by omega⟩ : Fin 6144)) * d) (Cert.Reference3Ideal.Ffn.CT_at X b l n).symm (Finset.sum_congr rfl fun f _ => ?_)
  refine congrArg (fun a : EReal => a * wd (ix2 f n)) ?_
  refine Eq.trans ?_ (Cert.Reference3Ideal.Ffn.AR_at _ b l f).symm
  rw [ctx_conv_eq X C nw wu cw cb, ctx_conv_eq X C nw wu cw cb]
  unfold AG swish
  rw [zero_sub]

theorem lat_eq : LAT X = Cert.Reference3Ideal.Ffn.LT X := by
  funext i
  idx_vars i
  exact (Cert.Reference3Ideal.Ffn.LT_at X i0 i1 i2).symm

theorem value_eq : OAF X M C nw wu cw cb wd
    = Cert.Reference3Ideal.Ffn.CC (Cert.Reference3Ideal.Ffn.OR (Cert.Reference3Ideal.Ffn.CT X) C (Cert.Reference3Ideal.Ffn.AR (Cert.Reference3Ideal.Ffn.CR (Cert.Reference3Ideal.Ffn.PR (Cert.Reference3Ideal.Ffn.UR (Cert.Reference3Ideal.Ffn.HR (Cert.Reference3Ideal.Ffn.CT X) C nw) wu)) cw cb)) wd) (Cert.Reference2Ideal.Ffn.OR (Cert.Reference3Ideal.Ffn.LT X) M
        (Cert.Reference2Ideal.Ffn.AR (Cert.Reference2Ideal.Ffn.CR (Cert.Reference2Ideal.Ffn.PR (Cert.Reference2Ideal.Ffn.UR
          (Cert.Reference2Ideal.Ffn.HR (Cert.Reference3Ideal.Ffn.LT X) M nw) wu)) cw cb)) wd) := by
  funext i
  idx_vars i
  refine Eq.trans ?_ (Cert.Reference3Ideal.Ffn.CC_at _ _ i0 i1 i2).symm
  show OA X M C nw wu cw cb wd i0 i1 i2 = _
  unfold OA
  by_cases h : (i1 : ℕ) < 256
  · rw [dif_pos h, dif_pos h]
    exact ctx_eq X C nw wu cw cb wd i0 _ i2
  · rw [dif_neg h, dif_neg h, ← lat_eq X, ← Cert.Kernel2Ideal.Ffn.value_eq]
    rfl

end

variable (m : (ℓ : Loc nD τ sig) → Buf (Elt Ideal) ℓ)

/-- The kernel program's run: the result over the arguments, and the arguments unchanged. -/
theorem kernel_run (g : Dev nD → PrngReg) :
    θ_run (Cert.Kernel3Ideal.defs (F := Ideal)) (onTc (τ := Cert.Kernel3Ideal.τ) (Cert.Kernel3Ideal.main (F := Ideal))) ⟨m, fun _ => 0, g⟩ (fun r => ∀ c : Dev nD,
          r.2.mem ((c.tc : Thread nD τ).loc main_v11) = OAF (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6))
            (m ((c.tc : Thread nD τ).loc main_arg7))
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4)
          ∧ r.2.mem ((c.tc : Thread nD τ).loc main_arg5) = m ((c.tc : Thread nD τ).loc main_arg5)
          ∧ r.2.mem ((c.tc : Thread nD τ).loc main_arg6) = m ((c.tc : Thread nD τ).loc main_arg6)
          ∧ r.2.mem ((c.tc : Thread nD τ).loc main_arg7) = m ((c.tc : Thread nD τ).loc main_arg7)) := by
  run_from Cert.Kernel3Ideal.Gen.run_main m g
  · exact final m c _ _ _ _ _ _ _ _ rfl rfl rfl rfl rfl rfl rfl rfl

end Cert.Kernel3Ideal.Ffn

end
-- ==== Proof.Ffn3Run.lean ====
/-
  The run of the first layer's convolutional MLP's reference, and the claim that the kernel program's result is the reference's.
-/
module

public import proofs.«01_k».proof.Defs
public import proofs.«01_k».proof.Proof.Ffn3Value
public import proofs.«01_k».proof.Proof.Gen.Reference3Ideal.Run

@[expose] public section

set_option maxRecDepth 16384

noncomputable section

namespace Cert.Reference3Ideal.Ffn

open Idealize.ShloMosaic Idealize.ShloMosaic.TcCoe Idealize.SL.Sem
open Cert.Reference3Ideal Cert.Reference3Ideal.Gen

/-- The context tokens' result over the arrays. -/
def CMLP (X : FVec Ideal S8x4352x1024 .f32) (C : FVec Ideal S6144 .f32) (nw : FVec Ideal S1024 .f32)
    (wu : FVec Ideal S1024x5632 .f32) (cw : FVec Ideal S3x5632 .f32) (cb : FVec Ideal S5632 .f32) (wd : FVec Ideal S2816x1024 .f32) : FVec Ideal S8x256x1024 .f32 :=
  OR (CT X) C (AR (CR (PR (UR (HR (CT X) C nw) wu)) cw cb)) wd

/-- The latent tokens' result over the arrays. -/
def LMLP (X : FVec Ideal S8x4352x1024 .f32) (M : FVec Ideal S8x6144 .f32) (nw : FVec Ideal S1024 .f32)
    (wu : FVec Ideal S1024x5632 .f32) (cw : FVec Ideal S3x5632 .f32) (cb : FVec Ideal S5632 .f32) (wd : FVec Ideal S2816x1024 .f32) : FVec Ideal S8x4096x1024 .f32 :=
  Cert.Reference2Ideal.Ffn.OR (LT X) M (Cert.Reference2Ideal.Ffn.AR (Cert.Reference2Ideal.Ffn.CR (Cert.Reference2Ideal.Ffn.PR (Cert.Reference2Ideal.Ffn.UR
    (Cert.Reference2Ideal.Ffn.HR (LT X) M nw) wu)) cw cb)) wd

theorem reference_run (m' : (ℓ : Loc nD τ sig) → Buf (Elt Ideal) ℓ) (g' : Dev nD → PrngReg)
    (X : Dev nD → FVec Ideal S8x4352x1024 .f32) (M : Dev nD → FVec Ideal S8x6144 .f32) (C : Dev nD → FVec Ideal S6144 .f32) (nw : Dev nD → FVec Ideal S1024 .f32)
    (wu : Dev nD → FVec Ideal S1024x5632 .f32) (cw : Dev nD → FVec Ideal S3x5632 .f32) (cb : Dev nD → FVec Ideal S5632 .f32)
    (wd : Dev nD → FVec Ideal S2816x1024 .f32)
    (h0 : ∀ c : Dev nD, m' ((c.tc : Thread nD τ).loc main_arg0) = X c) (h1 : ∀ c : Dev nD, m' ((c.tc : Thread nD τ).loc main_arg1) = M c)
    (h2 : ∀ c : Dev nD, m' ((c.tc : Thread nD τ).loc main_arg2) = C c) (h3 : ∀ c : Dev nD, m' ((c.tc : Thread nD τ).loc main_arg3) = nw c)
    (h4 : ∀ c : Dev nD, m' ((c.tc : Thread nD τ).loc main_arg4) = wu c)
    (h5 : ∀ c : Dev nD, m' ((c.tc : Thread nD τ).loc main_arg5) = cw c) (h6 : ∀ c : Dev nD, m' ((c.tc : Thread nD τ).loc main_arg6) = cb c)
    (h7 : ∀ c : Dev nD, m' ((c.tc : Thread nD τ).loc main_arg7) = wd c) :
    θ_run (defs (F := Ideal)) (onTc (τ := τ) (main (F := Ideal))) ⟨m', fun _ => 0, g'⟩ (fun r => ∀ c : Dev nD,
      r.2.mem ((c.tc : Thread nD τ).loc main_v122)
        = CC (CMLP (X c) (C c) (nw c) (wu c) (cw c) (cb c) (wd c)) (LMLP (X c) (M c) (nw c) (wu c) (cw c) (cb c) (wd c))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)) := by
  refine (θ_run defs _ _).mono (fun r h c => ⟨(h c).1.trans ?_, (h c).2⟩) (Cert.Reference3Ideal.Value.run (F := Ideal) m' g')
  unfold Cert.Reference3Ideal.Value.res_main_v122
  rw [h0, h1, h2, h3, h4, h5, h6, h7]
  unfold CC CMLP LMLP OR AR SR CR PR UR HR RS CT LT Cert.Reference2Ideal.Ffn.OR Cert.Reference2Ideal.Ffn.AR Cert.Reference2Ideal.Ffn.SR
    Cert.Reference2Ideal.Ffn.CR Cert.Reference2Ideal.Ffn.PR Cert.Reference2Ideal.Ffn.UR Cert.Reference2Ideal.Ffn.HR Cert.Reference2Ideal.Ffn.RS
  rfl

end Cert.Reference3Ideal.Ffn

namespace Cert.Proof

open Idealize.ShloMosaic Idealize.ShloMosaic.TcCoe Idealize.SL.Sem

/-- The first layer's convolutional MLP's program and its reference end with equal results. -/
theorem first_conv_mlp : Cert.algebraic_Kernel3Ideal_Reference3Ideal (hKernel3Ideal := Cert.Kernel3Ideal.Gen.facts)
    (hReference3Ideal := Cert.Reference3Ideal.Gen.facts) := by
  intro m g m' g' _ hagree
  refine ⟨_, Cert.Kernel3Ideal.Ffn.kernel_run m g, ?_⟩
  refine (θ_run Cert.Reference3Ideal.defs _ _).mono (fun r h c => ⟨(h c).1.trans ?_, (h c).2⟩)
    (Cert.Reference3Ideal.Ffn.reference_run m' g' _ _ _ _ _ _ _ _ (fun c => (hagree c).1) (fun c => (hagree c).2.1) (fun c => (hagree c).2.2.1)
      (fun c => (hagree c).2.2.2.1) (fun c => (hagree c).2.2.2.2.1) (fun c => (hagree c).2.2.2.2.2.1) (fun c => (hagree c).2.2.2.2.2.2.1)
      (fun c => (hagree c).2.2.2.2.2.2.2))
  exact (Cert.Kernel3Ideal.Ffn.value_eq _ _ _ _ _ _ _ _).symm

end Cert.Proof

end
-- ==== Proof.InBody.lean ====
/-
  The input projection's functions of one grid point, at an index.
-/
module

public import proofs.«01_k».proof.Proof.Gen.Kernel4Ideal.Skeleton
public import proofs.«01_k».proof.Proof.FfnArr
public import Idealize.ShloMosaic.Lib.KernelVsHost
public import Idealize.ShloMosaic.Lib.Pointwise

@[expose] public section

set_option maxRecDepth 16384

noncomputable section

namespace Cert.Kernel4Ideal.Inp

open Idealize.ShloMosaic Idealize.ShloMosaic.TcCoe Idealize.SL.Sem
open Cert.Kernel4Ideal Cert.Kernel4Ideal.Gen
open Cert.Kernel2Ideal.Ffn (nrm nrm_congr)

/-- The logistic of a number. -/
def lgs (y : EReal) : EReal := Ideal.div 1 (1 + Ideal.exp (0 - y))

/-- Whether a grid point's tile is the context. -/
def CTV (j : ℕ) : BitVec 1 := Scalar.cmpi .slt (Scalar.addi (BitVec.ofNat 32 j) 0#32) 1#32

theorem is_ctx : ∀ j : Fin 17, CTV j.val = 1#1 ↔ j.val = 0 := by decide +kernel

theorem pay3_at (i : grid0.Coords) (v2 v4 : Vec Ideal S1x256x1024 .f32) (v7 : Vec Ideal S1x1024 .f32) (v9 v11 : Vec Ideal S1x1x1024 .f32)
    (p : Fin 256) (k : Fin 1024) :
    k0_pay3 i v2 v4 v7 v9 v11 (ix2 p k)
      = nrm (fun j => if CTV (i 1).val = 1#1 then (v2 (ix3 (0 : Fin 1) p j) : EReal) else v4 (ix3 (0 : Fin 1) p j)) (fun j => v7 (ix2 (0 : Fin 1) j))
          (fun j => v11 (ix3 (0 : Fin 1) (0 : Fin 1) j)) (fun j => v9 (ix3 (0 : Fin 1) (0 : Fin 1) j)) k := by
  refine (show k0_pay3 i v2 v4 v7 v9 v11 (ix2 p k)
    = Cert.Kernel2Ideal.Gen.k0_pay9 (shapeCast S1x1024 v9 shapeCasts_S1x1x1024_S1x1024) (shapeCast S1x1024 v11 shapeCasts_S1x1x1024_S1x1024)
        (Scalar.select (CTV (i 1).val) (shapeCast S256x1024 v2 shapeCasts_S1x256x1024_S256x1024) (shapeCast S256x1024 v4 shapeCasts_S1x256x1024_S256x1024))
        v7 (ix2 p k) from rfl).trans ?_
  refine (Cert.Kernel2Ideal.Ffn.pay9_at _ _ _ _ p k).trans (nrm_congr (fun j => ?_) (fun j => rfl) (fun j => ?_) (fun j => ?_) k)
  · unfold Scalar.select
    split
    · next z =>
      refine Eq.trans ?_ (if_pos (show CTV (i 1).val = 1#1 from z)).symm
      pointwise
    · next z =>
      refine Eq.trans ?_ (if_neg (show ¬CTV (i 1).val = 1#1 from z)).symm
      pointwise
  · pointwise
  · pointwise

variable (H : FVec Ideal S256x1024 .bf16)

theorem pay4_at (i : grid0.Coords) (v2 v4 : Vec Ideal S1x256x1024 .f32) (v7 : Vec Ideal S1x1024 .f32) (v9 v11 : Vec Ideal S1x1x1024 .f32)
    (u : Vec Ideal S1024x512 .bf16) (p : Fin 256) (c : Fin 512) :
    k0_pay4 i v2 v4 v7 v9 v11 u (ix2 p c) = (∑ k : Fin 1024, (k0_pay3 i v2 v4 v7 v9 v11 (ix2 p k) : EReal) * u (ix2 k c) : EReal) := by
  unfold k0_pay4
  generalize k0_pay3 i v2 v4 v7 v9 v11 = h
  pointwise

theorem pay5_at (a : FVec Ideal S256x512 .f32) (u : Vec Ideal S1024x512 .bf16) (p : Fin 256) (c : Fin 512) :
    k0_pay5 H a u (ix3 (0 : Fin 1) p c) = (a (ix2 p c) : EReal) * lgs (∑ k : Fin 1024, (H (ix2 p k) : EReal) * u (ix2 k c)) := by
  pointwise [k0_pay5, lgs]

theorem pay6_at (u : Vec Ideal S1024x1024 .bf16) (p : Fin 256) (c : Fin 1024) :
    k0_pay6 H u (ix3 (0 : Fin 1) p c) = (∑ k : Fin 1024, (H (ix2 p k) : EReal) * u (ix2 k c) : EReal) := by
  pointwise [k0_pay6]

theorem pay7_at (u : Vec Ideal S1024x1024 .bf16) (p : Fin 256) (c : Fin 1024) :
    k0_pay7 H u (ix3 (0 : Fin 1) p c) = (∑ k : Fin 1024, (H (ix2 p k) : EReal) * u (ix2 k c) : EReal) * Ideal.ofBits .f32 0x3D800000#32 := by
  pointwise [k0_pay7]

theorem pay9_at (u : Vec Ideal S1024x1024 .bf16) (p : Fin 256) (c : Fin 1024) :
    k0_pay9 H (k0_pay8 u) (ix3 (0 : Fin 1) p c) = (∑ k : Fin 1024, (H (ix2 p k) : EReal) * u (ix2 k c) : EReal) := by
  pointwise [k0_pay9, k0_pay8]

theorem pay10_at (u : Vec Ideal S1024x1024 .bf16) (p : Fin 256) (c : Fin 1024) :
    k0_pay10 H u (ix3 (0 : Fin 1) p c) = lgs (∑ k : Fin 1024, (H (ix2 p k) : EReal) * u (ix2 k c)) := by
  pointwise [k0_pay10, lgs]

theorem pay51_at (u : Vec Ideal S1024x1024 .bf16) (g : Vec Ideal S1x1024 .f32) (p : Fin 256) (c : Fin 1024) :
    k0_pay51 H u g (ix3 (0 : Fin 1) p c) = lgs ((∑ k : Fin 1024, (H (ix2 p k) : EReal) * u (ix2 k c)) + g (ix2 (0 : Fin 1) c)) := by
  pointwise [k0_pay51, lgs]

theorem pay1_at (u : Vec Ideal S1024x1024 .bf16) (g : Vec Ideal S1x1024 .f32) (p : Fin 256) (c : Fin 1024) :
    k0_pay1 (k0_pay52 H u g) k0_pay53 (ix3 (0 : Fin 1) p c) = lgs ((∑ k : Fin 1024, (H (ix2 p k) : EReal) * u (ix2 k c)) + g (ix2 (0 : Fin 1) c)) := by
  pointwise [k0_pay1, k0_pay52, k0_pay53, lgs]

theorem pay2_at (u : Vec Ideal S1024x1024 .bf16) (g : Vec Ideal S1x1024 .f32) (p : Fin 256) (c : Fin 1024) :
    k0_pay2 H u g (ix3 (0 : Fin 1) p c) = lgs ((∑ k : Fin 1024, (H (ix2 p k) : EReal) * u (ix2 k c)) + g (ix2 (0 : Fin 1) c)) := by
  pointwise [k0_pay2, lgs]

end Cert.Kernel4Ideal.Inp

end
-- ==== Proof.InHost.lean ====
/-
  The operands of the last layer's input projection, as the host prepares them, and its blocks at a grid point:
  seventeen tiles of tokens, the first of them the context.
-/
module

public import proofs.«01_k».proof.Proof.InFrame
public import proofs.«01_k».proof.Proof.InBody
public import Idealize.ShloMosaic.Lib.Claim
public import Idealize.ShloMosaic.Lib.KernelVsHost
public import Idealize.ShloMosaic.Lib.Pointwise

@[expose] public section

set_option maxRecDepth 16384

noncomputable section

namespace Cert.Kernel4Ideal.Inp

open Idealize.ShloMosaic Idealize.ShloMosaic.TcCoe Idealize.SL.Sem
open Idealize.ShloMosaic.Pipeline (Dat)
open Cert.Kernel4Ideal Cert.Kernel4Ideal.Gen

variable (m : (ℓ : Loc nD τ sig) → Buf (Elt Ideal) ℓ)

theorem mod_at (c : Dev nD) (b : Fin 8) (r : Fin 6) (k : Fin 1024) :
    V m c main_v48 (ix3 (⟨(b : ℕ) * 2 + 1, by omega⟩ : Fin 16) r k)
      = (show EReal from m ((c : Thread nD τ).loc main_arg3) (ix2 b (⟨(r : ℕ) * 1024 + k, by omega⟩ : Fin 6144))) := by
  unfold V V0
  simp only [hostOps0, hostOps0_1, hostOps0_2, hostOps0_3, hostOps0_4, hostOps0_5, hostOps0_6, List.flatten_cons, List.flatten_nil, List.append_nil, List.cons_append, List.nil_append]
  entry_read
  pointwise
  have h : ¬((b : ℕ) * 2 + 1) % 2 < 1 := by omega
  rw [dif_neg h]

theorem ctx_at (c : Dev nD) (b : Fin 8) (r : Fin 6) (k : Fin 1024) :
    V m c main_v48 (ix3 (⟨(b : ℕ) * 2, by omega⟩ : Fin 16) r k)
      = (show EReal from m ((c : Thread nD τ).loc main_arg4) (ix1 (⟨(r : ℕ) * 1024 + k, by omega⟩ : Fin 6144))) := by
  unfold V V0
  simp only [hostOps0, hostOps0_1, hostOps0_2, hostOps0_3, hostOps0_4, hostOps0_5, hostOps0_6, List.flatten_cons, List.flatten_nil, List.append_nil, List.cons_append, List.nil_append]
  entry_read
  pointwise
  have h : (b : ℕ) * 2 % 2 < 1 := by omega
  rw [dif_pos h]

theorem norm_at (c : Dev nD) (k : Fin 1024) :
    V m c main_v49 (ix2 (0 : Fin 1) k) = (show EReal from m ((c : Thread nD τ).loc main_arg5) (ix1 k)) := by
  unfold V V0
  simp only [hostOps0, hostOps0_1, hostOps0_2, hostOps0_3, hostOps0_4, hostOps0_5, hostOps0_6, List.flatten_cons, List.flatten_nil, List.append_nil, List.cons_append, List.nil_append]
  entry_read
  pointwise

theorem glu_at (c : Dev nD) (k : Fin 1024) (j : Fin 1024) (j' : Fin 8976) (e : (j' : ℕ) = j) :
    V m c main_v20 (ix2 k j) = (show EReal from m ((c : Thread nD τ).loc main_arg6) (ix2 k j')) := by
  obtain ⟨j', q⟩ := j'
  obtain rfl : j' = (j : ℕ) := e
  unfold V V0
  simp only [hostOps0, hostOps0_1, hostOps0_2, hostOps0_3, hostOps0_4, hostOps0_5, hostOps0_6, List.flatten_cons, List.flatten_nil, List.append_nil, List.cons_append, List.nil_append]
  entry_read
  pointwise

theorem mqkv_at (c : Dev nD) (k : Fin 1024) (j : Fin 3072) (j' : Fin 8976) (e : (j' : ℕ) = 1024 + j) :
    V m c main_v21 (ix2 k j) = (show EReal from m ((c : Thread nD τ).loc main_arg6) (ix2 k j')) := by
  obtain ⟨j', q⟩ := j'
  obtain rfl : j' = 1024 + (j : ℕ) := e
  unfold V V0
  simp only [hostOps0, hostOps0_1, hostOps0_2, hostOps0_3, hostOps0_4, hostOps0_5, hostOps0_6, List.flatten_cons, List.flatten_nil, List.append_nil, List.cons_append, List.nil_append]
  entry_read
  pointwise

theorem mo_at (c : Dev nD) (k : Fin 1024) (j : Fin 1024) (j' : Fin 8976) (e : (j' : ℕ) = 4096 + j) :
    V m c main_v22 (ix2 k j) = (show EReal from m ((c : Thread nD τ).loc main_arg6) (ix2 k j')) := by
  obtain ⟨j', q⟩ := j'
  obtain rfl : j' = 4096 + (j : ℕ) := e
  unfold V V0
  simp only [hostOps0, hostOps0_1, hostOps0_2, hostOps0_3, hostOps0_4, hostOps0_5, hostOps0_6, List.flatten_cons, List.flatten_nil, List.append_nil, List.cons_append, List.nil_append]
  entry_read
  pointwise

theorem bg_at (c : Dev nD) (k : Fin 1024) (j : Fin 3072) (j' : Fin 8976) (e : (j' : ℕ) = 5904 + j) :
    V m c main_v27 (ix2 k j) = (show EReal from m ((c : Thread nD τ).loc main_arg6) (ix2 k j')) := by
  obtain ⟨j', q⟩ := j'
  obtain rfl : j' = 5904 + (j : ℕ) := e
  unfold V V0
  simp only [hostOps0, hostOps0_1, hostOps0_2, hostOps0_3, hostOps0_4, hostOps0_5, hostOps0_6, List.flatten_cons, List.flatten_nil, List.append_nil, List.cons_append, List.nil_append]
  entry_read
  pointwise

theorem gb_at (c : Dev nD) (j : Fin 3072) :
    V m c main_v39 (ix2 (0 : Fin 1) j) = (show EReal from m ((c : Thread nD τ).loc main_arg7) (ix1 j)) := by
  unfold V V0
  simp only [hostOps0, hostOps0_1, hostOps0_2, hostOps0_3, hostOps0_4, hostOps0_5, hostOps0_6, List.flatten_cons, List.flatten_nil, List.append_nil, List.cons_append, List.nil_append]
  entry_read
  pointwise

/-- The blocks of the token and weight windows, at every grid point. -/
theorem idx : ∀ t : Fin cfg0.N, win0_0.index t = ![t.val / 17, 0, 0]
    ∧ win0_1.index t = ![t.val / 17, t.val % 17 - 1 + 1, 0]
    ∧ win0_2.index t = ![t.val / 17 * 2 + min 1 (t.val % 17), 0, 0] ∧ win0_3.index t = ![0, 0] ∧ win0_4.index t = ![0, 0] ∧ win0_5.index t = ![0, 0]
    ∧ win0_6.index t = ![0, 0] ∧ win0_12.index t = ![0, 0] ∧ win0_13.index t = ![0, 0] ∧ t.val < 136 :=
  (by decide +kernel : ∀ t : Fin grid0.N, _)

/-- The blocks of the results' windows. -/
theorem odx : ∀ t : Fin cfg0.N, win0_21.index t = ![t.val / 17, t.val % 17, 0] ∧ win0_22.index t = ![t.val / 17, t.val % 17, 0]
    ∧ win0_23.index t = ![t.val / 17, t.val % 17, 0] ∧ win0_30.index t = ![t.val / 17, t.val % 17, 0] :=
  (by decide +kernel : ∀ t : Fin grid0.N, _)

/-- The sequence and tile of a grid point. -/
def tb (t : Fin cfg0.N) : Fin 8 := ⟨t.val / 17, by have := (idx t).2.2.2.2.2.2.2.2.2; omega⟩
def tj (t : Fin cfg0.N) : Fin 17 := ⟨t.val % 17, by omega⟩

theorem coord : ∀ t : Fin cfg0.N, ((grid0.coords t) 1).val = t.val % 17 :=
  (by decide +kernel : ∀ t : Fin grid0.N, _)

theorem iblk0 (c : Dev nD) (t : Fin cfg0.N) (p : Fin 256) (k : Fin 1024) (l : Fin 4352) (e : (l : ℕ) = p) : iblk m c 0 t (ix3 (0 : Fin 1) p k)
    = m ((c : Thread nD τ).loc main_arg0) (ix3 (tb t) l k) := by
  obtain ⟨l, q⟩ := l
  obtain rfl : l = (p : ℕ) := e
  unfold tb
  blk_ext [iblk, V, idx t]

theorem iblk1 (c : Dev nD) (t : Fin cfg0.N) (h : ¬t.val % 17 = 0) (p : Fin 256) (k : Fin 1024) (l : Fin 4352) (e : (l : ℕ) = t.val % 17 * 256 + p) :
    iblk m c 1 t (ix3 (0 : Fin 1) p k) = m ((c : Thread nD τ).loc main_arg0) (ix3 (tb t) l k) := by
  obtain ⟨l, q⟩ := l
  obtain rfl : l = t.val % 17 * 256 + (p : ℕ) := e
  have e : t.val % 17 - 1 + 1 = t.val % 17 := by omega
  unfold tb
  blk_ext [iblk, V, idx t, e]

theorem iblk2 (c : Dev nD) (t : Fin cfg0.N) (h : ¬t.val % 17 = 0) (r : Fin 6) (k : Fin 1024) (j : Fin 6144) (hj : (j : ℕ) = (r : ℕ) * 1024 + k) :
    iblk m c 2 t (ix3 (0 : Fin 1) r k) = (show EReal from m ((c : Thread nD τ).loc main_arg3) (ix2 (tb t) j)) := by
  obtain ⟨j, q⟩ := j
  obtain rfl : j = (r : ℕ) * 1024 + k := hj
  have e : min 1 (t.val % 17) = 1 := by omega
  refine Eq.trans ?_ (mod_at m c (tb t) r k)
  unfold tb
  blk_ext [iblk, idx t, e]

theorem iblk2c (c : Dev nD) (t : Fin cfg0.N) (h : t.val % 17 = 0) (r : Fin 6) (k : Fin 1024) (j : Fin 6144) (hj : (j : ℕ) = (r : ℕ) * 1024 + k) :
    iblk m c 2 t (ix3 (0 : Fin 1) r k) = (show EReal from m ((c : Thread nD τ).loc main_arg4) (ix1 j)) := by
  obtain ⟨j, q⟩ := j
  obtain rfl : j = (r : ℕ) * 1024 + k := hj
  have e : min 1 (t.val % 17) = 0 := by omega
  refine Eq.trans ?_ (ctx_at m c (tb t) r k)
  unfold tb
  blk_ext [iblk, idx t, e]

theorem iblk3 (c : Dev nD) (t : Fin cfg0.N) (k : Fin 1024) : iblk m c 3 t (ix2 (0 : Fin 1) k)
    = (show EReal from m ((c : Thread nD τ).loc main_arg5) (ix1 k)) := by
  refine Eq.trans ?_ (norm_at m c k)
  blk_ext [iblk, idx t]

theorem iblk4 (c : Dev nD) (t : Fin cfg0.N) (k : Fin 1024) (j : Fin 1024) (j' : Fin 8976) (e : (j' : ℕ) = j) : iblk m c 4 t (ix2 k j)
    = (show EReal from m ((c : Thread nD τ).loc main_arg6) (ix2 k j')) := by
  refine Eq.trans ?_ (glu_at m c k j j' e)
  blk_ext [iblk, idx t]

theorem iblk5 (c : Dev nD) (t : Fin cfg0.N) (k : Fin 1024) (j : Fin 3072) (j' : Fin 8976) (e : (j' : ℕ) = 1024 + j) : iblk m c 5 t (ix2 k j)
    = (show EReal from m ((c : Thread nD τ).loc main_arg6) (ix2 k j')) := by
  refine Eq.trans ?_ (mqkv_at m c k j j' e)
  blk_ext [iblk, idx t]

theorem iblk6 (c : Dev nD) (t : Fin cfg0.N) (k : Fin 1024) (j : Fin 1024) (j' : Fin 8976) (e : (j' : ℕ) = 4096 + j) : iblk m c 6 t (ix2 k j)
    = (show EReal from m ((c : Thread nD τ).loc main_arg6) (ix2 k j')) := by
  refine Eq.trans ?_ (mo_at m c k j j' e)
  blk_ext [iblk, idx t]

theorem iblk12 (c : Dev nD) (t : Fin cfg0.N) (k : Fin 1024) (j : Fin 3072) (j' : Fin 8976) (e : (j' : ℕ) = 5904 + j) : iblk m c 12 t (ix2 k j)
    = (show EReal from m ((c : Thread nD τ).loc main_arg6) (ix2 k j')) := by
  refine Eq.trans ?_ (bg_at m c k j j' e)
  blk_ext [iblk, idx t]

theorem iblk13 (c : Dev nD) (t : Fin cfg0.N) (j : Fin 3072) : iblk m c 13 t (ix2 (0 : Fin 1) j)
    = (show EReal from m ((c : Thread nD τ).loc main_arg7) (ix1 j)) := by
  refine Eq.trans ?_ (gb_at m c j)
  blk_ext [iblk, idx t]

end Cert.Kernel4Ideal.Inp

end
-- ==== Proof.InArr.lean ====
/-
  What the input projection's call leaves in four of its arrays, as functions of the arguments: the gated linear unit,
  the recurrence's queries, keys and values, its output gate, and the branches' gates.
-/
module

public import proofs.«01_k».proof.Proof.InBody
public import proofs.«01_k».proof.Proof.InHost

@[expose] public section

set_option maxRecDepth 16384

noncomputable section

namespace Cert.Kernel4Ideal.Inp

open Idealize.ShloMosaic Idealize.ShloMosaic.TcCoe Idealize.SL.Sem
open Idealize.ShloMosaic.Pipeline (Dat)
open Cert.Kernel4Ideal Cert.Kernel4Ideal.Gen
open Cert.Kernel2Ideal.Ffn (nrm nrm_congr)

/-- A column of the projection of a row. -/
def PJ (h : Fin 1024 → EReal) (W : FVec Ideal S1024x8976 .f32) (c : Fin 8976) : EReal := ∑ k : Fin 1024, h k * W (ix2 k c)

/-- A row's gated linear unit. -/
def GLE (h : Fin 1024 → EReal) (W : FVec Ideal S1024x8976 .f32) (n : Fin 512) : EReal :=
  PJ h W (⟨(n : ℕ), by omega⟩ : Fin 8976) * lgs (PJ h W (⟨512 + (n : ℕ), by omega⟩ : Fin 8976))

/-- A row's queries, scaled keys and values of the recurrence. -/
def MQE (h : Fin 1024 → EReal) (W : FVec Ideal S1024x8976 .f32) (n : Fin 3072) : EReal :=
  if 1024 ≤ (n : ℕ) ∧ (n : ℕ) < 2048 then PJ h W (⟨1024 + (n : ℕ), by omega⟩ : Fin 8976) * Ideal.ofBits .f32 0x3D800000#32
  else PJ h W (⟨1024 + (n : ℕ), by omega⟩ : Fin 8976)

/-- A row's output gate. -/
def SOE (h : Fin 1024 → EReal) (W : FVec Ideal S1024x8976 .f32) (n : Fin 1024) : EReal := lgs (PJ h W (⟨4096 + (n : ℕ), by omega⟩ : Fin 8976))

/-- A row's gates of the branches. -/
def BGE (h : Fin 1024 → EReal) (W : FVec Ideal S1024x8976 .f32) (gb : FVec Ideal S3072 .f32) (n : Fin 3072) : EReal :=
  lgs (PJ h W (⟨5904 + (n : ℕ), by omega⟩ : Fin 8976) + gb (ix1 n))

/-- The token `l`, normalized and modulated, by the context's vectors or the latents'. -/
def HA (X : FVec Ideal S8x4352x1024 .f32) (M : FVec Ideal S8x6144 .f32) (C : FVec Ideal S6144 .f32) (nw : FVec Ideal S1024 .f32)
    (b : Fin 8) (l : Fin 4352) (k : Fin 1024) : EReal :=
  if (l : ℕ) < 256 then
    nrm (fun j => X (ix3 b l j)) (fun j => nw (ix1 j)) (fun j => C (ix1 (⟨1024 + (j : ℕ), by omega⟩ : Fin 6144)))
      (fun j => C (ix1 (⟨(j : ℕ), by omega⟩ : Fin 6144))) k
  else
    nrm (fun j => X (ix3 b l j)) (fun j => nw (ix1 j)) (fun j => M (ix2 b (⟨1024 + (j : ℕ), by omega⟩ : Fin 6144)))
      (fun j => M (ix2 b (⟨(j : ℕ), by omega⟩ : Fin 6144))) k

/-- The rows of one grid point. -/
def HT (i : grid0.Coords) (x0 x1 : Vec Ideal S1x256x1024 .f32) (x2 : Vec Ideal S1x6x1024 .f32) (x3 : Vec Ideal S1x1024 .f32) : FVec Ideal S256x1024 .bf16 :=
  k0_pay3 i (View.ld x0 r0_0) (View.ld x1 r0_0) (View.ld x3 r0_1) (View.ld x2 r0_2) (View.ld x2 r0_3)

theorem tile_at (x : Vec Ideal S1x256x1024 .f32) (p : Fin 256) (k : Fin 1024) :
    (View.ld x r0_0 : Vec Ideal S1x256x1024 .f32) (ix3 (0 : Fin 1) p k) = x (ix3 (0 : Fin 1) p k) := by
  refine View.ld_unit_apply_of x _ _ _ _ _ fun a => ?_
  fin_cases a <;> simp [ix3]

theorem weight_at (x : Vec Ideal S1x1024 .f32) (k : Fin 1024) :
    (View.ld x r0_1 : Vec Ideal S1x1024 .f32) (ix2 (0 : Fin 1) k) = x (ix2 (0 : Fin 1) k) := by
  refine View.ld_unit_apply_of x _ _ _ _ _ fun a => ?_
  fin_cases a <;> simp [ix2]

theorem shift_at (x : Vec Ideal S1x6x1024 .f32) (k : Fin 1024) :
    (View.ld x r0_2 : Vec Ideal S1x1x1024 .f32) (ix3 (0 : Fin 1) (0 : Fin 1) k) = x (ix3 (0 : Fin 1) (0 : Fin 6) k) := by
  refine View.ld_unit_apply_of x _ _ _ _ _ fun a => ?_
  fin_cases a <;> simp [ix3]

theorem scale_at (x : Vec Ideal S1x6x1024 .f32) (k : Fin 1024) :
    (View.ld x r0_3 : Vec Ideal S1x1x1024 .f32) (ix3 (0 : Fin 1) (0 : Fin 1) k) = x (ix3 (0 : Fin 1) (1 : Fin 6) k) := by
  refine View.ld_unit_apply_of x _ _ _ _ _ fun a => ?_
  fin_cases a <;> simp [ix3]

theorem HT_at (i : grid0.Coords) (x0 x1 : Vec Ideal S1x256x1024 .f32) (x2 : Vec Ideal S1x6x1024 .f32) (x3 : Vec Ideal S1x1024 .f32)
    (p : Fin 256) (k : Fin 1024) :
    HT i x0 x1 x2 x3 (ix2 p k)
      = nrm (fun j => if CTV (i 1).val = 1#1 then (x0 (ix3 (0 : Fin 1) p j) : EReal) else x1 (ix3 (0 : Fin 1) p j)) (fun j => x3 (ix2 (0 : Fin 1) j))
          (fun j => x2 (ix3 (0 : Fin 1) (1 : Fin 6) j)) (fun j => x2 (ix3 (0 : Fin 1) (0 : Fin 6) j)) k := by
  refine (pay3_at i _ _ _ _ _ p k).trans (nrm_congr (fun j => ?_) (weight_at x3) (scale_at x2) (shift_at x2) k)
  rw [tile_at x0 p j, tile_at x1 p j]

section
variable (H : FVec Ideal S256x1024 .bf16) (h : Fin 1024 → EReal) (W : FVec Ideal S1024x8976 .f32)

theorem sum_eq (f g : Fin 1024 → EReal) (c : Fin 8976) (a : ∀ k, f k = h k) (d : ∀ k, g k = W (ix2 k c)) : (∑ k : Fin 1024, f k * g k) = PJ h W c :=
  Finset.sum_congr rfl fun k _ => congrArg₂ (fun a d : EReal => a * d) (a k) (d k)

theorem colA (x : Vec Ideal S1024x1024 .bf16) (k : Fin 1024) (n : Fin 512) (j : Fin 1024) (e : (j : ℕ) = n) :
    (View.ld x r0_4 : Vec Ideal S1024x512 .bf16) (ix2 k n) = x (ix2 k j) := by
  refine View.ld_unit_apply_of x _ _ _ _ _ fun a => ?_
  fin_cases a <;> simp [ix2, e]

theorem colB (x : Vec Ideal S1024x1024 .bf16) (k : Fin 1024) (n : Fin 512) (j : Fin 1024) (e : (j : ℕ) = 512 + n) :
    (View.ld x r0_5 : Vec Ideal S1024x512 .bf16) (ix2 k n) = x (ix2 k j) := by
  refine View.ld_unit_apply_of x _ _ _ _ _ fun a => ?_
  fin_cases a <;> simp [ix2, e]

theorem colO (x : Vec Ideal S1024x1024 .bf16) (k n : Fin 1024) :
    (View.ld x r0_13 : Vec Ideal S1024x1024 .bf16) (ix2 k n) = x (ix2 k n) := by
  refine View.ld_unit_apply_of x _ _ _ _ _ fun a => ?_
  fin_cases a <;> simp [ix2]

theorem col0 (x : Vec Ideal S1024x3072 .bf16) (k n : Fin 1024) (j : Fin 3072) (e : (j : ℕ) = n) :
    (View.ld x r0_7 : Vec Ideal S1024x1024 .bf16) (ix2 k n) = x (ix2 k j) := by
  refine View.ld_unit_apply_of x _ _ _ _ _ fun a => ?_
  fin_cases a <;> simp [ix2, e]

theorem col1 (x : Vec Ideal S1024x3072 .bf16) (k n : Fin 1024) (j : Fin 3072) (e : (j : ℕ) = 1024 + n) :
    (View.ld x r0_9 : Vec Ideal S1024x1024 .bf16) (ix2 k n) = x (ix2 k j) := by
  refine View.ld_unit_apply_of x _ _ _ _ _ fun a => ?_
  fin_cases a <;> simp [ix2, e]

theorem col2 (x : Vec Ideal S1024x3072 .bf16) (k n : Fin 1024) (j : Fin 3072) (e : (j : ℕ) = 2048 + n) :
    (View.ld x r0_11 : Vec Ideal S1024x1024 .bf16) (ix2 k n) = x (ix2 k j) := by
  refine View.ld_unit_apply_of x _ _ _ _ _ fun a => ?_
  fin_cases a <;> simp [ix2, e]

theorem bia0 (x : Vec Ideal S1x3072 .f32) (n : Fin 1024) (j : Fin 3072) (e : (j : ℕ) = n) :
    (View.ld x r0_34 : Vec Ideal S1x1024 .f32) (ix2 (0 : Fin 1) n) = x (ix2 (0 : Fin 1) j) := by
  refine View.ld_unit_apply_of x _ _ _ _ _ fun a => ?_
  fin_cases a <;> simp [ix2, e]

theorem bia1 (x : Vec Ideal S1x3072 .f32) (n : Fin 1024) (j : Fin 3072) (e : (j : ℕ) = 1024 + n) :
    (View.ld x r0_35 : Vec Ideal S1x1024 .f32) (ix2 (0 : Fin 1) n) = x (ix2 (0 : Fin 1) j) := by
  refine View.ld_unit_apply_of x _ _ _ _ _ fun a => ?_
  fin_cases a <;> simp [ix2, e]

theorem bia2 (x : Vec Ideal S1x3072 .f32) (n : Fin 1024) (j : Fin 3072) (e : (j : ℕ) = 2048 + n) :
    (View.ld x r0_36 : Vec Ideal S1x1024 .f32) (ix2 (0 : Fin 1) n) = x (ix2 (0 : Fin 1) j) := by
  refine View.ld_unit_apply_of x _ _ _ _ _ fun a => ?_
  fin_cases a <;> simp [ix2, e]

end

section
variable (m : (ℓ : Loc nD τ sig) → Buf (Elt Ideal) ℓ) (c : Dev nD) (t : Fin cfg0.N)
  (X : FVec Ideal S8x4352x1024 .f32) (M : FVec Ideal S8x6144 .f32) (C : FVec Ideal S6144 .f32) (nw : FVec Ideal S1024 .f32)
  (W : FVec Ideal S1024x8976 .f32) (gb : FVec Ideal S3072 .f32)
  (eX : m ((c : Thread nD τ).loc main_arg0) = X) (eM : m ((c : Thread nD τ).loc main_arg3) = M) (eC : m ((c : Thread nD τ).loc main_arg4) = C)
  (en : m ((c : Thread nD τ).loc main_arg5) = nw) (ew : m ((c : Thread nD τ).loc main_arg6) = W) (eb : m ((c : Thread nD τ).loc main_arg7) = gb)

/-- The rows of a grid point. -/
def HB : FVec Ideal S256x1024 .bf16 := HT (grid0.coords t) (iblk m c 0 t) (iblk m c 1 t) (iblk m c 2 t) (iblk m c 3 t)

include eX eM eC en

theorem rows (p : Fin 256) (l : Fin 4352) (e : (l : ℕ) = t.val % 17 * 256 + p) (k : Fin 1024) : HB m c t (ix2 p k) = HA X M C nw (tb t) l k := by
  subst eX eM eC en
  refine (HT_at _ (iblk m c 0 t) (iblk m c 1 t) (iblk m c 2 t) (iblk m c 3 t) p k).trans ?_
  rw [coord t]
  unfold HA
  by_cases z : t.val % 17 = 0
  · have v : CTV (t.val % 17) = 1#1 := (is_ctx (tj t)).mpr z
    rw [if_pos (by omega)]
    refine nrm_congr (fun j => ?_) (iblk3 m c t) (fun j => iblk2c m c t z 1 j _ ?_) (fun j => iblk2c m c t z 0 j _ ?_) k
    · rw [if_pos v]
      exact iblk0 m c t p j l (by omega)
    · simp
    · simp
  · have v : ¬CTV (t.val % 17) = 1#1 := fun q => z ((is_ctx (tj t)).mp q)
    rw [if_neg (by omega)]
    refine nrm_congr (fun j => ?_) (iblk3 m c t) (fun j => iblk2 m c t z 1 j _ ?_) (fun j => iblk2 m c t z 0 j _ ?_) k
    · rw [if_neg v]
      exact iblk1 m c t z p j l e
    · simp
    · simp

end

end Cert.Kernel4Ideal.Inp

end
-- ==== Proof.InFin.lean ====
/-
  The four arrays that the input projection's call leaves.
-/
module

public import proofs.«01_k».proof.Proof.InArr

@[expose] public section

set_option maxRecDepth 16384

noncomputable section

namespace Cert.Kernel4Ideal.Inp

open Idealize.ShloMosaic Idealize.ShloMosaic.TcCoe Idealize.SL.Sem
open Idealize.ShloMosaic.Pipeline (Dat)
open Cert.Kernel4Ideal Cert.Kernel4Ideal.Gen

section
variable (H : FVec Ideal S256x1024 .bf16) (h : Fin 1024 → EReal) (W : FVec Ideal S1024x8976 .f32) (gb : FVec Ideal S3072 .f32)

/-- A piece of the recurrence's columns: the queries or the values. -/
theorem mq_plain (u : Vec Ideal S1024x1024 .bf16) (P : Vec Ideal S1x256x1024 .bf16) (x : S1x256x1024.Idx) (n : Fin 3072)
    (eP : ∀ (p : Fin 256) (c : Fin 1024), P (ix3 (0 : Fin 1) p c) = (∑ k : Fin 1024, (H (ix2 p k) : EReal) * u (ix2 k c) : EReal))
    (en : ¬(1024 ≤ (n : ℕ) ∧ (n : ℕ) < 2048)) (eH : ∀ k, H (ix2 (x 1) k) = h k)
    (eu : ∀ (k : Fin 1024) (j : Fin 8976), (j : ℕ) = 1024 + n → u (ix2 k (x 2)) = W (ix2 k j)) : P x = MQE h W n := by
  unfold MQE
  rw [if_neg en]
  idx_vars x
  obtain rfl : x0 = 0 := Subsingleton.elim _ _
  exact (eP x1 x2).trans (sum_eq h W _ _ _ eH fun k => eu k _ rfl)

/-- The piece of the recurrence's columns that holds the keys. -/
theorem mq_scaled (u : Vec Ideal S1024x1024 .bf16) (x : S1x256x1024.Idx) (n : Fin 3072)
    (en : 1024 ≤ (n : ℕ) ∧ (n : ℕ) < 2048) (eH : ∀ k, H (ix2 (x 1) k) = h k)
    (eu : ∀ (k : Fin 1024) (j : Fin 8976), (j : ℕ) = 1024 + n → u (ix2 k (x 2)) = W (ix2 k j)) : k0_pay7 H u x = MQE h W n := by
  unfold MQE
  rw [if_pos en]
  idx_vars x
  obtain rfl : x0 = 0 := Subsingleton.elim _ _
  exact (pay7_at H u x1 x2).trans (congrArg (fun a : EReal => a * Ideal.ofBits .f32 0x3D800000#32) (sum_eq h W _ _ _ eH fun k => eu k _ rfl))

/-- A piece of the branches' gates. -/
theorem bg_piece (u : Vec Ideal S1024x1024 .bf16) (g : Vec Ideal S1x1024 .f32) (P : Vec Ideal S1x256x1024 .bf16) (x : S1x256x1024.Idx) (n : Fin 3072)
    (eP : ∀ (p : Fin 256) (c : Fin 1024), P (ix3 (0 : Fin 1) p c) = lgs ((∑ k : Fin 1024, (H (ix2 p k) : EReal) * u (ix2 k c)) + g (ix2 (0 : Fin 1) c)))
    (eH : ∀ k, H (ix2 (x 1) k) = h k)
    (eu : ∀ (k : Fin 1024) (j : Fin 8976), (j : ℕ) = 5904 + n → u (ix2 k (x 2)) = W (ix2 k j)) (eg : g (ix2 (0 : Fin 1) (x 2)) = gb (ix1 n)) :
    P x = BGE h W gb n := by
  unfold BGE
  idx_vars x
  obtain rfl : x0 = 0 := Subsingleton.elim _ _
  exact (eP x1 x2).trans (congrArg₂ (fun a d : EReal => lgs (a + d)) (sum_eq h W _ _ _ eH fun k => eu k _ rfl) eg)

theorem so_piece (u : Vec Ideal S1024x1024 .bf16) (x : S1x256x1024.Idx) (n : Fin 1024) (eH : ∀ k, H (ix2 (x 1) k) = h k)
    (eu : ∀ (k : Fin 1024) (j : Fin 8976), (j : ℕ) = 4096 + n → u (ix2 k (x 2)) = W (ix2 k j)) : k0_pay10 H u x = SOE h W n := by
  unfold SOE
  idx_vars x
  obtain rfl : x0 = 0 := Subsingleton.elim _ _
  exact (pay10_at H u x1 x2).trans (congrArg lgs (sum_eq h W _ _ _ eH fun k => eu k _ rfl))

theorem gl_piece (a : FVec Ideal S256x512 .f32) (u : Vec Ideal S1024x512 .bf16) (v : Fin 1024 → Fin 512 → EReal) (x : S1x256x512.Idx) (n : Fin 512)
    (ea : ∀ (p : Fin 256) (c : Fin 512), a (ix2 p c) = (∑ k : Fin 1024, (H (ix2 p k) : EReal) * v k c : EReal))
    (eH : ∀ k, H (ix2 (x 1) k) = h k)
    (ev : ∀ (k : Fin 1024) (j : Fin 8976), (j : ℕ) = n → v k (x 2) = W (ix2 k j))
    (eu : ∀ (k : Fin 1024) (j : Fin 8976), (j : ℕ) = 512 + n → u (ix2 k (x 2)) = W (ix2 k j)) : k0_pay5 H a u x = GLE h W n := by
  unfold GLE
  idx_vars x
  obtain rfl : x0 = 0 := Subsingleton.elim _ _
  exact (pay5_at H a u x1 x2).trans (congrArg₂ (fun a d : EReal => a * lgs d)
    ((ea x1 x2).trans (sum_eq h W _ _ _ eH fun k => ev k _ rfl)) (sum_eq h W _ _ _ eH fun k => eu k _ rfl))

end

section
variable (m : (ℓ : Loc nD τ sig) → Buf (Elt Ideal) ℓ) (c : Dev nD) (t : Fin cfg0.N)
  (X : FVec Ideal S8x4352x1024 .f32) (M : FVec Ideal S8x6144 .f32) (C : FVec Ideal S6144 .f32) (nw : FVec Ideal S1024 .f32)
  (W : FVec Ideal S1024x8976 .f32) (gb : FVec Ideal S3072 .f32)

/-- The arrays. -/
def GLF : FVec Ideal S8x4352x512 .bf16 := fun i => GLE (HA X M C nw (i 0) (i 1)) W (i 2)
def MQF : FVec Ideal S8x4352x3072 .bf16 := fun i => MQE (HA X M C nw (i 0) (i 1)) W (i 2)
def SOF : FVec Ideal S8x4352x1024 .bf16 := fun i => SOE (HA X M C nw (i 0) (i 1)) W (i 2)
def BGF : FVec Ideal S8x4352x3072 .bf16 := fun i => BGE (HA X M C nw (i 0) (i 1)) W gb (i 2)

variable
  (eX : m ((c : Thread nD τ).loc main_arg0) = X) (eM : m ((c : Thread nD τ).loc main_arg3) = M) (eC : m ((c : Thread nD τ).loc main_arg4) = C)
  (en : m ((c : Thread nD τ).loc main_arg5) = nw) (ew : m ((c : Thread nD τ).loc main_arg6) = W) (eb : m ((c : Thread nD τ).loc main_arg7) = gb)

include eX eM eC en ew

theorem blk22 (y : S1x256x3072.Idx) (l : Fin 4352) (el : (l : ℕ) = t.val % 17 * 256 + (y 1 : ℕ)) :
    out0_22 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) y
      = MQE (HA X M C nw (tb t) l) W (y 2) := by
  have eW : ∀ (k : Fin 1024) (j : Fin 3072) (j' : Fin 8976), (j' : ℕ) = 1024 + j → iblk m c 5 t (ix2 k j) = W (ix2 k j') := by
    subst ew; exact iblk5 m c t
  unfold out0_22
  canon_tiles x h
  · exact mq_plain (HB m c t) (HA X M C nw (tb t) l) W (View.ld (iblk m c 5 t) r0_11) _ x (y 2) (pay9_at (HB m c t) _) (by omega)
      (rows m c t X M C nw eX eM eC en (x 1) l (by omega))
      (fun k j e => (col2 (iblk m c 5 t) k (x 2) (y 2) (by omega)).trans (eW k (y 2) j e))
  · exact mq_scaled (HB m c t) (HA X M C nw (tb t) l) W (View.ld (iblk m c 5 t) r0_9) x (y 2) (by omega)
      (rows m c t X M C nw eX eM eC en (x 1) l (by omega))
      (fun k j e => (col1 (iblk m c 5 t) k (x 2) (y 2) (by omega)).trans (eW k (y 2) j e))
  · exact mq_plain (HB m c t) (HA X M C nw (tb t) l) W (View.ld (iblk m c 5 t) r0_7) _ x (y 2) (pay6_at (HB m c t) _) (by omega)
      (rows m c t X M C nw eX eM eC en (x 1) l (by omega))
      (fun k j e => (col0 (iblk m c 5 t) k (x 2) (y 2) (by omega)).trans (eW k (y 2) j e))

theorem blk23 (y : S1x256x1024.Idx) (l : Fin 4352) (el : (l : ℕ) = t.val % 17 * 256 + (y 1 : ℕ)) :
    out0_23 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) y
      = SOE (HA X M C nw (tb t) l) W (y 2) := by
  have eW : ∀ (k : Fin 1024) (j : Fin 1024) (j' : Fin 8976), (j' : ℕ) = 4096 + j → iblk m c 6 t (ix2 k j) = W (ix2 k j') := by
    subst ew; exact iblk6 m c t
  unfold out0_23
  rw [View.canon_unit_zero (by funext a; fin_cases a <;> rfl)]
  exact so_piece (HB m c t) (HA X M C nw (tb t) l) W (View.ld (iblk m c 6 t) r0_13) y (y 2)
    (rows m c t X M C nw eX eM eC en (y 1) l el)
    (fun k j e => (colO (iblk m c 6 t) k (y 2)).trans (eW k (y 2) j e))

theorem blk21 (y : S1x256x512.Idx) (l : Fin 4352) (el : (l : ℕ) = t.val % 17 * 256 + (y 1 : ℕ)) :
    out0_21 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) y
      = GLE (HA X M C nw (tb t) l) W (y 2) := by
  have eW : ∀ (k : Fin 1024) (j : Fin 1024) (j' : Fin 8976), (j' : ℕ) = j → iblk m c 4 t (ix2 k j) = W (ix2 k j') := by
    subst ew; exact iblk4 m c t
  have b : (y 2 : ℕ) < 512 := (y 2).isLt
  unfold out0_21
  rw [View.canon_unit_zero (by funext a; fin_cases a <;> rfl)]
  exact gl_piece (HB m c t) (HA X M C nw (tb t) l) W _ (View.ld (iblk m c 4 t) r0_5)
    (fun k n => (View.ld (iblk m c 4 t) r0_4 : Vec Ideal S1024x512 .bf16) (ix2 k n)) y (y 2) (pay4_at _ _ _ _ _ _ _)
    (rows m c t X M C nw eX eM eC en (y 1) l el)
    (fun k j e => (colA (iblk m c 4 t) k (y 2) (⟨(y 2 : ℕ), by omega⟩ : Fin 1024) rfl).trans (eW k _ j e))
    (fun k j e => (colB (iblk m c 4 t) k (y 2) (⟨512 + (y 2 : ℕ), by omega⟩ : Fin 1024) rfl).trans (eW k _ j e))

theorem final21 : (dats m 0 c).arrAt 21 (cfgs 0).N = GLF X M C nw W := by
  refine (dats m 0 c).arrAt_eq_of_covers 21 _ (by decide +kernel) fun t _ y => ?_
  blk_simp
  rw [after0_21]
  refine (blk21 m c t X M C nw W eX eM eC en ew y
    (⟨t.val % 17 * 256 + (y 1 : ℕ), by have h : (y 1 : ℕ) < 256 := (y 1).isLt; omega⟩ : Fin 4352) rfl).trans ?_
  unfold GLF
  refine congr (congrArg (fun a => GLE a W) (congrArg₂ (HA X M C nw) ?_ ?_)) ?_
  · apply Fin.ext
    blk_simp [odx t, tb]
  · apply Fin.ext
    blk_simp [odx t]
  · apply Fin.ext
    blk_simp [odx t]

theorem final22 : (dats m 0 c).arrAt 22 (cfgs 0).N = MQF X M C nw W := by
  refine (dats m 0 c).arrAt_eq_of_covers 22 _ (by decide +kernel) fun t _ y => ?_
  blk_simp
  rw [after0_22]
  refine (blk22 m c t X M C nw W eX eM eC en ew y
    (⟨t.val % 17 * 256 + (y 1 : ℕ), by have h : (y 1 : ℕ) < 256 := (y 1).isLt; omega⟩ : Fin 4352) rfl).trans ?_
  unfold MQF
  refine congr (congrArg (fun a => MQE a W) (congrArg₂ (HA X M C nw) ?_ ?_)) ?_
  · apply Fin.ext
    blk_simp [odx t, tb]
  · apply Fin.ext
    blk_simp [odx t]
  · apply Fin.ext
    blk_simp [odx t]

theorem final23 : (dats m 0 c).arrAt 23 (cfgs 0).N = SOF X M C nw W := by
  refine (dats m 0 c).arrAt_eq_of_covers 23 _ (by decide +kernel) fun t _ y => ?_
  blk_simp
  rw [after0_23]
  refine (blk23 m c t X M C nw W eX eM eC en ew y
    (⟨t.val % 17 * 256 + (y 1 : ℕ), by have h : (y 1 : ℕ) < 256 := (y 1).isLt; omega⟩ : Fin 4352) rfl).trans ?_
  unfold SOF
  refine congr (congrArg (fun a => SOE a W) (congrArg₂ (HA X M C nw) ?_ ?_)) ?_
  · apply Fin.ext
    blk_simp [odx t, tb]
  · apply Fin.ext
    blk_simp [odx t]
  · apply Fin.ext
    blk_simp [odx t]

include eb

theorem blk30 (y : S1x256x3072.Idx) (l : Fin 4352) (el : (l : ℕ) = t.val % 17 * 256 + (y 1 : ℕ)) :
    out0_30 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) y
      = BGE (HA X M C nw (tb t) l) W gb (y 2) := by
  have eW : ∀ (k : Fin 1024) (j : Fin 3072) (j' : Fin 8976), (j' : ℕ) = 5904 + j → iblk m c 12 t (ix2 k j) = W (ix2 k j') := by
    subst ew; exact iblk12 m c t
  have eG : ∀ (j : Fin 3072), iblk m c 13 t (ix2 (0 : Fin 1) j) = gb (ix1 j) := by
    subst eb; exact iblk13 m c t
  unfold out0_30
  canon_tiles x h
  · exact bg_piece (HB m c t) (HA X M C nw (tb t) l) W gb (View.ld (iblk m c 12 t) r0_11) (View.ld (iblk m c 13 t) r0_36) _ x (y 2) (pay2_at (HB m c t) _ _)
      (rows m c t X M C nw eX eM eC en (x 1) l (by omega))
      (fun k j e => (col2 (iblk m c 12 t) k (x 2) (y 2) (by omega)).trans (eW k (y 2) j e)) ((bia2 (iblk m c 13 t) (x 2) (y 2) (by omega)).trans (eG _))
  · exact bg_piece (HB m c t) (HA X M C nw (tb t) l) W gb (View.ld (iblk m c 12 t) r0_9) (View.ld (iblk m c 13 t) r0_35) _ x (y 2) (pay1_at (HB m c t) _ _)
      (rows m c t X M C nw eX eM eC en (x 1) l (by omega))
      (fun k j e => (col1 (iblk m c 12 t) k (x 2) (y 2) (by omega)).trans (eW k (y 2) j e)) ((bia1 (iblk m c 13 t) (x 2) (y 2) (by omega)).trans (eG _))
  · exact bg_piece (HB m c t) (HA X M C nw (tb t) l) W gb (View.ld (iblk m c 12 t) r0_7) (View.ld (iblk m c 13 t) r0_34) _ x (y 2) (pay51_at (HB m c t) _ _)
      (rows m c t X M C nw eX eM eC en (x 1) l (by omega))
      (fun k j e => (col0 (iblk m c 12 t) k (x 2) (y 2) (by omega)).trans (eW k (y 2) j e)) ((bia0 (iblk m c 13 t) (x 2) (y 2) (by omega)).trans (eG _))

theorem final30 : (dats m 0 c).arrAt 30 (cfgs 0).N = BGF X M C nw W gb := by
  refine (dats m 0 c).arrAt_eq_of_covers 30 _ (by decide +kernel) fun t _ y => ?_
  blk_simp
  rw [after0_30]
  refine (blk30 m c t X M C nw W gb eX eM eC en ew eb y
    (⟨t.val % 17 * 256 + (y 1 : ℕ), by have h : (y 1 : ℕ) < 256 := (y 1).isLt; omega⟩ : Fin 4352) rfl).trans ?_
  unfold BGF
  refine congr (congrArg (fun a => BGE a W gb) (congrArg₂ (HA X M C nw) ?_ ?_)) ?_
  · apply Fin.ext
    blk_simp [odx t, tb]
  · apply Fin.ext
    blk_simp [odx t]
  · apply Fin.ext
    blk_simp [odx t]

end

end Cert.Kernel4Ideal.Inp

end
-- ==== Proof.InRef.lean ====
/-
  The reference of the input projection at an index.
-/
module

public import proofs.«01_k».proof.Proof.Gen.Reference4Ideal
public import proofs.«01_k».proof.Proof.FfnRef
public import proofs.«01_k».proof.Proof.Ffn3Ref

@[expose] public section

set_option maxRecDepth 16384

noncomputable section

namespace Cert.Reference4Ideal.Inp

open Idealize.ShloMosaic Idealize.ShloMosaic.TcCoe Idealize.SL.Sem
open Cert.Reference4Ideal Cert.Reference4Ideal.Gen

/-- The context tokens normalized and modulated. -/
def HC (x : FVec Ideal S8x256x1024 .f32) (C : FVec Ideal S6144 .f32) (nw : FVec Ideal S1024 .f32) : FVec Ideal S8x256x1024 .f32 :=
  addf (mulf (mulf (mulf x (broadcastInDim S8x256x1024 ![0, 1, 2] bcast_S8x256x1_S8x256x1024_0_1_2 (Cert.Reference3Ideal.Ffn.RS x)))
      (broadcastInDim S8x256x1024 ![0, 1, 2] bcast_S1x1x1024_S8x256x1024_0_1_2 (broadcastInDim S1x1x1024 ![2] bcast_S1024_S1x1x1024_2 nw)))
      (broadcastInDim S8x256x1024 ![0, 1, 2] bcast_S1x1x1024_S8x256x1024_0_1_2 (broadcastInDim S1x1x1024 ![2] bcast_S1024_S1x1x1024_2 (addf (broadcastInDim S1024 ![] bcast_S_S1024 (constant S_ .f32 0x3F800000#32)) (extractStridedSlice S1024 ![1024] C slices_S6144_S1024_1024)))))
    (broadcastInDim S8x256x1024 ![0, 1, 2] bcast_S1x1x1024_S8x256x1024_0_1_2 (broadcastInDim S1x1x1024 ![2] bcast_S1024_S1x1x1024_2 (extractStridedSlice S1024 ![0] C slices_S6144_S1024_0)))

theorem HC_at (x : FVec Ideal S8x256x1024 .f32) (C : FVec Ideal S6144 .f32) (nw : FVec Ideal S1024 .f32) (b : Fin 8) (l : Fin 256) (k : Fin 1024) :
    HC x C nw (ix3 b l k)
      = (x (ix3 b l k) : EReal) * Cert.Reference3Ideal.Ffn.RS x (ix3 b l (0 : Fin 1)) * nw (ix1 k) * (1 + C (ix1 (⟨1024 + (k : ℕ), by omega⟩ : Fin 6144)))
        + C (ix1 (⟨(k : ℕ), by omega⟩ : Fin 6144)) := by
  unfold HC
  generalize Cert.Reference3Ideal.Ffn.RS x = r
  pointwise

/-- The latent tokens normalized and modulated. -/
def HL (x : FVec Ideal S8x4096x1024 .f32) (M : FVec Ideal S8x6144 .f32) (nw : FVec Ideal S1024 .f32) : FVec Ideal S8x4096x1024 .f32 :=
  addf (mulf (mulf (mulf x (broadcastInDim S8x4096x1024 ![0, 1, 2] bcast_S8x4096x1_S8x4096x1024_0_1_2 (Cert.Reference2Ideal.Ffn.RS x)))
      (broadcastInDim S8x4096x1024 ![0, 1, 2] bcast_S1x1x1024_S8x4096x1024_0_1_2 (broadcastInDim S1x1x1024 ![2] bcast_S1024_S1x1x1024_2 nw)))
      (broadcastInDim S8x4096x1024 ![0, 1, 2] bcast_S8x1x1024_S8x4096x1024_0_1_2 (addf (broadcastInDim S8x1x1024 ![] bcast_S_S8x1x1024 (constant S_ .f32 0x3F800000#32)) (extractStridedSlice S8x1x1024 ![0, 0, 1024] (broadcastInDim S8x1x6144 ![0, 2] bcast_S8x6144_S8x1x6144_0_2 M) slices_S8x1x6144_S8x1x1024_0_0_1024))))
    (broadcastInDim S8x4096x1024 ![0, 1, 2] bcast_S8x1x1024_S8x4096x1024_0_1_2 (extractStridedSlice S8x1x1024 ![0, 0, 0] (broadcastInDim S8x1x6144 ![0, 2] bcast_S8x6144_S8x1x6144_0_2 M) slices_S8x1x6144_S8x1x1024_0_0_0))

theorem HL_at (x : FVec Ideal S8x4096x1024 .f32) (M : FVec Ideal S8x6144 .f32) (nw : FVec Ideal S1024 .f32) (b : Fin 8) (l : Fin 4096) (k : Fin 1024) :
    HL x M nw (ix3 b l k)
      = (x (ix3 b l k) : EReal) * Cert.Reference2Ideal.Ffn.RS x (ix3 b l (0 : Fin 1)) * nw (ix1 k) * (1 + M (ix2 b (⟨1024 + (k : ℕ), by omega⟩ : Fin 6144)))
        + M (ix2 b (⟨(k : ℕ), by omega⟩ : Fin 6144)) := by
  unfold HL
  generalize Cert.Reference2Ideal.Ffn.RS x = r
  pointwise

/-- The tokens of both parts, in order. -/
def HR (a : FVec Ideal S8x256x1024 .f32) (d : FVec Ideal S8x4096x1024 .f32) : FVec Ideal S8x4352x1024 .f32 :=
  concatenate S8x4352x1024 1 [⟨S8x256x1024, a⟩, ⟨S8x4096x1024, d⟩] concatenates_S8x256x1024_S8x4096x1024_S8x4352x1024_d1

theorem HR_at (a : FVec Ideal S8x256x1024 .f32) (d : FVec Ideal S8x4096x1024 .f32) (b : Fin 8) (l : Fin 4352) (n : Fin 1024) :
    HR a d (ix3 b l n) = if h : (l : ℕ) < 256 then (a (ix3 b (⟨(l : ℕ), h⟩ : Fin 256) n) : EReal) else d (ix3 b (⟨(l : ℕ) - 256, by omega⟩ : Fin 4096) n) := by
  pointwise [HR]

/-- The projection. -/
def PR (h : FVec Ideal S8x4352x1024 .f32) (w : FVec Ideal S1024x8976 .f32) : FVec Ideal S8x4352x8976 .f32 :=
  Host.dotGeneral dot_S8x4352x1024_S1024x8976_S8x4352x8976_2_0_01_1_n_n none h w

theorem PR_at (h : FVec Ideal S8x4352x1024 .f32) (w : FVec Ideal S1024x8976 .f32) (b : Fin 8) (l : Fin 4352) (c : Fin 8976) :
    PR h w (ix3 b l c) = ∑ k : Fin 1024, (h (ix3 b l k) : EReal) * w (ix2 k c) := by
  pointwise [PR]

/-- The gated linear unit's columns. -/
def GU (u : FVec Ideal S8x4352x8976 .f32) : FVec Ideal S8x4352x512 .f32 :=
  mulf (extractStridedSlice S8x4352x512 ![0, 0, 0] (extractStridedSlice S8x4352x1024 ![0, 0, 0] u slices_S8x4352x8976_S8x4352x1024_0_0_0) slices_S8x4352x1024_S8x4352x512_0_0_0) (Host.divf (broadcastInDim S8x4352x512 ![] bcast_S_S8x4352x512 (constant S_ .f32 0x3F800000#32)) (addf (broadcastInDim S8x4352x512 ![] bcast_S_S8x4352x512 (constant S_ .f32 0x3F800000#32)) (Host.exp (Host.negf (extractStridedSlice S8x4352x512 ![0, 0, 512] (extractStridedSlice S8x4352x1024 ![0, 0, 0] u slices_S8x4352x8976_S8x4352x1024_0_0_0) slices_S8x4352x1024_S8x4352x512_0_0_512)))))

theorem GU_at (u : FVec Ideal S8x4352x8976 .f32) (b : Fin 8) (l : Fin 4352) (n : Fin 512) :
    GU u (ix3 b l n) = (u (ix3 b l (⟨(n : ℕ), by omega⟩ : Fin 8976)) : EReal)
      * Ideal.div 1 (1 + Ideal.exp (-(u (ix3 b l (⟨512 + (n : ℕ), by omega⟩ : Fin 8976)) : EReal))) := by
  pointwise [GU]

/-- The recurrence's queries, keys and values. -/
def MQ (u : FVec Ideal S8x4352x8976 .f32) : FVec Ideal S8x4352x3072 .f32 :=
  concatenate S8x4352x3072 2 [⟨S8x4352x1024, (extractStridedSlice S8x4352x1024 ![0, 0, 0] (extractStridedSlice S8x4352x3072 ![0, 0, 1024] u slices_S8x4352x8976_S8x4352x3072_0_0_1024) slices_S8x4352x3072_S8x4352x1024_0_0_0)⟩, ⟨S8x4352x1024, (mulf (extractStridedSlice S8x4352x1024 ![0, 0, 1024] (extractStridedSlice S8x4352x3072 ![0, 0, 1024] u slices_S8x4352x8976_S8x4352x3072_0_0_1024) slices_S8x4352x3072_S8x4352x1024_0_0_1024) (broadcastInDim S8x4352x1024 ![] bcast_S_S8x4352x1024 (constant S_ .f32 0x3D800000#32)))⟩, ⟨S8x4352x1024, (extractStridedSlice S8x4352x1024 ![0, 0, 2048] (extractStridedSlice S8x4352x3072 ![0, 0, 1024] u slices_S8x4352x8976_S8x4352x3072_0_0_1024) slices_S8x4352x3072_S8x4352x1024_0_0_2048)⟩] concatenates_S8x4352x1024_S8x4352x1024_S8x4352x1024_S8x4352x3072_d2

theorem MQ_at (u : FVec Ideal S8x4352x8976 .f32) (b : Fin 8) (l : Fin 4352) (n : Fin 3072) (j : Fin 8976) (e : (j : ℕ) = 1024 + n) :
    MQ u (ix3 b l n) = if 1024 ≤ (n : ℕ) ∧ (n : ℕ) < 2048 then (u (ix3 b l j) : EReal) * Ideal.ofBits .f32 0x3D800000#32 else u (ix3 b l j) := by
  have at_eq : ∀ i : Fin 8976, (i : ℕ) = 1024 + n → (u (ix3 b l i) : EReal) = u (ix3 b l j) := fun i h =>
    congrArg (fun i : Fin 8976 => (u (ix3 b l i) : EReal)) (Fin.ext (h.trans e.symm))
  pointwise [MQ]
  by_cases h1 : (n : ℕ) < 1024
  · rw [dif_pos h1, if_neg (show ¬(1024 ≤ (n : ℕ) ∧ (n : ℕ) < 2048) by omega)]
    exact at_eq _ rfl
  · rw [dif_neg h1]
    by_cases h2 : (n : ℕ) - 1024 < 1024
    · rw [dif_pos h2, if_pos (show 1024 ≤ (n : ℕ) ∧ (n : ℕ) < 2048 by omega)]
      exact congrArg (fun a : EReal => a * _) (at_eq _ (by simp only; omega))
    · rw [dif_neg h2, if_neg (show ¬(1024 ≤ (n : ℕ) ∧ (n : ℕ) < 2048) by omega)]
      exact at_eq _ (by simp only; omega)

/-- The output gate's columns. -/
def SO (u : FVec Ideal S8x4352x8976 .f32) : FVec Ideal S8x4352x1024 .f32 :=
  Host.divf (broadcastInDim S8x4352x1024 ![] bcast_S_S8x4352x1024 (constant S_ .f32 0x3F800000#32)) (addf (broadcastInDim S8x4352x1024 ![] bcast_S_S8x4352x1024 (constant S_ .f32 0x3F800000#32)) (Host.exp (Host.negf (extractStridedSlice S8x4352x1024 ![0, 0, 4096] u slices_S8x4352x8976_S8x4352x1024_0_0_4096))))

theorem SO_at (u : FVec Ideal S8x4352x8976 .f32) (b : Fin 8) (l : Fin 4352) (n : Fin 1024) :
    SO u (ix3 b l n) = Ideal.div 1 (1 + Ideal.exp (-(u (ix3 b l (⟨4096 + (n : ℕ), by omega⟩ : Fin 8976)) : EReal))) := by
  pointwise [SO]

/-- The branches' gates. -/
def BG (u : FVec Ideal S8x4352x8976 .f32) (gb : FVec Ideal S3072 .f32) : FVec Ideal S8x4352x3072 .f32 :=
  Host.divf (broadcastInDim S8x4352x3072 ![] bcast_S_S8x4352x3072 (constant S_ .f32 0x3F800000#32)) (addf (broadcastInDim S8x4352x3072 ![] bcast_S_S8x4352x3072 (constant S_ .f32 0x3F800000#32)) (Host.exp (Host.negf (addf (extractStridedSlice S8x4352x3072 ![0, 0, 5904] u slices_S8x4352x8976_S8x4352x3072_0_0_5904) (broadcastInDim S8x4352x3072 ![0, 1, 2] bcast_S1x1x3072_S8x4352x3072_0_1_2 (broadcastInDim S1x1x3072 ![2] bcast_S3072_S1x1x3072_2 gb))))))

theorem BG_at (u : FVec Ideal S8x4352x8976 .f32) (gb : FVec Ideal S3072 .f32) (b : Fin 8) (l : Fin 4352) (n : Fin 3072) :
    BG u gb (ix3 b l n) = Ideal.div 1 (1 + Ideal.exp (-((u (ix3 b l (⟨5904 + (n : ℕ), by omega⟩ : Fin 8976)) : EReal) + gb (ix1 n)))) := by
  pointwise [BG]

end Cert.Reference4Ideal.Inp

end
-- ==== Proof.InValue.lean ====
/-
  The input projection's four results are the reference's.
-/
module

public import proofs.«01_k».proof.Proof.InFin
public import proofs.«01_k».proof.Proof.InRef

@[expose] public section

set_option maxRecDepth 16384

noncomputable section

namespace Cert.Kernel4Ideal.Inp

open Idealize.ShloMosaic Idealize.ShloMosaic.TcCoe Idealize.SL.Sem
open Idealize.ShloMosaic.Pipeline (Dat)
open Cert.Kernel4Ideal Cert.Kernel4Ideal.Gen
open Cert.Kernel2Ideal.Ffn (nrm)

section
variable (X : FVec Ideal S8x4352x1024 .f32) (M : FVec Ideal S8x6144 .f32) (C : FVec Ideal S6144 .f32) (nw : FVec Ideal S1024 .f32)
  (W : FVec Ideal S1024x8976 .f32) (gb : FVec Ideal S3072 .f32)

/-- The reference's tokens, normalized and modulated. -/
def HREF : FVec Ideal S8x4352x1024 .f32 :=
  Cert.Reference4Ideal.Inp.HR (Cert.Reference4Ideal.Inp.HC (Cert.Reference3Ideal.Ffn.CT X) C nw) (Cert.Reference4Ideal.Inp.HL (Cert.Reference3Ideal.Ffn.LT X) M nw)

theorem norm_eq (b : Fin 8) (l : Fin 4352) (k : Fin 1024) : HREF X M C nw (ix3 b l k) = HA X M C nw b l k := by
  refine (Cert.Reference4Ideal.Inp.HR_at _ _ b l k).trans ?_
  unfold HA
  by_cases z : (l : ℕ) < 256
  · rw [dif_pos z, if_pos z]
    refine (Cert.Reference4Ideal.Inp.HC_at _ C nw b _ k).trans ?_
    rw [Cert.Reference3Ideal.Ffn.RS_at _ b _]
    simp only [Cert.Reference3Ideal.Ffn.CT_at]
    rfl
  · rw [dif_neg z, if_neg z]
    refine (Cert.Reference4Ideal.Inp.HL_at _ M nw b _ k).trans ?_
    rw [Cert.Reference2Ideal.Ffn.RS_at _ b _]
    simp only [Cert.Reference3Ideal.Ffn.LT_at]
    have e : (⟨256 + ((l : ℕ) - 256), by omega⟩ : Fin 4352) = l := Fin.ext (by simp only; omega)
    simp only [e]
    rfl

/-- The reference's projection. -/
def PREF : FVec Ideal Cert.Reference4Ideal.S8x4352x8976 .f32 := Cert.Reference4Ideal.Inp.PR (HREF X M C nw) W

theorem proj_eq (b : Fin 8) (l : Fin 4352) (c : Fin 8976) : PREF X M C nw W (ix3 b l c) = PJ (HA X M C nw b l) W c :=
  (Cert.Reference4Ideal.Inp.PR_at _ W b l c).trans
    (Finset.sum_congr rfl fun k _ => congrArg (fun a : EReal => a * W (ix2 k c)) (norm_eq X M C nw b l k))

theorem glu_eq : GLF X M C nw W = Cert.Reference4Ideal.Inp.GU (PREF X M C nw W) := by
  funext i
  idx_vars i
  refine Eq.trans ?_ (Cert.Reference4Ideal.Inp.GU_at _ i0 i1 i2).symm
  rw [proj_eq, proj_eq]
  show GLE (HA X M C nw i0 i1) W i2 = _
  unfold GLE lgs
  rw [zero_sub]

theorem mqkv_eq : MQF X M C nw W = Cert.Reference4Ideal.Inp.MQ (PREF X M C nw W) := by
  funext i
  idx_vars i
  refine Eq.trans ?_ (Cert.Reference4Ideal.Inp.MQ_at _ i0 i1 i2 (⟨1024 + (i2 : ℕ), by omega⟩ : Fin 8976) rfl).symm
  rw [proj_eq]
  rfl

theorem sigo_eq : SOF X M C nw W = Cert.Reference4Ideal.Inp.SO (PREF X M C nw W) := by
  funext i
  idx_vars i
  refine Eq.trans ?_ (Cert.Reference4Ideal.Inp.SO_at _ i0 i1 i2).symm
  rw [proj_eq]
  show SOE (HA X M C nw i0 i1) W i2 = _
  unfold SOE lgs
  rw [zero_sub]

theorem gate_eq : BGF X M C nw W gb = Cert.Reference4Ideal.Inp.BG (PREF X M C nw W) gb := by
  funext i
  idx_vars i
  refine Eq.trans ?_ (Cert.Reference4Ideal.Inp.BG_at _ gb i0 i1 i2).symm
  rw [proj_eq]
  show BGE (HA X M C nw i0 i1) W gb i2 = _
  unfold BGE lgs
  rw [zero_sub]

end

variable (m : (ℓ : Loc nD τ sig) → Buf (Elt Ideal) ℓ)

/-- The casts after the call. -/
theorem tail_glu (σ : Valuation τ sig (Elt Ideal)) :
    StableHlo.after hostOps1 σ (Proc.devRef .tc main_v73) = (extf .f32 (σ (Proc.devRef .tc main_v72_0)) bitsLt_bf16_f32 : FVec Ideal S8x4352x512 .f32) := by
  after_results
theorem tail_mqkv (σ : Valuation τ sig (Elt Ideal)) :
    StableHlo.after hostOps1 σ (Proc.devRef .tc main_v74) = (extf .f32 (σ (Proc.devRef .tc main_v72_1)) bitsLt_bf16_f32 : FVec Ideal S8x4352x3072 .f32) := by
  after_results
theorem tail_sigo (σ : Valuation τ sig (Elt Ideal)) :
    StableHlo.after hostOps1 σ (Proc.devRef .tc main_v75) = (extf .f32 (σ (Proc.devRef .tc main_v72_2)) bitsLt_bf16_f32 : FVec Ideal S8x4352x1024 .f32) := by
  after_results
theorem tail_gate (σ : Valuation τ sig (Elt Ideal)) :
    StableHlo.after hostOps1 σ (Proc.devRef .tc main_v76) = (extf .f32 (σ (Proc.devRef .tc main_v72_9)) bitsLt_bf16_f32 : FVec Ideal S8x4352x3072 .f32) := by
  after_results

/-- What the call leaves in the arrays of its results. -/
theorem arr21 (c : Dev nD) : Pipeline.withArrays (cfgs 0).spec c (V0 m c) (fun w => (dats m 0 c).arrAt w (cfgs 0).N) (Proc.devRef .tc main_v72_0)
    = (dats m 0 c).arrAt 21 (cfgs 0).N :=
  Pipeline.withArrays_arr_shared (cfgs 0).spec c (V0 m c) (fun w => (dats m 0 c).arrAt w (cfgs 0).N)
    ((dats m 0 c).arrAt_sharedIn (by decide +kernel) (V0 m c) (fun _ => rfl) _) 21
theorem arr22 (c : Dev nD) : Pipeline.withArrays (cfgs 0).spec c (V0 m c) (fun w => (dats m 0 c).arrAt w (cfgs 0).N) (Proc.devRef .tc main_v72_1)
    = (dats m 0 c).arrAt 22 (cfgs 0).N :=
  Pipeline.withArrays_arr_shared (cfgs 0).spec c (V0 m c) (fun w => (dats m 0 c).arrAt w (cfgs 0).N)
    ((dats m 0 c).arrAt_sharedIn (by decide +kernel) (V0 m c) (fun _ => rfl) _) 22
theorem arr23 (c : Dev nD) : Pipeline.withArrays (cfgs 0).spec c (V0 m c) (fun w => (dats m 0 c).arrAt w (cfgs 0).N) (Proc.devRef .tc main_v72_2)
    = (dats m 0 c).arrAt 23 (cfgs 0).N :=
  Pipeline.withArrays_arr_shared (cfgs 0).spec c (V0 m c) (fun w => (dats m 0 c).arrAt w (cfgs 0).N)
    ((dats m 0 c).arrAt_sharedIn (by decide +kernel) (V0 m c) (fun _ => rfl) _) 23
theorem arr30 (c : Dev nD) : Pipeline.withArrays (cfgs 0).spec c (V0 m c) (fun w => (dats m 0 c).arrAt w (cfgs 0).N) (Proc.devRef .tc main_v72_9)
    = (dats m 0 c).arrAt 30 (cfgs 0).N :=
  Pipeline.withArrays_arr_shared (cfgs 0).spec c (V0 m c) (fun w => (dats m 0 c).arrAt w (cfgs 0).N)
    ((dats m 0 c).arrAt_sharedIn (by decide +kernel) (V0 m c) (fun _ => rfl) _) 30

/-- The four results as arrays of the results' type. -/
def GLO (X : FVec Ideal S8x4352x1024 .f32) (M : FVec Ideal S8x6144 .f32) (C : FVec Ideal S6144 .f32) (nw : FVec Ideal S1024 .f32)
  (W : FVec Ideal S1024x8976 .f32) : FVec Ideal S8x4352x512 .f32 := extf .f32 (GLF X M C nw W) bitsLt_bf16_f32
def MQO (X : FVec Ideal S8x4352x1024 .f32) (M : FVec Ideal S8x6144 .f32) (C : FVec Ideal S6144 .f32) (nw : FVec Ideal S1024 .f32)
  (W : FVec Ideal S1024x8976 .f32) : FVec Ideal S8x4352x3072 .f32 := extf .f32 (MQF X M C nw W) bitsLt_bf16_f32
def SOO (X : FVec Ideal S8x4352x1024 .f32) (M : FVec Ideal S8x6144 .f32) (C : FVec Ideal S6144 .f32) (nw : FVec Ideal S1024 .f32)
  (W : FVec Ideal S1024x8976 .f32) : FVec Ideal S8x4352x1024 .f32 := extf .f32 (SOF X M C nw W) bitsLt_bf16_f32
def BGO (X : FVec Ideal S8x4352x1024 .f32) (M : FVec Ideal S8x6144 .f32) (C : FVec Ideal S6144 .f32) (nw : FVec Ideal S1024 .f32)
  (W : FVec Ideal S1024x8976 .f32) (gb : FVec Ideal S3072 .f32) : FVec Ideal S8x4352x3072 .f32 := extf .f32 (BGF X M C nw W gb) bitsLt_bf16_f32

/-- What the run leaves in the four results. -/
theorem res_glu (c : Dev nD) : Pipeline.afterTail₀ cfgs (dats m) 0 (V0 m) [hostOps1] c main_v73 = GLO (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) := by
  unfold Pipeline.afterTail₀ GLO
  simp only [List.flatten_cons, List.flatten_nil, List.append_nil]
  rw [tail_glu, arr21, final21 m c _ _ _ _ _ rfl rfl rfl rfl rfl]

theorem res_mqkv (c : Dev nD) : Pipeline.afterTail₀ cfgs (dats m) 0 (V0 m) [hostOps1] c main_v74 = MQO (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) := by
  unfold Pipeline.afterTail₀ MQO
  simp only [List.flatten_cons, List.flatten_nil, List.append_nil]
  rw [tail_mqkv, arr22, final22 m c _ _ _ _ _ rfl rfl rfl rfl rfl]

theorem res_sigo (c : Dev nD) : Pipeline.afterTail₀ cfgs (dats m) 0 (V0 m) [hostOps1] c main_v75 = SOO (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) := by
  unfold Pipeline.afterTail₀ SOO
  simp only [List.flatten_cons, List.flatten_nil, List.append_nil]
  rw [tail_sigo, arr23, final23 m c _ _ _ _ _ rfl rfl rfl rfl rfl]

theorem res_gate (c : Dev nD) : Pipeline.afterTail₀ cfgs (dats m) 0 (V0 m) [hostOps1] c main_v76 = BGO (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold Pipeline.afterTail₀ BGO
  simp only [List.flatten_cons, List.flatten_nil, List.append_nil]
  rw [tail_gate, arr30, final30 m c _ _ _ _ _ _ rfl rfl rfl rfl rfl rfl]

/-- The kernel program's run: the results over the arguments, and the arguments unchanged. -/
theorem kernel_run (g : Dev nD → PrngReg) :
    θ_run (Cert.Kernel4Ideal.defs (F := Ideal)) (onTc (τ := Cert.Kernel4Ideal.τ) (Cert.Kernel4Ideal.main (F := Ideal))) ⟨m, fun _ => 0, g⟩ (fun r => ∀ c : Dev nD,
          r.2.mem ((c.tc : Thread nD τ).loc main_v73) = GLO (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))
          ∧ r.2.mem ((c.tc : Thread nD τ).loc main_v74) = MQO (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))
          ∧ r.2.mem ((c.tc : Thread nD τ).loc main_v75) = SOO (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6))
          ∧ r.2.mem ((c.tc : Thread nD τ).loc main_v76) = BGO (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4)
          ∧ r.2.mem ((c.tc : Thread nD τ).loc main_arg5) = m ((c.tc : Thread nD τ).loc main_arg5)
          ∧ r.2.mem ((c.tc : Thread nD τ).loc main_arg6) = m ((c.tc : Thread nD τ).loc main_arg6)
          ∧ r.2.mem ((c.tc : Thread nD τ).loc main_arg7) = m ((c.tc : Thread nD τ).loc main_arg7)
          ∧ r.2.mem ((c.tc : Thread nD τ).loc main_arg8) = m ((c.tc : Thread nD τ).loc main_arg8)
          ∧ r.2.mem ((c.tc : Thread nD τ).loc main_arg9) = m ((c.tc : Thread nD τ).loc main_arg9)
          ∧ r.2.mem ((c.tc : Thread nD τ).loc main_arg10) = m ((c.tc : Thread nD τ).loc main_arg10)) :=
  (θ_run defs _ _).mono (fun _ h c => ⟨((h c).2 main_v73 (Pipeline.mem_restRefs_of main_v73 (by decide) (by decide))).trans (res_glu m c),
      ((h c).2 main_v74 (Pipeline.mem_restRefs_of main_v74 (by decide) (by decide))).trans (res_mqkv m c),
      ((h c).2 main_v75 (Pipeline.mem_restRefs_of main_v75 (by decide) (by decide))).trans (res_sigo m c),
      ((h c).2 main_v76 (Pipeline.mem_restRefs_of main_v76 (by decide) (by decide))).trans (res_gate m c),
      ((h c).1 1).trans (((dats m 0 c).arrAt_in 1 rfl _).trans ((A_eq m c 1).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c)⟩) (run_main m g)

end Cert.Kernel4Ideal.Inp

end
-- ==== Proof.InRun.lean ====
/-
  The run of the input projection's reference, and the claim that the kernel program's four results are the reference's.
-/
module

public import proofs.«01_k».proof.Defs
public import proofs.«01_k».proof.Proof.InValue
public import proofs.«01_k».proof.Proof.Gen.Reference4Ideal.Run

@[expose] public section

set_option maxRecDepth 16384

noncomputable section

namespace Cert.Reference4Ideal.Inp

open Idealize.ShloMosaic Idealize.ShloMosaic.TcCoe Idealize.SL.Sem
open Cert.Reference4Ideal Cert.Reference4Ideal.Gen

/-- The reference's projection over the arrays. -/
def PA (X : FVec Ideal S8x4352x1024 .f32) (M : FVec Ideal S8x6144 .f32) (C : FVec Ideal S6144 .f32) (nw : FVec Ideal S1024 .f32)
    (W : FVec Ideal S1024x8976 .f32) : FVec Ideal S8x4352x8976 .f32 :=
  PR (HR (HC (Cert.Reference3Ideal.Ffn.CT X) C nw) (HL (Cert.Reference3Ideal.Ffn.LT X) M nw)) W

theorem reference_run (m' : (ℓ : Loc nD τ sig) → Buf (Elt Ideal) ℓ) (g' : Dev nD → PrngReg)
    (X : Dev nD → FVec Ideal S8x4352x1024 .f32) (M : Dev nD → FVec Ideal S8x6144 .f32) (C : Dev nD → FVec Ideal S6144 .f32) (nw : Dev nD → FVec Ideal S1024 .f32) (W : Dev nD → FVec Ideal S1024x8976 .f32) (gb : Dev nD → FVec Ideal S3072 .f32)
    (h0 : ∀ c : Dev nD, m' ((c.tc : Thread nD τ).loc main_arg0) = X c)
    (h3 : ∀ c : Dev nD, m' ((c.tc : Thread nD τ).loc main_arg3) = M c)
    (h4 : ∀ c : Dev nD, m' ((c.tc : Thread nD τ).loc main_arg4) = C c)
    (h5 : ∀ c : Dev nD, m' ((c.tc : Thread nD τ).loc main_arg5) = nw c)
    (h6 : ∀ c : Dev nD, m' ((c.tc : Thread nD τ).loc main_arg6) = W c)
    (h7 : ∀ c : Dev nD, m' ((c.tc : Thread nD τ).loc main_arg7) = gb c) :
    θ_run (defs (F := Ideal)) (onTc (τ := τ) (main (F := Ideal))) ⟨m', fun _ => 0, g'⟩ (fun r => ∀ c : Dev nD,
      r.2.mem ((c.tc : Thread nD τ).loc main_v76) = GU (PA (X c) (M c) (C c) (nw c) (W c))
      ∧ r.2.mem ((c.tc : Thread nD τ).loc main_v79) = MQ (PA (X c) (M c) (C c) (nw c) (W c))
      ∧ r.2.mem ((c.tc : Thread nD τ).loc main_v85) = SO (PA (X c) (M c) (C c) (nw c) (W c))
      ∧ r.2.mem ((c.tc : Thread nD τ).loc main_v94) = BG (PA (X c) (M c) (C c) (nw c) (W c)) (gb c)
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)) := by
  refine (θ_run defs _ _).mono (fun r h c => ⟨(h c).1.trans ?_, (h c).2.1.trans ?_, (h c).2.2.1.trans ?_, (h c).2.2.2.1.trans ?_, (h c).2.2.2.2⟩)
    (Cert.Reference4Ideal.Value.run (F := Ideal) m' g')
  · unfold Cert.Reference4Ideal.Value.res_main_v76
    rw [h0, h3, h4, h5, h6]
    unfold GU PA PR HR HC HL Cert.Reference3Ideal.Ffn.RS Cert.Reference3Ideal.Ffn.CT Cert.Reference3Ideal.Ffn.LT Cert.Reference2Ideal.Ffn.RS
    rfl
  · unfold Cert.Reference4Ideal.Value.res_main_v79
    rw [h0, h3, h4, h5, h6]
    unfold MQ PA PR HR HC HL Cert.Reference3Ideal.Ffn.RS Cert.Reference3Ideal.Ffn.CT Cert.Reference3Ideal.Ffn.LT Cert.Reference2Ideal.Ffn.RS
    rfl
  · rw [h0, h3, h4, h5, h6]
    unfold SO PA PR HR HC HL Cert.Reference3Ideal.Ffn.RS Cert.Reference3Ideal.Ffn.CT Cert.Reference3Ideal.Ffn.LT Cert.Reference2Ideal.Ffn.RS
    rfl
  · rw [h0, h3, h4, h5, h6, h7]
    unfold BG PA PR HR HC HL Cert.Reference3Ideal.Ffn.RS Cert.Reference3Ideal.Ffn.CT Cert.Reference3Ideal.Ffn.LT Cert.Reference2Ideal.Ffn.RS
    rfl

end Cert.Reference4Ideal.Inp

namespace Cert.Proof

open Idealize.ShloMosaic Idealize.ShloMosaic.TcCoe Idealize.SL.Sem

/-- The input projection's program and its reference end with equal results. -/
theorem in_proj : Cert.algebraic_Kernel4Ideal_Reference4Ideal (hKernel4Ideal := Cert.Kernel4Ideal.Gen.facts)
    (hReference4Ideal := Cert.Reference4Ideal.Gen.facts) := by
  intro m g m' g' _ hagree
  refine ⟨_, _, _, _, Cert.Kernel4Ideal.Inp.kernel_run m g, ?_⟩
  refine (θ_run Cert.Reference4Ideal.defs _ _).mono
    (fun r h c => ⟨(h c).1.trans ?_, (h c).2.1.trans ?_, (h c).2.2.1.trans ?_, (h c).2.2.2.1.trans ?_, (h c).2.2.2.2⟩)
    (Cert.Reference4Ideal.Inp.reference_run m' g' _ _ _ _ _ _ (fun c => (hagree c).1) (fun c => (hagree c).2.2.2.1) (fun c => (hagree c).2.2.2.2.1)
      (fun c => (hagree c).2.2.2.2.2.1) (fun c => (hagree c).2.2.2.2.2.2.1) (fun c => (hagree c).2.2.2.2.2.2.2.1))
  · exact (Cert.Kernel4Ideal.Inp.glu_eq _ _ _ _ _).symm
  · exact (Cert.Kernel4Ideal.Inp.mqkv_eq _ _ _ _ _).symm
  · exact (Cert.Kernel4Ideal.Inp.sigo_eq _ _ _ _ _).symm
  · exact (Cert.Kernel4Ideal.Inp.gate_eq _ _ _ _ _ _).symm

end Cert.Proof

end
-- ==== Proof.lean ====
module

public import proofs.«01_k».proof.Defs
public import proofs.«01_k».proof.Proof.Frames
public import proofs.«01_k».proof.Proof.Frames2
public import proofs.«01_k».proof.Proof.Frames3
public import proofs.«01_k».proof.Proof.Frames4
public import proofs.«01_k».proof.Proof.Pre
public import proofs.«01_k».proof.Proof.Value
public import proofs.«01_k».proof.Proof.FfnRun
public import proofs.«01_k».proof.Proof.Ffn3Run
public import proofs.«01_k».proof.Proof.InRun
public import Idealize.ShloMosaic.Adequacy
public import Idealize.ShloMosaic.Init

@[expose] public section

noncomputable section

namespace Cert.Proof

open Idealize.ShloMosaic Idealize.ShloMosaic.TcCoe Idealize.SL.Sem

/-- The reference's run, its result read as the attention of the queries, keys and values. -/
theorem reference_run (m' : (ℓ : Loc Cert.ReferenceIdeal.nD Cert.ReferenceIdeal.τ Cert.ReferenceIdeal.sig) → Buf (Elt Ideal) ℓ)
    (g' : Dev Cert.ReferenceIdeal.nD → PrngReg)
    (q : Dev Cert.ReferenceIdeal.nD → FVec Ideal Cert.ReferenceIdeal.S8x4096x8x64 .f32) (k v : Dev Cert.ReferenceIdeal.nD → FVec Ideal Cert.ReferenceIdeal.S8x4352x2x64 .f32)
    (hq : ∀ c : Dev Cert.ReferenceIdeal.nD, m' ((c.tc : Thread Cert.ReferenceIdeal.nD Cert.ReferenceIdeal.τ).loc Cert.ReferenceIdeal.main_arg0) = q c)
    (hk : ∀ c : Dev Cert.ReferenceIdeal.nD, m' ((c.tc : Thread Cert.ReferenceIdeal.nD Cert.ReferenceIdeal.τ).loc Cert.ReferenceIdeal.main_arg1) = k c)
    (hv : ∀ c : Dev Cert.ReferenceIdeal.nD, m' ((c.tc : Thread Cert.ReferenceIdeal.nD Cert.ReferenceIdeal.τ).loc Cert.ReferenceIdeal.main_arg2) = v c) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v18)
        = Cert.ReferenceIdeal.Attn.AV (v c) (Cert.ReferenceIdeal.Attn.EX (Cert.ReferenceIdeal.Attn.T (q c) (k c)) (Cert.ReferenceIdeal.Attn.MXR (Cert.ReferenceIdeal.Attn.T (q c) (k c))))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)) := by
  refine (θ_run Cert.ReferenceIdeal.defs _ _).mono (fun r h c => ⟨(h c).1.trans ?_, (h c).2⟩) (Cert.ReferenceIdeal.Value.run (F := Ideal) m' g')
  rw [hq, hk, hv]
  unfold Cert.ReferenceIdeal.Attn.AV Cert.ReferenceIdeal.Attn.EX Cert.ReferenceIdeal.Attn.MXR Cert.ReferenceIdeal.Attn.T
  rfl

theorem attention : Cert.algebraic_KernelIdeal_ReferenceIdeal_pre_finite_qk (hKernelIdeal := Cert.KernelIdeal.Gen.facts)
    (hReferenceIdeal := Cert.ReferenceIdeal.Gen.facts) (hPre_finite_qk := Cert.Pre_finite_qk.facts) := by
  intro m g m' g' hpre hagree
  refine ⟨_, Cert.KernelIdeal.Attn.kernel_run m g, ?_⟩
  refine (θ_run Cert.ReferenceIdeal.defs _ _).mono (fun r h c => ⟨(h c).1.trans ?_, (h c).2⟩)
    (reference_run m' g' _ _ _ (fun c => (hagree c).1) (fun c => (hagree c).2.1) (fun c => (hagree c).2.2))
  have hr := Cert.Pre_finite_qk.reals _ _ _ (hpre c)
  exact (Cert.KernelIdeal.Attn.value_eq m c _ _ _ rfl rfl rfl hr.1 hr.2).symm

/-- The claims: the frames of the four parts' programs, the idealizations' own ledgers, and the four equalities. -/
theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts, Cert.Reference4Ideal.Gen.facts, Cert.Pre_finite_qk.facts,
  kernel_frame, kernelIdeal_frame, fun m g _ => kernelIdeal_frame m g trivial, referenceIdeal_frame,
  fun m g _ => referenceIdeal_frame m g trivial, kernel2_frame, kernel2Ideal_frame, reference2Ideal_frame,
  kernel3_frame, kernel3Ideal_frame, reference3Ideal_frame, kernel4_frame, kernel4Ideal_frame, reference4Ideal_frame,
  trivial, attention, trivial, conv_mlp, trivial, first_conv_mlp, trivial, in_proj⟩

end Cert.Proof

end
